-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SbKernel (m : (ℓ : Loc Cert.SbKernel.nD Cert.SbKernel.τ Cert.SbKernel.sig) → Buf (Elt Bits) ℓ) : Prop :=
  True

def Pre_SbKernelIdeal (m : (ℓ : Loc Cert.SbKernelIdeal.nD Cert.SbKernelIdeal.τ Cert.SbKernelIdeal.sig) → Buf (Elt Ideal) ℓ) : Prop :=
  True

def Pre_SbReferenceIdeal (m : (ℓ : Loc Cert.SbReferenceIdeal.nD Cert.SbReferenceIdeal.τ Cert.SbReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FfnDecodeKernel (m : (ℓ : Loc Cert.FfnDecodeKernel.nD Cert.FfnDecodeKernel.τ Cert.FfnDecodeKernel.sig) → Buf (Elt Bits) ℓ) : Prop :=
  True

def Pre_FfnDecodeKernelIdeal (m : (ℓ : Loc Cert.FfnDecodeKernelIdeal.nD Cert.FfnDecodeKernelIdeal.τ Cert.FfnDecodeKernelIdeal.sig) → Buf (Elt Ideal) ℓ) : Prop :=
  True

def Pre_FfnDecodeReferenceIdeal (m : (ℓ : Loc Cert.FfnDecodeReferenceIdeal.nD Cert.FfnDecodeReferenceIdeal.τ Cert.FfnDecodeReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_SbKernel [hSbKernel : Cert.SbKernel.Facts] : Prop :=
  ∀ (m : (ℓ : Loc Cert.SbKernel.nD Cert.SbKernel.τ Cert.SbKernel.sig) → Buf (Elt Bits) ℓ) (g : Dev Cert.SbKernel.nD → PrngReg), Pre_SbKernel m →
    θ_run (Cert.SbKernel.defs (F := Bits)) (onTc (τ := Cert.SbKernel.τ) (Cert.SbKernel.main (F := Bits))) ⟨m, fun _ => 0, g⟩ (fun r => (∀ c : Dev Cert.SbKernel.nD,
      r.2.mem ((c.tc : Thread Cert.SbKernel.nD Cert.SbKernel.τ).loc Cert.SbKernel.main_arg0) = m ((c.tc : Thread Cert.SbKernel.nD Cert.SbKernel.τ).loc Cert.SbKernel.main_arg0)
      ∧ r.2.mem ((c.tc : Thread Cert.SbKernel.nD Cert.SbKernel.τ).loc Cert.SbKernel.main_arg1) = m ((c.tc : Thread Cert.SbKernel.nD Cert.SbKernel.τ).loc Cert.SbKernel.main_arg1))
      ∧ r.2.sem = fun _ => 0)

def quiescent_SbKernelIdeal [hSbKernelIdeal : Cert.SbKernelIdeal.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
      ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1))
      ∧ r.2.sem = fun _ => 0)

def quiescent_SbReferenceIdeal [hSbReferenceIdeal : Cert.SbReferenceIdeal.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_FfnDecodeKernel [hFfnDecodeKernel : Cert.FfnDecodeKernel.Facts] : Prop :=
  ∀ (m : (ℓ : Loc Cert.FfnDecodeKernel.nD Cert.FfnDecodeKernel.τ Cert.FfnDecodeKernel.sig) → Buf (Elt Bits) ℓ) (g : Dev Cert.FfnDecodeKernel.nD → PrngReg), Pre_FfnDecodeKernel m →
    θ_run (Cert.FfnDecodeKernel.defs (F := Bits)) (onTc (τ := Cert.FfnDecodeKernel.τ) (Cert.FfnDecodeKernel.main (F := Bits))) ⟨m, fun _ => 0, g⟩ (fun r => (∀ c : Dev Cert.FfnDecodeKernel.nD,
      r.2.mem ((c.tc : Thread Cert.FfnDecodeKernel.nD Cert.FfnDecodeKernel.τ).loc Cert.FfnDecodeKernel.main_arg0) = m ((c.tc : Thread Cert.FfnDecodeKernel.nD Cert.FfnDecodeKernel.τ).loc Cert.FfnDecodeKernel.main_arg0)
      ∧ r.2.mem ((c.tc : Thread Cert.FfnDecodeKernel.nD Cert.FfnDecodeKernel.τ).loc Cert.FfnDecodeKernel.main_arg1) = m ((c.tc : Thread Cert.FfnDecodeKernel.nD Cert.FfnDecodeKernel.τ).loc Cert.FfnDecodeKernel.main_arg1)
      ∧ r.2.mem ((c.tc : Thread Cert.FfnDecodeKernel.nD Cert.FfnDecodeKernel.τ).loc Cert.FfnDecodeKernel.main_arg2) = m ((c.tc : Thread Cert.FfnDecodeKernel.nD Cert.FfnDecodeKernel.τ).loc Cert.FfnDecodeKernel.main_arg2)
      ∧ r.2.mem ((c.tc : Thread Cert.FfnDecodeKernel.nD Cert.FfnDecodeKernel.τ).loc Cert.FfnDecodeKernel.main_arg3) = m ((c.tc : Thread Cert.FfnDecodeKernel.nD Cert.FfnDecodeKernel.τ).loc Cert.FfnDecodeKernel.main_arg3)
      ∧ r.2.mem ((c.tc : Thread Cert.FfnDecodeKernel.nD Cert.FfnDecodeKernel.τ).loc Cert.FfnDecodeKernel.main_arg4) = m ((c.tc : Thread Cert.FfnDecodeKernel.nD Cert.FfnDecodeKernel.τ).loc Cert.FfnDecodeKernel.main_arg4)
      ∧ r.2.mem ((c.tc : Thread Cert.FfnDecodeKernel.nD Cert.FfnDecodeKernel.τ).loc Cert.FfnDecodeKernel.main_arg5) = m ((c.tc : Thread Cert.FfnDecodeKernel.nD Cert.FfnDecodeKernel.τ).loc Cert.FfnDecodeKernel.main_arg5)
      ∧ r.2.mem ((c.tc : Thread Cert.FfnDecodeKernel.nD Cert.FfnDecodeKernel.τ).loc Cert.FfnDecodeKernel.main_arg6) = m ((c.tc : Thread Cert.FfnDecodeKernel.nD Cert.FfnDecodeKernel.τ).loc Cert.FfnDecodeKernel.main_arg6))
      ∧ r.2.sem = fun _ => 0)

def quiescent_FfnDecodeKernelIdeal [hFfnDecodeKernelIdeal : Cert.FfnDecodeKernelIdeal.Facts] : Prop :=
  ∀ (m : (ℓ : Loc Cert.FfnDecodeKernelIdeal.nD Cert.FfnDecodeKernelIdeal.τ Cert.FfnDecodeKernelIdeal.sig) → Buf (Elt Ideal) ℓ) (g : Dev Cert.FfnDecodeKernelIdeal.nD → PrngReg), Pre_FfnDecodeKernelIdeal m →
    θ_run (Cert.FfnDecodeKernelIdeal.defs (F := Ideal)) (onTc (τ := Cert.FfnDecodeKernelIdeal.τ) (Cert.FfnDecodeKernelIdeal.main (F := Ideal))) ⟨m, fun _ => 0, g⟩ (fun r => (∀ c : Dev Cert.FfnDecodeKernelIdeal.nD,
      r.2.mem ((c.tc : Thread Cert.FfnDecodeKernelIdeal.nD Cert.FfnDecodeKernelIdeal.τ).loc Cert.FfnDecodeKernelIdeal.main_arg0) = m ((c.tc : Thread Cert.FfnDecodeKernelIdeal.nD Cert.FfnDecodeKernelIdeal.τ).loc Cert.FfnDecodeKernelIdeal.main_arg0)
      ∧ r.2.mem ((c.tc : Thread Cert.FfnDecodeKernelIdeal.nD Cert.FfnDecodeKernelIdeal.τ).loc Cert.FfnDecodeKernelIdeal.main_arg1) = m ((c.tc : Thread Cert.FfnDecodeKernelIdeal.nD Cert.FfnDecodeKernelIdeal.τ).loc Cert.FfnDecodeKernelIdeal.main_arg1)
      ∧ r.2.mem ((c.tc : Thread Cert.FfnDecodeKernelIdeal.nD Cert.FfnDecodeKernelIdeal.τ).loc Cert.FfnDecodeKernelIdeal.main_arg2) = m ((c.tc : Thread Cert.FfnDecodeKernelIdeal.nD Cert.FfnDecodeKernelIdeal.τ).loc Cert.FfnDecodeKernelIdeal.main_arg2)
      ∧ r.2.mem ((c.tc : Thread Cert.FfnDecodeKernelIdeal.nD Cert.FfnDecodeKernelIdeal.τ).loc Cert.FfnDecodeKernelIdeal.main_arg3) = m ((c.tc : Thread Cert.FfnDecodeKernelIdeal.nD Cert.FfnDecodeKernelIdeal.τ).loc Cert.FfnDecodeKernelIdeal.main_arg3)
      ∧ r.2.mem ((c.tc : Thread Cert.FfnDecodeKernelIdeal.nD Cert.FfnDecodeKernelIdeal.τ).loc Cert.FfnDecodeKernelIdeal.main_arg4) = m ((c.tc : Thread Cert.FfnDecodeKernelIdeal.nD Cert.FfnDecodeKernelIdeal.τ).loc Cert.FfnDecodeKernelIdeal.main_arg4)
      ∧ r.2.mem ((c.tc : Thread Cert.FfnDecodeKernelIdeal.nD Cert.FfnDecodeKernelIdeal.τ).loc Cert.FfnDecodeKernelIdeal.main_arg5) = m ((c.tc : Thread Cert.FfnDecodeKernelIdeal.nD Cert.FfnDecodeKernelIdeal.τ).loc Cert.FfnDecodeKernelIdeal.main_arg5)
      ∧ r.2.mem ((c.tc : Thread Cert.FfnDecodeKernelIdeal.nD Cert.FfnDecodeKernelIdeal.τ).loc Cert.FfnDecodeKernelIdeal.main_arg6) = m ((c.tc : Thread Cert.FfnDecodeKernelIdeal.nD Cert.FfnDecodeKernelIdeal.τ).loc Cert.FfnDecodeKernelIdeal.main_arg6))
      ∧ r.2.sem = fun _ => 0)

def quiescent_FfnDecodeReferenceIdeal [hFfnDecodeReferenceIdeal : Cert.FfnDecodeReferenceIdeal.Facts] : Prop :=
  ∀ (m : (ℓ : Loc Cert.FfnDecodeReferenceIdeal.nD Cert.FfnDecodeReferenceIdeal.τ Cert.FfnDecodeReferenceIdeal.sig) → Buf (Elt Ideal) ℓ) (g : Dev Cert.FfnDecodeReferenceIdeal.nD → PrngReg), Pre_FfnDecodeReferenceIdeal m →
    θ_run (Cert.FfnDecodeReferenceIdeal.defs (F := Ideal)) (onTc (τ := Cert.FfnDecodeReferenceIdeal.τ) (Cert.FfnDecodeReferenceIdeal.main (F := Ideal))) ⟨m, fun _ => 0, g⟩ (fun r => (∀ c : Dev Cert.FfnDecodeReferenceIdeal.nD,
      r.2.mem ((c.tc : Thread Cert.FfnDecodeReferenceIdeal.nD Cert.FfnDecodeReferenceIdeal.τ).loc Cert.FfnDecodeReferenceIdeal.main_arg0) = m ((c.tc : Thread Cert.FfnDecodeReferenceIdeal.nD Cert.FfnDecodeReferenceIdeal.τ).loc Cert.FfnDecodeReferenceIdeal.main_arg0)
      ∧ r.2.mem ((c.tc : Thread Cert.FfnDecodeReferenceIdeal.nD Cert.FfnDecodeReferenceIdeal.τ).loc Cert.FfnDecodeReferenceIdeal.main_arg1) = m ((c.tc : Thread Cert.FfnDecodeReferenceIdeal.nD Cert.FfnDecodeReferenceIdeal.τ).loc Cert.FfnDecodeReferenceIdeal.main_arg1)
      ∧ r.2.mem ((c.tc : Thread Cert.FfnDecodeReferenceIdeal.nD Cert.FfnDecodeReferenceIdeal.τ).loc Cert.FfnDecodeReferenceIdeal.main_arg2) = m ((c.tc : Thread Cert.FfnDecodeReferenceIdeal.nD Cert.FfnDecodeReferenceIdeal.τ).loc Cert.FfnDecodeReferenceIdeal.main_arg2)
      ∧ r.2.mem ((c.tc : Thread Cert.FfnDecodeReferenceIdeal.nD Cert.FfnDecodeReferenceIdeal.τ).loc Cert.FfnDecodeReferenceIdeal.main_arg3) = m ((c.tc : Thread Cert.FfnDecodeReferenceIdeal.nD Cert.FfnDecodeReferenceIdeal.τ).loc Cert.FfnDecodeReferenceIdeal.main_arg3)
      ∧ r.2.mem ((c.tc : Thread Cert.FfnDecodeReferenceIdeal.nD Cert.FfnDecodeReferenceIdeal.τ).loc Cert.FfnDecodeReferenceIdeal.main_arg4) = m ((c.tc : Thread Cert.FfnDecodeReferenceIdeal.nD Cert.FfnDecodeReferenceIdeal.τ).loc Cert.FfnDecodeReferenceIdeal.main_arg4)
      ∧ r.2.mem ((c.tc : Thread Cert.FfnDecodeReferenceIdeal.nD Cert.FfnDecodeReferenceIdeal.τ).loc Cert.FfnDecodeReferenceIdeal.main_arg5) = m ((c.tc : Thread Cert.FfnDecodeReferenceIdeal.nD Cert.FfnDecodeReferenceIdeal.τ).loc Cert.FfnDecodeReferenceIdeal.main_arg5)
      ∧ r.2.mem ((c.tc : Thread Cert.FfnDecodeReferenceIdeal.nD Cert.FfnDecodeReferenceIdeal.τ).loc Cert.FfnDecodeReferenceIdeal.main_arg6) = m ((c.tc : Thread Cert.FfnDecodeReferenceIdeal.nD Cert.FfnDecodeReferenceIdeal.τ).loc Cert.FfnDecodeReferenceIdeal.main_arg6))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8)
      ∧ r.2.mem ((c.tc : Thread Cert.MergeKernel.nD Cert.MergeKernel.τ).loc Cert.MergeKernel.main_arg9) = m ((c.tc : Thread Cert.MergeKernel.nD Cert.MergeKernel.τ).loc Cert.MergeKernel.main_arg9)
      ∧ r.2.mem ((c.tc : Thread Cert.MergeKernel.nD Cert.MergeKernel.τ).loc Cert.MergeKernel.main_arg10) = m ((c.tc : Thread Cert.MergeKernel.nD Cert.MergeKernel.τ).loc Cert.MergeKernel.main_arg10))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
      ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_SbKernel_SbKernelIdeal : Prop :=
  True

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)) →
    ∃ (v0 : (c : Dev Cert.FfnKernelIdeal.nD) → Buf (Elt Ideal) ((c.tc : Thread Cert.FfnKernelIdeal.nD Cert.FfnKernelIdeal.τ).loc Cert.FfnKernelIdeal.main_v5)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v5) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v46) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_FfnDecodeKernel_FfnDecodeKernelIdeal : Prop :=
  True

def algebraic_FfnDecodeKernelIdeal_FfnDecodeReferenceIdeal [hFfnDecodeKernelIdeal : Cert.FfnDecodeKernelIdeal.Facts] [hFfnDecodeReferenceIdeal : Cert.FfnDecodeReferenceIdeal.Facts] : Prop :=
  ∀ (m : (ℓ : Loc Cert.FfnDecodeKernelIdeal.nD Cert.FfnDecodeKernelIdeal.τ Cert.FfnDecodeKernelIdeal.sig) → Buf (Elt Ideal) ℓ) (g : Dev Cert.FfnDecodeKernelIdeal.nD → PrngReg)
    (m' : (ℓ : Loc Cert.FfnDecodeReferenceIdeal.nD Cert.FfnDecodeReferenceIdeal.τ Cert.FfnDecodeReferenceIdeal.sig) → Buf (Elt Ideal) ℓ) (g' : Dev Cert.FfnDecodeReferenceIdeal.nD → PrngReg), Pre_FfnDecodeKernelIdeal m →
    (∀ c : Dev Cert.FfnDecodeKernelIdeal.nD,
      m' ((c.tc : Thread Cert.FfnDecodeReferenceIdeal.nD Cert.FfnDecodeReferenceIdeal.τ).loc Cert.FfnDecodeReferenceIdeal.main_arg0) = m ((c.tc : Thread Cert.FfnDecodeKernelIdeal.nD Cert.FfnDecodeKernelIdeal.τ).loc Cert.FfnDecodeKernelIdeal.main_arg0)
      ∧ m' ((c.tc : Thread Cert.FfnDecodeReferenceIdeal.nD Cert.FfnDecodeReferenceIdeal.τ).loc Cert.FfnDecodeReferenceIdeal.main_arg1) = m ((c.tc : Thread Cert.FfnDecodeKernelIdeal.nD Cert.FfnDecodeKernelIdeal.τ).loc Cert.FfnDecodeKernelIdeal.main_arg1)
      ∧ m' ((c.tc : Thread Cert.FfnDecodeReferenceIdeal.nD Cert.FfnDecodeReferenceIdeal.τ).loc Cert.FfnDecodeReferenceIdeal.main_arg2) = m ((c.tc : Thread Cert.FfnDecodeKernelIdeal.nD Cert.FfnDecodeKernelIdeal.τ).loc Cert.FfnDecodeKernelIdeal.main_arg2)
      ∧ m' ((c.tc : Thread Cert.FfnDecodeReferenceIdeal.nD Cert.FfnDecodeReferenceIdeal.τ).loc Cert.FfnDecodeReferenceIdeal.main_arg3) = m ((c.tc : Thread Cert.FfnDecodeKernelIdeal.nD Cert.FfnDecodeKernelIdeal.τ).loc Cert.FfnDecodeKernelIdeal.main_arg3)
      ∧ m' ((c.tc : Thread Cert.FfnDecodeReferenceIdeal.nD Cert.FfnDecodeReferenceIdeal.τ).loc Cert.FfnDecodeReferenceIdeal.main_arg4) = m ((c.tc : Thread Cert.FfnDecodeKernelIdeal.nD Cert.FfnDecodeKernelIdeal.τ).loc Cert.FfnDecodeKernelIdeal.main_arg4)
      ∧ m' ((c.tc : Thread Cert.FfnDecodeReferenceIdeal.nD Cert.FfnDecodeReferenceIdeal.τ).loc Cert.FfnDecodeReferenceIdeal.main_arg5) = m ((c.tc : Thread Cert.FfnDecodeKernelIdeal.nD Cert.FfnDecodeKernelIdeal.τ).loc Cert.FfnDecodeKernelIdeal.main_arg5)
      ∧ m' ((c.tc : Thread Cert.FfnDecodeReferenceIdeal.nD Cert.FfnDecodeReferenceIdeal.τ).loc Cert.FfnDecodeReferenceIdeal.main_arg6) = m ((c.tc : Thread Cert.FfnDecodeKernelIdeal.nD Cert.FfnDecodeKernelIdeal.τ).loc Cert.FfnDecodeKernelIdeal.main_arg6)) →
    ∃ (v0 : (c : Dev Cert.FfnDecodeKernelIdeal.nD) → Buf (Elt Ideal) ((c.tc : Thread Cert.FfnDecodeKernelIdeal.nD Cert.FfnDecodeKernelIdeal.τ).loc Cert.FfnDecodeKernelIdeal.main_v10)),
      θ_run (Cert.FfnDecodeKernelIdeal.defs (F := Ideal)) (onTc (τ := Cert.FfnDecodeKernelIdeal.τ) (Cert.FfnDecodeKernelIdeal.main (F := Ideal))) ⟨m, fun _ => 0, g⟩ (fun r => ∀ c : Dev Cert.FfnDecodeKernelIdeal.nD,
          r.2.mem ((c.tc : Thread Cert.FfnDecodeKernelIdeal.nD Cert.FfnDecodeKernelIdeal.τ).loc Cert.FfnDecodeKernelIdeal.main_v10) = v0 c
          ∧ r.2.mem ((c.tc : Thread Cert.FfnDecodeKernelIdeal.nD Cert.FfnDecodeKernelIdeal.τ).loc Cert.FfnDecodeKernelIdeal.main_arg0) = m ((c.tc : Thread Cert.FfnDecodeKernelIdeal.nD Cert.FfnDecodeKernelIdeal.τ).loc Cert.FfnDecodeKernelIdeal.main_arg0)
          ∧ r.2.mem ((c.tc : Thread Cert.FfnDecodeKernelIdeal.nD Cert.FfnDecodeKernelIdeal.τ).loc Cert.FfnDecodeKernelIdeal.main_arg1) = m ((c.tc : Thread Cert.FfnDecodeKernelIdeal.nD Cert.FfnDecodeKernelIdeal.τ).loc Cert.FfnDecodeKernelIdeal.main_arg1)
          ∧ r.2.mem ((c.tc : Thread Cert.FfnDecodeKernelIdeal.nD Cert.FfnDecodeKernelIdeal.τ).loc Cert.FfnDecodeKernelIdeal.main_arg2) = m ((c.tc : Thread Cert.FfnDecodeKernelIdeal.nD Cert.FfnDecodeKernelIdeal.τ).loc Cert.FfnDecodeKernelIdeal.main_arg2)
          ∧ r.2.mem ((c.tc : Thread Cert.FfnDecodeKernelIdeal.nD Cert.FfnDecodeKernelIdeal.τ).loc Cert.FfnDecodeKernelIdeal.main_arg3) = m ((c.tc : Thread Cert.FfnDecodeKernelIdeal.nD Cert.FfnDecodeKernelIdeal.τ).loc Cert.FfnDecodeKernelIdeal.main_arg3)
          ∧ r.2.mem ((c.tc : Thread Cert.FfnDecodeKernelIdeal.nD Cert.FfnDecodeKernelIdeal.τ).loc Cert.FfnDecodeKernelIdeal.main_arg4) = m ((c.tc : Thread Cert.FfnDecodeKernelIdeal.nD Cert.FfnDecodeKernelIdeal.τ).loc Cert.FfnDecodeKernelIdeal.main_arg4)
          ∧ r.2.mem ((c.tc : Thread Cert.FfnDecodeKernelIdeal.nD Cert.FfnDecodeKernelIdeal.τ).loc Cert.FfnDecodeKernelIdeal.main_arg5) = m ((c.tc : Thread Cert.FfnDecodeKernelIdeal.nD Cert.FfnDecodeKernelIdeal.τ).loc Cert.FfnDecodeKernelIdeal.main_arg5)
          ∧ r.2.mem ((c.tc : Thread Cert.FfnDecodeKernelIdeal.nD Cert.FfnDecodeKernelIdeal.τ).loc Cert.FfnDecodeKernelIdeal.main_arg6) = m ((c.tc : Thread Cert.FfnDecodeKernelIdeal.nD Cert.FfnDecodeKernelIdeal.τ).loc Cert.FfnDecodeKernelIdeal.main_arg6))
      ∧ θ_run (Cert.FfnDecodeReferenceIdeal.defs (F := Ideal)) (onTc (τ := Cert.FfnDecodeReferenceIdeal.τ) (Cert.FfnDecodeReferenceIdeal.main (F := Ideal))) ⟨m', fun _ => 0, g'⟩ (fun r => ∀ c : Dev Cert.FfnDecodeReferenceIdeal.nD,
          r.2.mem ((c.tc : Thread Cert.FfnDecodeReferenceIdeal.nD Cert.FfnDecodeReferenceIdeal.τ).loc Cert.FfnDecodeReferenceIdeal.main_v46) = v0 c
          ∧ r.2.mem ((c.tc : Thread Cert.FfnDecodeReferenceIdeal.nD Cert.FfnDecodeReferenceIdeal.τ).loc Cert.FfnDecodeReferenceIdeal.main_arg0) = m' ((c.tc : Thread Cert.FfnDecodeReferenceIdeal.nD Cert.FfnDecodeReferenceIdeal.τ).loc Cert.FfnDecodeReferenceIdeal.main_arg0)
          ∧ r.2.mem ((c.tc : Thread Cert.FfnDecodeReferenceIdeal.nD Cert.FfnDecodeReferenceIdeal.τ).loc Cert.FfnDecodeReferenceIdeal.main_arg1) = m' ((c.tc : Thread Cert.FfnDecodeReferenceIdeal.nD Cert.FfnDecodeReferenceIdeal.τ).loc Cert.FfnDecodeReferenceIdeal.main_arg1)
          ∧ r.2.mem ((c.tc : Thread Cert.FfnDecodeReferenceIdeal.nD Cert.FfnDecodeReferenceIdeal.τ).loc Cert.FfnDecodeReferenceIdeal.main_arg2) = m' ((c.tc : Thread Cert.FfnDecodeReferenceIdeal.nD Cert.FfnDecodeReferenceIdeal.τ).loc Cert.FfnDecodeReferenceIdeal.main_arg2)
          ∧ r.2.mem ((c.tc : Thread Cert.FfnDecodeReferenceIdeal.nD Cert.FfnDecodeReferenceIdeal.τ).loc Cert.FfnDecodeReferenceIdeal.main_arg3) = m' ((c.tc : Thread Cert.FfnDecodeReferenceIdeal.nD Cert.FfnDecodeReferenceIdeal.τ).loc Cert.FfnDecodeReferenceIdeal.main_arg3)
          ∧ r.2.mem ((c.tc : Thread Cert.FfnDecodeReferenceIdeal.nD Cert.FfnDecodeReferenceIdeal.τ).loc Cert.FfnDecodeReferenceIdeal.main_arg4) = m' ((c.tc : Thread Cert.FfnDecodeReferenceIdeal.nD Cert.FfnDecodeReferenceIdeal.τ).loc Cert.FfnDecodeReferenceIdeal.main_arg4)
          ∧ r.2.mem ((c.tc : Thread Cert.FfnDecodeReferenceIdeal.nD Cert.FfnDecodeReferenceIdeal.τ).loc Cert.FfnDecodeReferenceIdeal.main_arg5) = m' ((c.tc : Thread Cert.FfnDecodeReferenceIdeal.nD Cert.FfnDecodeReferenceIdeal.τ).loc Cert.FfnDecodeReferenceIdeal.main_arg5)
          ∧ r.2.mem ((c.tc : Thread Cert.FfnDecodeReferenceIdeal.nD Cert.FfnDecodeReferenceIdeal.τ).loc Cert.FfnDecodeReferenceIdeal.main_arg6) = m' ((c.tc : Thread Cert.FfnDecodeReferenceIdeal.nD Cert.FfnDecodeReferenceIdeal.τ).loc Cert.FfnDecodeReferenceIdeal.main_arg6))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)
      ∧ m' ((c.tc : Thread Cert.MergeReferenceIdeal.nD Cert.MergeReferenceIdeal.τ).loc Cert.MergeReferenceIdeal.main_arg9) = m ((c.tc : Thread Cert.MergeKernelIdeal.nD Cert.MergeKernelIdeal.τ).loc Cert.MergeKernelIdeal.main_arg9)
      ∧ m' ((c.tc : Thread Cert.MergeReferenceIdeal.nD Cert.MergeReferenceIdeal.τ).loc Cert.MergeReferenceIdeal.main_arg10) = m ((c.tc : Thread Cert.MergeKernelIdeal.nD Cert.MergeKernelIdeal.τ).loc Cert.MergeKernelIdeal.main_arg10)) →
    ∃ (v0 : (c : Dev Cert.MergeKernelIdeal.nD) → Buf (Elt Ideal) ((c.tc : Thread Cert.MergeKernelIdeal.nD Cert.MergeKernelIdeal.τ).loc Cert.MergeKernelIdeal.main_v25)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v25) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
          ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
          ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v59) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10))

def Claim : Prop :=
  ∃ (hKernel : Cert.Kernel.Facts) (hKernelIdeal : Cert.KernelIdeal.Facts) (hReferenceIdeal : Cert.ReferenceIdeal.Facts) (hSbKernel : Cert.SbKernel.Facts) (hSbKernelIdeal : Cert.SbKernelIdeal.Facts) (hSbReferenceIdeal : Cert.SbReferenceIdeal.Facts) (hFfnKernel : Cert.FfnKernel.Facts) (hFfnKernelIdeal : Cert.FfnKernelIdeal.Facts) (hFfnReferenceIdeal : Cert.FfnReferenceIdeal.Facts) (hFfnDecodeKernel : Cert.FfnDecodeKernel.Facts) (hFfnDecodeKernelIdeal : Cert.FfnDecodeKernelIdeal.Facts) (hFfnDecodeReferenceIdeal : Cert.FfnDecodeReferenceIdeal.Facts) (hMergeKernel : Cert.MergeKernel.Facts) (hMergeKernelIdeal : Cert.MergeKernelIdeal.Facts) (hMergeReferenceIdeal : Cert.MergeReferenceIdeal.Facts),
    quiescent_Kernel (hKernel := hKernel)
    ∧ quiescent_KernelIdeal (hKernelIdeal := hKernelIdeal)
    ∧ quiescent_ReferenceIdeal (hReferenceIdeal := hReferenceIdeal)
    ∧ quiescent_SbKernel (hSbKernel := hSbKernel)
    ∧ quiescent_SbKernelIdeal (hSbKernelIdeal := hSbKernelIdeal)
    ∧ quiescent_SbReferenceIdeal (hSbReferenceIdeal := hSbReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_FfnDecodeKernel (hFfnDecodeKernel := hFfnDecodeKernel)
    ∧ quiescent_FfnDecodeKernelIdeal (hFfnDecodeKernelIdeal := hFfnDecodeKernelIdeal)
    ∧ quiescent_FfnDecodeReferenceIdeal (hFfnDecodeReferenceIdeal := hFfnDecodeReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ preserves_Kernel_KernelIdeal
    ∧ algebraic_KernelIdeal_ReferenceIdeal (hKernelIdeal := hKernelIdeal) (hReferenceIdeal := hReferenceIdeal)
    ∧ preserves_SbKernel_SbKernelIdeal
    ∧ preserves_FfnKernel_FfnKernelIdeal
    ∧ algebraic_FfnKernelIdeal_FfnReferenceIdeal (hFfnKernelIdeal := hFfnKernelIdeal) (hFfnReferenceIdeal := hFfnReferenceIdeal)
    ∧ preserves_FfnDecodeKernel_FfnDecodeKernelIdeal
    ∧ algebraic_FfnDecodeKernelIdeal_FfnDecodeReferenceIdeal (hFfnDecodeKernelIdeal := hFfnDecodeKernelIdeal) (hFfnDecodeReferenceIdeal := hFfnDecodeReferenceIdeal)
    ∧ preserves_MergeKernel_MergeKernelIdeal
    ∧ algebraic_MergeKernelIdeal_MergeReferenceIdeal (hMergeKernelIdeal := hMergeKernelIdeal) (hMergeReferenceIdeal := hMergeReferenceIdeal)
-- ==== Kernel.lean ====
abbrev S2x8192x4x128 : Shape := ⟨4, ![2, 8192, 4, 128]⟩
abbrev S2x8192x4x32 : Shape := ⟨4, ![2, 8192, 4, 32]⟩
abbrev S2x8192x160 : Shape := ⟨3, ![2, 8192, 160]⟩
abbrev S128x4x64 : Shape := ⟨3, ![128, 4, 64]⟩
abbrev S_ : Shape := ⟨0, ![]⟩
abbrev S2x8192x4x256 : Shape := ⟨4, ![2, 8192, 4, 256]⟩
abbrev S2x8192x1024 : Shape := ⟨3, ![2, 8192, 1024]⟩
abbrev S2x8192x95 : Shape := ⟨3, ![2, 8192, 95]⟩
abbrev S2x8192x1 : Shape := ⟨3, ![2, 8192, 1]⟩
abbrev S2x8192x256 : Shape := ⟨3, ![2, 8192, 256]⟩
abbrev S4x128x64 : Shape := ⟨3, ![4, 128, 64]⟩
abbrev S4x128x128 : Shape := ⟨3, ![4, 128, 128]⟩
abbrev S2x8192x512 : Shape := ⟨3, ![2, 8192, 512]⟩
abbrev S1x256x1024 : Shape := ⟨3, ![1, 256, 1024]⟩
abbrev S1x8192x256 : Shape := ⟨3, ![1, 8192, 256]⟩
abbrev S1x256x512 : Shape := ⟨3, ![1, 256, 512]⟩
abbrev S1024x128 : Shape := ⟨2, ![1024, 128]⟩
abbrev S1024x256 : Shape := ⟨2, ![1024, 256]⟩
abbrev S1x256x256 : Shape := ⟨3, ![1, 256, 256]⟩
abbrev S256x256 : Shape := ⟨2, ![256, 256]⟩
abbrev S1024 : Shape := ⟨1, ![1024]⟩
abbrev S1024x1 : Shape := ⟨2, ![1024, 1]⟩
abbrev S256x128 : Shape := ⟨2, ![256, 128]⟩
abbrev S1x128x128 : Shape := ⟨3, ![1, 128, 128]⟩
abbrev S128x128 : Shape := ⟨2, ![128, 128]⟩
abbrev S1x256x128 : Shape := ⟨3, ![1, 256, 128]⟩
abbrev S2x8192x4x64 : Shape := ⟨4, ![2, 8192, 4, 64]⟩

abbrev nBuf : Space → Nat
  | .hbm => 28
  | .vmem => 9
  | .smem => 0
  | _ => 0

abbrev bufTy : (tb : Table) → Fin (tcTables nBuf tb) → BufTy
  | .hbm, ⟨0, _⟩ => ⟨S2x8192x4x128, .f32⟩
  | .hbm, ⟨1, _⟩ => ⟨S2x8192x4x32, .f32⟩
  | .hbm, ⟨2, _⟩ => ⟨S2x8192x160, .f32⟩
  | .hbm, ⟨3, _⟩ => ⟨S128x4x64, .f32⟩
  | .hbm, ⟨4, _⟩ => ⟨S_, .i32⟩
  | .hbm, ⟨5, _⟩ => ⟨S_, .f32⟩
  | .hbm, ⟨6, _⟩ => ⟨S2x8192x4x128, .f32⟩
  | .hbm, ⟨7, _⟩ => ⟨S2x8192x4x256, .f32⟩
  | .hbm, ⟨8, _⟩ => ⟨S2x8192x1024, .f32⟩
  | .hbm, ⟨9, _⟩ => ⟨S_, .f32⟩
  | .hbm, ⟨10, _⟩ => ⟨S2x8192x1024, .f32⟩
  | .hbm, ⟨11, _⟩ => ⟨S2x8192x1024, .f32⟩
  | .hbm, ⟨12, _⟩ => ⟨S2x8192x1024, .bf16⟩
  | .hbm, ⟨13, _⟩ => ⟨S_, .f32⟩
  | .hbm, ⟨14, _⟩ => ⟨S2x8192x95, .f32⟩
  | .hbm, ⟨15, _⟩ => ⟨S_, .f32⟩
  | .hbm, ⟨16, _⟩ => ⟨S2x8192x1, .f32⟩
  | .hbm, ⟨17, _⟩ => ⟨S2x8192x256, .f32⟩
  | .hbm, ⟨18, _⟩ => ⟨S2x8192x256, .bf16⟩
  | .hbm, ⟨19, _⟩ => ⟨S4x128x64, .f32⟩
  | .hbm, ⟨20, _⟩ => ⟨S_, .i32⟩
  | .hbm, ⟨21, _⟩ => ⟨S_, .f32⟩
  | .hbm, ⟨22, _⟩ => ⟨S4x128x128, .f32⟩
  | .hbm, ⟨23, _⟩ => ⟨S4x128x128, .bf16⟩
  | .hbm, ⟨24, _⟩ => ⟨S2x8192x512, .bf16⟩
  | .hbm, ⟨25, _⟩ => ⟨S2x8192x4x128, .bf16⟩
  | .hbm, ⟨26, _⟩ => ⟨S2x8192x4x64, .bf16⟩
  | .hbm, ⟨27, _⟩ => ⟨S2x8192x4x64, .f32⟩
  | .local _ .vmem, ⟨0, _⟩ => ⟨S1x256x1024, .bf16⟩
  | .local _ .vmem, ⟨1, _⟩ => ⟨S1x256x1024, .bf16⟩
  | .local _ .vmem, ⟨2, _⟩ => ⟨S1x8192x256, .bf16⟩
  | .local _ .vmem, ⟨3, _⟩ => ⟨S1x8192x256, .bf16⟩
  | .local _ .vmem, ⟨4, _⟩ => ⟨S4x128x128, .bf16⟩
  | .local _ .vmem, ⟨5, _⟩ => ⟨S1x256x512, .bf16⟩
  | .local _ .vmem, ⟨6, _⟩ => ⟨S1x256x512, .bf16⟩
  | .local _ .vmem, ⟨7, _⟩ => ⟨S1024x128, .f32⟩
  | .local _ .vmem, ⟨8, _⟩ => ⟨S1024x256, .f32⟩
  | _, _ => ⟨S2x8192x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

def k0_mult1 (i : grid0.Coords) : BitVec 32 :=
  let arg1 : BitVec 32 := BitVec.ofNat 32 (i 1).val
  let c256_i32 : BitVec 32 := 256#32
  let v13 : BitVec 32 := Scalar.muli arg1 c256_i32
  v13
def k0_off1 (i : grid0.Coords) : Fin 3 → Nat :=
  let c0_8 : Index := 0#32
  let arg1 : BitVec 32 := BitVec.ofNat 32 (i 1).val
  let c256_i32 : BitVec 32 := 256#32
  let v13 : BitVec 32 := Scalar.muli arg1 c256_i32
  let v14 : BitVec 32 := v13
  let v15 : Index := Scalar.indexCast v14
  let c0_9 : Index := 0#32
  ![0, v15.toNat, 0]
def k0_cond1 (i : grid0.Coords) : BitVec 1 :=
  let arg1 : BitVec 32 := BitVec.ofNat 32 (i 1).val
  let c2_i32 : BitVec 32 := 2#32
  let c0_i32 : BitVec 32 := 0#32
  let v28 : BitVec 1 := Scalar.cmpi .eq c2_i32 c0_i32
  let c1_i32 : BitVec 32 := 1#32
  let v29 : BitVec 32 := Scalar.select v28 c1_i32 c2_i32
  let v30 : BitVec 32 := Scalar.remsi arg1 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c1_i32_16 : BitVec 32 := 1#32
  let v38 : BitVec 1 := Scalar.cmpi .eq v37 c1_i32_16
  let v39 : BitVec 32 := Scalar.extui v38
  let c0_i32_17 : BitVec 32 := 0#32
  let v40 : BitVec 1 := Scalar.cmpi .ne v39 c0_i32_17
  v40

def k0_mult2 (i : grid0.Coords) : BitVec 32 :=
  let arg1 : BitVec 32 := BitVec.ofNat 32 (i 1).val
  let c1_i32_87 : BitVec 32 := 1#32
  let v158 : BitVec 32 := Scalar.subi arg1 c1_i32_87
  let c256_i32_90 : BitVec 32 := 256#32
  let v160 : BitVec 32 := Scalar.muli v158 c256_i32_90
  v160
def k0_off2 (i : grid0.Coords) : Fin 3 → Nat :=
  let c0_91 : Index := 0#32
  let arg1 : BitVec 32 := BitVec.ofNat 32 (i 1).val
  let c1_i32_87 : BitVec 32 := 1#32
  let v158 : BitVec 32 := Scalar.subi arg1 c1_i32_87
  let c256_i32_90 : BitVec 32 := 256#32
  let v160 : BitVec 32 := Scalar.muli v158 c256_i32_90
  let v161 : BitVec 32 := v160
  let v162 : Index := Scalar.indexCast v161
  let c0_92 : Index := 0#32
  ![0, v162.toNat, 0]
@[reducible] def k0_t1_loop (i : grid0.Coords) : Scf.Loop 32 :=
  let c0_i32_25 : BitVec 32 := 0#32
  let arg1 : BitVec 32 := BitVec.ofNat 32 (i 1).val
  let c0_i32_19 : BitVec 32 := 0#32
  let v42 : BitVec 1 := Scalar.cmpi .sgt arg1 c0_i32_19
  let v43 : BitVec 32 := Scalar.extui v42
  let c0_i32_20 : BitVec 32 := 0#32
  let v44 : BitVec 1 := Scalar.cmpi .slt arg1 c0_i32_20
  let v45 : BitVec 32 := Scalar.extui v44
  let v46 : BitVec 32 := Scalar.subi v43 v45
  let c2_i32_18 : BitVec 32 := 2#32
  let c0_i32_21 : BitVec 32 := 0#32
  let v47 : BitVec 1 := Scalar.cmpi .sgt c2_i32_18 c0_i32_21
  let v48 : BitVec 32 := Scalar.extui v47
  let c0_i32_22 : BitVec 32 := 0#32
  let v49 : BitVec 1 := Scalar.cmpi .slt c2_i32_18 c0_i32_22
  let v50 : BitVec 32 := Scalar.extui v49
  let v51 : BitVec 32 := Scalar.subi v48 v50
  let v52 : BitVec 1 := Scalar.cmpi .ne v46 v51
  let v53 : BitVec 32 := Scalar.remsi arg1 c2_i32_18
  let c0_i32_23 : BitVec 32 := 0#32
  let v54 : BitVec 1 := Scalar.cmpi .ne v53 c0_i32_23
  let v55 : BitVec 1 := Scalar.andi v52 v54
  let v41 : BitVec 32 := Scalar.divsi arg1 c2_i32_18
  let c1_i32_24 : BitVec 32 := 1#32
  let v56 : BitVec 32 := Scalar.subi v41 c1_i32_24
  let v57 : BitVec 32 := Scalar.select v55 v56 v41
  let v58 : BitVec 32 := Scalar.subi v57 c0_i32_25
  let c1_i32_27 : BitVec 32 := 1#32
  let v60 : BitVec 32 := Scalar.divsi v58 c1_i32_27
  let v61 : BitVec 32 := Scalar.muli v60 c1_i32_27
  let v62 : BitVec 32 := Scalar.addi c0_i32_25 v61
  let c1_i32_28 : BitVec 32 := 1#32
  ⟨c0_i32_25, v62, c1_i32_28⟩
def k0_mult3 (i : grid0.Coords) (k0_t1 : Fin (k0_t1_loop i).trips) : BitVec 32 :=
  let arg1 : BitVec 32 := BitVec.ofNat 32 (i 1).val
  let c2_i32_87 : BitVec 32 := 2#32
  let c0_i32_88 : BitVec 32 := 0#32
  let v158 : BitVec 1 := Scalar.cmpi .eq c2_i32_87 c0_i32_88
  let c1_i32_89 : BitVec 32 := 1#32
  let v159 : BitVec 32 := Scalar.select v158 c1_i32_89 c2_i32_87
  let v160 : BitVec 32 := Scalar.remsi arg1 v159
  let c0_i32_91 : BitVec 32 := 0#32
  let v162 : BitVec 1 := Scalar.cmpi .slt v160 c0_i32_91
  let c0_i32_92 : BitVec 32 := 0#32
  let v163 : BitVec 1 := Scalar.cmpi .slt v159 c0_i32_92
  let v164 : BitVec 1 := Scalar.xori v162 v163
  let c0_i32_90 : BitVec 32 := 0#32
  let v161 : BitVec 1 := Scalar.cmpi .ne v160 c0_i32_90
  let v165 : BitVec 1 := Scalar.andi v164 v161
  let v166 : BitVec 32 := Scalar.addi v160 v159
  let v167 : BitVec 32 := Scalar.select v165 v166 v160
  let v168 : BitVec 32 := Scalar.subi arg1 v167
  let c1_i32_93 : BitVec 32 := 1#32
  let v169 : BitVec 32 := Scalar.subi v168 c1_i32_93
  let c2_i32_94 : BitVec 32 := 2#32
  let c0_i32_25 : BitVec 32 := 0#32
  let c1_i32_28 : BitVec 32 := 1#32
  let arg8 : BitVec 32 := Scf.iv c0_i32_25 c1_i32_28 k0_t1
  let v170 : BitVec 32 := Scalar.muli c2_i32_94 arg8
  let v171 : BitVec 32 := Scalar.subi v169 v170
  let c256_i32_97 : BitVec 32 := 256#32
  let v173 : BitVec 32 := Scalar.muli v171 c256_i32_97
  v173
def k0_off3 (i : grid0.Coords) (k0_t1 : Fin (k0_t1_loop i).trips) : Fin 3 → Nat :=
  let c0_98 : Index := 0#32
  let arg1 : BitVec 32 := BitVec.ofNat 32 (i 1).val
  let c2_i32_87 : BitVec 32 := 2#32
  let c0_i32_88 : BitVec 32 := 0#32
  let v158 : BitVec 1 := Scalar.cmpi .eq c2_i32_87 c0_i32_88
  let c1_i32_89 : BitVec 32 := 1#32
  let v159 : BitVec 32 := Scalar.select v158 c1_i32_89 c2_i32_87
  let v160 : BitVec 32 := Scalar.remsi arg1 v159
  let c0_i32_91 : BitVec 32 := 0#32
  let v162 : BitVec 1 := Scalar.cmpi .slt v160 c0_i32_91
  let c0_i32_92 : BitVec 32 := 0#32
  let v163 : BitVec 1 := Scalar.cmpi .slt v159 c0_i32_92
  let v164 : BitVec 1 := Scalar.xori v162 v163
  let c0_i32_90 : BitVec 32 := 0#32
  let v161 : BitVec 1 := Scalar.cmpi .ne v160 c0_i32_90
  let v165 : BitVec 1 := Scalar.andi v164 v161
  let v166 : BitVec 32 := Scalar.addi v160 v159
  let v167 : BitVec 32 := Scalar.select v165 v166 v160
  let v168 : BitVec 32 := Scalar.subi arg1 v167
  let c1_i32_93 : BitVec 32 := 1#32
  let v169 : BitVec 32 := Scalar.subi v168 c1_i32_93
  let c2_i32_94 : BitVec 32 := 2#32
  let c0_i32_25 : BitVec 32 := 0#32
  let c1_i32_28 : BitVec 32 := 1#32
  let arg8 : BitVec 32 := Scf.iv c0_i32_25 c1_i32_28 k0_t1
  let v170 : BitVec 32 := Scalar.muli c2_i32_94 arg8
  let v171 : BitVec 32 := Scalar.subi v169 v170
  let c256_i32_97 : BitVec 32 := 256#32
  let v173 : BitVec 32 := Scalar.muli v171 c256_i32_97
  let v174 : BitVec 32 := v173
  let v175 : Index := Scalar.indexCast v174
  let c0_99 : Index := 0#32
  ![0, v175.toNat, 0]
def k0_mult4 (i : grid0.Coords) (k0_t1 : Fin (k0_t1_loop i).trips) : BitVec 32 :=
  let arg1 : BitVec 32 := BitVec.ofNat 32 (i 1).val
  let c2_i32_87 : BitVec 32 := 2#32
  let c0_i32_88 : BitVec 32 := 0#32
  let v158 : BitVec 1 := Scalar.cmpi .eq c2_i32_87 c0_i32_88
  let c1_i32_89 : BitVec 32 := 1#32
  let v159 : BitVec 32 := Scalar.select v158 c1_i32_89 c2_i32_87
  let v160 : BitVec 32 := Scalar.remsi arg1 v159
  let c0_i32_91 : BitVec 32 := 0#32
  let v162 : BitVec 1 := Scalar.cmpi .slt v160 c0_i32_91
  let c0_i32_92 : BitVec 32 := 0#32
  let v163 : BitVec 1 := Scalar.cmpi .slt v159 c0_i32_92
  let v164 : BitVec 1 := Scalar.xori v162 v163
  let c0_i32_90 : BitVec 32 := 0#32
  let v161 : BitVec 1 := Scalar.cmpi .ne v160 c0_i32_90
  let v165 : BitVec 1 := Scalar.andi v164 v161
  let v166 : BitVec 32 := Scalar.addi v160 v159
  let v167 : BitVec 32 := Scalar.select v165 v166 v160
  let v168 : BitVec 32 := Scalar.subi arg1 v167
  let c1_i32_93 : BitVec 32 := 1#32
  let v169 : BitVec 32 := Scalar.subi v168 c1_i32_93
  let c2_i32_94 : BitVec 32 := 2#32
  let c0_i32_25 : BitVec 32 := 0#32
  let c1_i32_28 : BitVec 32 := 1#32
  let arg8 : BitVec 32 := Scf.iv c0_i32_25 c1_i32_28 k0_t1
  let v170 : BitVec 32 := Scalar.muli c2_i32_94 arg8
  let v171 : BitVec 32 := Scalar.subi v169 v170
  let c1_i32_103 : BitVec 32 := 1#32
  let v186 : BitVec 32 := Scalar.subi v171 c1_i32_103
  let c256_i32_106 : BitVec 32 := 256#32
  let v188 : BitVec 32 := Scalar.muli v186 c256_i32_106
  v188
def k0_off4 (i : grid0.Coords) (k0_t1 : Fin (k0_t1_loop i).trips) : Fin 3 → Nat :=
  let c0_107 : Index := 0#32
  let arg1 : BitVec 32 := BitVec.ofNat 32 (i 1).val
  let c2_i32_87 : BitVec 32 := 2#32
  let c0_i32_88 : BitVec 32 := 0#32
  let v158 : BitVec 1 := Scalar.cmpi .eq c2_i32_87 c0_i32_88
  let c1_i32_89 : BitVec 32 := 1#32
  let v159 : BitVec 32 := Scalar.select v158 c1_i32_89 c2_i32_87
  let v160 : BitVec 32 := Scalar.remsi arg1 v159
  let c0_i32_91 : BitVec 32 := 0#32
  let v162 : BitVec 1 := Scalar.cmpi .slt v160 c0_i32_91
  let c0_i32_92 : BitVec 32 := 0#32
  let v163 : BitVec 1 := Scalar.cmpi .slt v159 c0_i32_92
  let v164 : BitVec 1 := Scalar.xori v162 v163
  let c0_i32_90 : BitVec 32 := 0#32
  let v161 : BitVec 1 := Scalar.cmpi .ne v160 c0_i32_90
  let v165 : BitVec 1 := Scalar.andi v164 v161
  let v166 : BitVec 32 := Scalar.addi v160 v159
  let v167 : BitVec 32 := Scalar.select v165 v166 v160
  let v168 : BitVec 32 := Scalar.subi arg1 v167
  let c1_i32_93 : BitVec 32 := 1#32
  let v169 : BitVec 32 := Scalar.subi v168 c1_i32_93
  let c2_i32_94 : BitVec 32 := 2#32
  let c0_i32_25 : BitVec 32 := 0#32
  let c1_i32_28 : BitVec 32 := 1#32
  let arg8 : BitVec 32 := Scf.iv c0_i32_25 c1_i32_28 k0_t1
  let v170 : BitVec 32 := Scalar.muli c2_i32_94 arg8
  let v171 : BitVec 32 := Scalar.subi v169 v170
  let c1_i32_103 : BitVec 32 := 1#32
  let v186 : BitVec 32 := Scalar.subi v171 c1_i32_103
  let c256_i32_106 : BitVec 32 := 256#32
  let v188 : BitVec 32 := Scalar.muli v186 c256_i32_106
  let v189 : BitVec 32 := v188
  let v190 : Index := Scalar.indexCast v189
  let c0_108 : Index := 0#32
  ![0, v190.toNat, 0]
@[reducible] def k0_t2_loop (i : grid0.Coords) : Scf.Loop 32 :=
  let c0_i32_25 : BitVec 32 := 0#32
  let arg1 : BitVec 32 := BitVec.ofNat 32 (i 1).val
  let c0_i32_19 : BitVec 32 := 0#32
  let v42 : BitVec 1 := Scalar.cmpi .sgt arg1 c0_i32_19
  let v43 : BitVec 32 := Scalar.extui v42
  let c0_i32_20 : BitVec 32 := 0#32
  let v44 : BitVec 1 := Scalar.cmpi .slt arg1 c0_i32_20
  let v45 : BitVec 32 := Scalar.extui v44
  let v46 : BitVec 32 := Scalar.subi v43 v45
  let c2_i32_18 : BitVec 32 := 2#32
  let c0_i32_21 : BitVec 32 := 0#32
  let v47 : BitVec 1 := Scalar.cmpi .sgt c2_i32_18 c0_i32_21
  let v48 : BitVec 32 := Scalar.extui v47
  let c0_i32_22 : BitVec 32 := 0#32
  let v49 : BitVec 1 := Scalar.cmpi .slt c2_i32_18 c0_i32_22
  let v50 : BitVec 32 := Scalar.extui v49
  let v51 : BitVec 32 := Scalar.subi v48 v50
  let v52 : BitVec 1 := Scalar.cmpi .ne v46 v51
  let v53 : BitVec 32 := Scalar.remsi arg1 c2_i32_18
  let c0_i32_23 : BitVec 32 := 0#32
  let v54 : BitVec 1 := Scalar.cmpi .ne v53 c0_i32_23
  let v55 : BitVec 1 := Scalar.andi v52 v54
  let v41 : BitVec 32 := Scalar.divsi arg1 c2_i32_18
  let c1_i32_24 : BitVec 32 := 1#32
  let v56 : BitVec 32 := Scalar.subi v41 c1_i32_24
  let v57 : BitVec 32 := Scalar.select v55 v56 v41
  let v58 : BitVec 32 := Scalar.subi v57 c0_i32_25
  let c1_i32_27 : BitVec 32 := 1#32
  let v60 : BitVec 32 := Scalar.divsi v58 c1_i32_27
  let v61 : BitVec 32 := Scalar.muli v60 c1_i32_27
  let v62 : BitVec 32 := Scalar.addi c0_i32_25 v61
  let v59 : BitVec 32 := Scalar.addi c0_i32_25 v58
  let c1_i32_29 : BitVec 32 := 1#32
  ⟨v62, v59, c1_i32_29⟩
def k0_mult5 (i : grid0.Coords) (k0_t2 : Fin (k0_t2_loop i).trips) : BitVec 32 :=
  let arg1 : BitVec 32 := BitVec.ofNat 32 (i 1).val
  let c2_i32_87 : BitVec 32 := 2#32
  let c0_i32_88 : BitVec 32 := 0#32
  let v158 : BitVec 1 := Scalar.cmpi .eq c2_i32_87 c0_i32_88
  let c1_i32_89 : BitVec 32 := 1#32
  let v159 : BitVec 32 := Scalar.select v158 c1_i32_89 c2_i32_87
  let v160 : BitVec 32 := Scalar.remsi arg1 v159
  let c0_i32_91 : BitVec 32 := 0#32
  let v162 : BitVec 1 := Scalar.cmpi .slt v160 c0_i32_91
  let c0_i32_92 : BitVec 32 := 0#32
  let v163 : BitVec 1 := Scalar.cmpi .slt v159 c0_i32_92
  let v164 : BitVec 1 := Scalar.xori v162 v163
  let c0_i32_90 : BitVec 32 := 0#32
  let v161 : BitVec 1 := Scalar.cmpi .ne v160 c0_i32_90
  let v165 : BitVec 1 := Scalar.andi v164 v161
  let v166 : BitVec 32 := Scalar.addi v160 v159
  let v167 : BitVec 32 := Scalar.select v165 v166 v160
  let v168 : BitVec 32 := Scalar.subi arg1 v167
  let c1_i32_93 : BitVec 32 := 1#32
  let v169 : BitVec 32 := Scalar.subi v168 c1_i32_93
  let c2_i32_94 : BitVec 32 := 2#32
  let c0_i32_25 : BitVec 32 := 0#32
  let c0_i32_19 : BitVec 32 := 0#32
  let v42 : BitVec 1 := Scalar.cmpi .sgt arg1 c0_i32_19
  let v43 : BitVec 32 := Scalar.extui v42
  let c0_i32_20 : BitVec 32 := 0#32
  let v44 : BitVec 1 := Scalar.cmpi .slt arg1 c0_i32_20
  let v45 : BitVec 32 := Scalar.extui v44
  let v46 : BitVec 32 := Scalar.subi v43 v45
  let c2_i32_18 : BitVec 32 := 2#32
  let c0_i32_21 : BitVec 32 := 0#32
  let v47 : BitVec 1 := Scalar.cmpi .sgt c2_i32_18 c0_i32_21
  let v48 : BitVec 32 := Scalar.extui v47
  let c0_i32_22 : BitVec 32 := 0#32
  let v49 : BitVec 1 := Scalar.cmpi .slt c2_i32_18 c0_i32_22
  let v50 : BitVec 32 := Scalar.extui v49
  let v51 : BitVec 32 := Scalar.subi v48 v50
  let v52 : BitVec 1 := Scalar.cmpi .ne v46 v51
  let v53 : BitVec 32 := Scalar.remsi arg1 c2_i32_18
  let c0_i32_23 : BitVec 32 := 0#32
  let v54 : BitVec 1 := Scalar.cmpi .ne v53 c0_i32_23
  let v55 : BitVec 1 := Scalar.andi v52 v54
  let v41 : BitVec 32 := Scalar.divsi arg1 c2_i32_18
  let c1_i32_24 : BitVec 32 := 1#32
  let v56 : BitVec 32 := Scalar.subi v41 c1_i32_24
  let v57 : BitVec 32 := Scalar.select v55 v56 v41
  let v58 : BitVec 32 := Scalar.subi v57 c0_i32_25
  let c1_i32_27 : BitVec 32 := 1#32
  let v60 : BitVec 32 := Scalar.divsi v58 c1_i32_27
  let v61 : BitVec 32 := Scalar.muli v60 c1_i32_27
  let v62 : BitVec 32 := Scalar.addi c0_i32_25 v61
  let c1_i32_29 : BitVec 32 := 1#32
  let arg8 : BitVec 32 := Scf.iv v62 c1_i32_29 k0_t2
  let v170 : BitVec 32 := Scalar.muli c2_i32_94 arg8
  let v171 : BitVec 32 := Scalar.subi v169 v170
  let c256_i32_97 : BitVec 32 := 256#32
  let v173 : BitVec 32 := Scalar.muli v171 c256_i32_97
  v173
def k0_off5 (i : grid0.Coords) (k0_t2 : Fin (k0_t2_loop i).trips) : Fin 3 → Nat :=
  let c0_98 : Index := 0#32
  let arg1 : BitVec 32 := BitVec.ofNat 32 (i 1).val
  let c2_i32_87 : BitVec 32 := 2#32
  let c0_i32_88 : BitVec 32 := 0#32
  let v158 : BitVec 1 := Scalar.cmpi .eq c2_i32_87 c0_i32_88
  let c1_i32_89 : BitVec 32 := 1#32
  let v159 : BitVec 32 := Scalar.select v158 c1_i32_89 c2_i32_87
  let v160 : BitVec 32 := Scalar.remsi arg1 v159
  let c0_i32_91 : BitVec 32 := 0#32
  let v162 : BitVec 1 := Scalar.cmpi .slt v160 c0_i32_91
  let c0_i32_92 : BitVec 32 := 0#32
  let v163 : BitVec 1 := Scalar.cmpi .slt v159 c0_i32_92
  let v164 : BitVec 1 := Scalar.xori v162 v163
  let c0_i32_90 : BitVec 32 := 0#32
  let v161 : BitVec 1 := Scalar.cmpi .ne v160 c0_i32_90
  let v165 : BitVec 1 := Scalar.andi v164 v161
  let v166 : BitVec 32 := Scalar.addi v160 v159
  let v167 : BitVec 32 := Scalar.select v165 v166 v160
  let v168 : BitVec 32 := Scalar.subi arg1 v167
  let c1_i32_93 : BitVec 32 := 1#32
  let v169 : BitVec 32 := Scalar.subi v168 c1_i32_93
  let c2_i32_94 : BitVec 32 := 2#32
  let c0_i32_25 : BitVec 32 := 0#32
  let c0_i32_19 : BitVec 32 := 0#32
  let v42 : BitVec 1 := Scalar.cmpi .sgt arg1 c0_i32_19
  let v43 : BitVec 32 := Scalar.extui v42
  let c0_i32_20 : BitVec 32 := 0#32
  let v44 : BitVec 1 := Scalar.cmpi .slt arg1 c0_i32_20
  let v45 : BitVec 32 := Scalar.extui v44
  let v46 : BitVec 32 := Scalar.subi v43 v45
  let c2_i32_18 : BitVec 32 := 2#32
  let c0_i32_21 : BitVec 32 := 0#32
  let v47 : BitVec 1 := Scalar.cmpi .sgt c2_i32_18 c0_i32_21
  let v48 : BitVec 32 := Scalar.extui v47
  let c0_i32_22 : BitVec 32 := 0#32
  let v49 : BitVec 1 := Scalar.cmpi .slt c2_i32_18 c0_i32_22
  let v50 : BitVec 32 := Scalar.extui v49
  let v51 : BitVec 32 := Scalar.subi v48 v50
  let v52 : BitVec 1 := Scalar.cmpi .ne v46 v51
  let v53 : BitVec 32 := Scalar.remsi arg1 c2_i32_18
  let c0_i32_23 : BitVec 32 := 0#32
  let v54 : BitVec 1 := Scalar.cmpi .ne v53 c0_i32_23
  let v55 : BitVec 1 := Scalar.andi v52 v54
  let v41 : BitVec 32 := Scalar.divsi arg1 c2_i32_18
  let c1_i32_24 : BitVec 32 := 1#32
  let v56 : BitVec 32 := Scalar.subi v41 c1_i32_24
  let v57 : BitVec 32 := Scalar.select v55 v56 v41
  let v58 : BitVec 32 := Scalar.subi v57 c0_i32_25
  let c1_i32_27 : BitVec 32 := 1#32
  let v60 : BitVec 32 := Scalar.divsi v58 c1_i32_27
  let v61 : BitVec 32 := Scalar.muli v60 c1_i32_27
  let v62 : BitVec 32 := Scalar.addi c0_i32_25 v61
  let c1_i32_29 : BitVec 32 := 1#32
  let arg8 : BitVec 32 := Scf.iv v62 c1_i32_29 k0_t2
  let v170 : BitVec 32 := Scalar.muli c2_i32_94 arg8
  let v171 : BitVec 32 := Scalar.subi v169 v170
  let c256_i32_97 : BitVec 32 := 256#32
  let v173 : BitVec 32 := Scalar.muli v171 c256_i32_97
  let v174 : BitVec 32 := v173
  let v175 : Index := Scalar.indexCast v174
  let c0_99 : Index := 0#32
  ![0, v175.toNat, 0]
def k0_mult6 (i : grid0.Coords) (k0_t2 : Fin (k0_t2_loop i).trips) : BitVec 32 :=
  let arg1 : BitVec 32 := BitVec.ofNat 32 (i 1).val
  let c2_i32_87 : BitVec 32 := 2#32
  let c0_i32_88 : BitVec 32 := 0#32
  let v158 : BitVec 1 := Scalar.cmpi .eq c2_i32_87 c0_i32_88
  let c1_i32_89 : BitVec 32 := 1#32
  let v159 : BitVec 32 := Scalar.select v158 c1_i32_89 c2_i32_87
  let v160 : BitVec 32 := Scalar.remsi arg1 v159
  let c0_i32_91 : BitVec 32 := 0#32
  let v162 : BitVec 1 := Scalar.cmpi .slt v160 c0_i32_91
  let c0_i32_92 : BitVec 32 := 0#32
  let v163 : BitVec 1 := Scalar.cmpi .slt v159 c0_i32_92
  let v164 : BitVec 1 := Scalar.xori v162 v163
  let c0_i32_90 : BitVec 32 := 0#32
  let v161 : BitVec 1 := Scalar.cmpi .ne v160 c0_i32_90
  let v165 : BitVec 1 := Scalar.andi v164 v161
  let v166 : BitVec 32 := Scalar.addi v160 v159
  let v167 : BitVec 32 := Scalar.select v165 v166 v160
  let v168 : BitVec 32 := Scalar.subi arg1 v167
  let c1_i32_93 : BitVec 32 := 1#32
  let v169 : BitVec 32 := Scalar.subi v168 c1_i32_93
  let c2_i32_94 : BitVec 32 := 2#32
  let c0_i32_25 : BitVec 32 := 0#32
  let c0_i32_19 : BitVec 32 := 0#32
  let v42 : BitVec 1 := Scalar.cmpi .sgt arg1 c0_i32_19
  let v43 : BitVec 32 := Scalar.extui v42
  let c0_i32_20 : BitVec 32 := 0#32
  let v44 : BitVec 1 := Scalar.cmpi .slt arg1 c0_i32_20
  let v45 : BitVec 32 := Scalar.extui v44
  let v46 : BitVec 32 := Scalar.subi v43 v45
  let c2_i32_18 : BitVec 32 := 2#32
  let c0_i32_21 : BitVec 32 := 0#32
  let v47 : BitVec 1 := Scalar.cmpi .sgt c2_i32_18 c0_i32_21
  let v48 : BitVec 32 := Scalar.extui v47
  let c0_i32_22 : BitVec 32 := 0#32
  let v49 : BitVec 1 := Scalar.cmpi .slt c2_i32_18 c0_i32_22
  let v50 : BitVec 32 := Scalar.extui v49
  let v51 : BitVec 32 := Scalar.subi v48 v50
  let v52 : BitVec 1 := Scalar.cmpi .ne v46 v51
  let v53 : BitVec 32 := Scalar.remsi arg1 c2_i32_18
  let c0_i32_23 : BitVec 32 := 0#32
  let v54 : BitVec 1 := Scalar.cmpi .ne v53 c0_i32_23
  let v55 : BitVec 1 := Scalar.andi v52 v54
  let v41 : BitVec 32 := Scalar.divsi arg1 c2_i32_18
  let c1_i32_24 : BitVec 32 := 1#32
  let v56 : BitVec 32 := Scalar.subi v41 c1_i32_24
  let v57 : BitVec 32 := Scalar.select v55 v56 v41
  let v58 : BitVec 32 := Scalar.subi v57 c0_i32_25
  let c1_i32_27 : BitVec 32 := 1#32
  let v60 : BitVec 32 := Scalar.divsi v58 c1_i32_27
  let v61 : BitVec 32 := Scalar.muli v60 c1_i32_27
  let v62 : BitVec 32 := Scalar.addi c0_i32_25 v61
  let c1_i32_29 : BitVec 32 := 1#32
  let arg8 : BitVec 32 := Scf.iv v62 c1_i32_29 k0_t2
  let v170 : BitVec 32 := Scalar.muli c2_i32_94 arg8
  let v171 : BitVec 32 := Scalar.subi v169 v170
  let c1_i32_103 : BitVec 32 := 1#32
  let v186 : BitVec 32 := Scalar.subi v171 c1_i32_103
  let c256_i32_106 : BitVec 32 := 256#32
  let v188 : BitVec 32 := Scalar.muli v186 c256_i32_106
  v188
def k0_off6 (i : grid0.Coords) (k0_t2 : Fin (k0_t2_loop i).trips) : Fin 3 → Nat :=
  let c0_107 : Index := 0#32
  let arg1 : BitVec 32 := BitVec.ofNat 32 (i 1).val
  let c2_i32_87 : BitVec 32 := 2#32
  let c0_i32_88 : BitVec 32 := 0#32
  let v158 : BitVec 1 := Scalar.cmpi .eq c2_i32_87 c0_i32_88
  let c1_i32_89 : BitVec 32 := 1#32
  let v159 : BitVec 32 := Scalar.select v158 c1_i32_89 c2_i32_87
  let v160 : BitVec 32 := Scalar.remsi arg1 v159
  let c0_i32_91 : BitVec 32 := 0#32
  let v162 : BitVec 1 := Scalar.cmpi .slt v160 c0_i32_91
  let c0_i32_92 : BitVec 32 := 0#32
  let v163 : BitVec 1 := Scalar.cmpi .slt v159 c0_i32_92
  let v164 : BitVec 1 := Scalar.xori v162 v163
  let c0_i32_90 : BitVec 32 := 0#32
  let v161 : BitVec 1 := Scalar.cmpi .ne v160 c0_i32_90
  let v165 : BitVec 1 := Scalar.andi v164 v161
  let v166 : BitVec 32 := Scalar.addi v160 v159
  let v167 : BitVec 32 := Scalar.select v165 v166 v160
  let v168 : BitVec 32 := Scalar.subi arg1 v167
  let c1_i32_93 : BitVec 32 := 1#32
  let v169 : BitVec 32 := Scalar.subi v168 c1_i32_93
  let c2_i32_94 : BitVec 32 := 2#32
  let c0_i32_25 : BitVec 32 := 0#32
  let c0_i32_19 : BitVec 32 := 0#32
  let v42 : BitVec 1 := Scalar.cmpi .sgt arg1 c0_i32_19
  let v43 : BitVec 32 := Scalar.extui v42
  let c0_i32_20 : BitVec 32 := 0#32
  let v44 : BitVec 1 := Scalar.cmpi .slt arg1 c0_i32_20
  let v45 : BitVec 32 := Scalar.extui v44
  let v46 : BitVec 32 := Scalar.subi v43 v45
  let c2_i32_18 : BitVec 32 := 2#32
  let c0_i32_21 : BitVec 32 := 0#32
  let v47 : BitVec 1 := Scalar.cmpi .sgt c2_i32_18 c0_i32_21
  let v48 : BitVec 32 := Scalar.extui v47
  let c0_i32_22 : BitVec 32 := 0#32
  let v49 : BitVec 1 := Scalar.cmpi .slt c2_i32_18 c0_i32_22
  let v50 : BitVec 32 := Scalar.extui v49
  let v51 : BitVec 32 := Scalar.subi v48 v50
  let v52 : BitVec 1 := Scalar.cmpi .ne v46 v51
  let v53 : BitVec 32 := Scalar.remsi arg1 c2_i32_18
  let c0_i32_23 : BitVec 32 := 0#32
  let v54 : BitVec 1 := Scalar.cmpi .ne v53 c0_i32_23
  let v55 : BitVec 1 := Scalar.andi v52 v54
  let v41 : BitVec 32 := Scalar.divsi arg1 c2_i32_18
  let c1_i32_24 : BitVec 32 := 1#32
  let v56 : BitVec 32 := Scalar.subi v41 c1_i32_24
  let v57 : BitVec 32 := Scalar.select v55 v56 v41
  let v58 : BitVec 32 := Scalar.subi v57 c0_i32_25
  let c1_i32_27 : BitVec 32 := 1#32
  let v60 : BitVec 32 := Scalar.divsi v58 c1_i32_27
  let v61 : BitVec 32 := Scalar.muli v60 c1_i32_27
  let v62 : BitVec 32 := Scalar.addi c0_i32_25 v61
  let c1_i32_29 : BitVec 32 := 1#32
  let arg8 : BitVec 32 := Scf.iv v62 c1_i32_29 k0_t2
  let v170 : BitVec 32 := Scalar.muli c2_i32_94 arg8
  let v171 : BitVec 32 := Scalar.subi v169 v170
  let c1_i32_103 : BitVec 32 := 1#32
  let v186 : BitVec 32 := Scalar.subi v171 c1_i32_103
  let c256_i32_106 : BitVec 32 := 256#32
  let v188 : BitVec 32 := Scalar.muli v186 c256_i32_106
  let v189 : BitVec 32 := v188
  let v190 : Index := Scalar.indexCast v189
  let c0_108 : Index := 0#32
  ![0, v190.toNat, 0]
def k0_cond2 (i : grid0.Coords) : BitVec 1 :=
  let arg1 : BitVec 32 := BitVec.ofNat 32 (i 1).val
  let c2_i32_40 : BitVec 32 := 2#32
  let c0_i32_41 : BitVec 32 := 0#32
  let v82 : BitVec 1 := Scalar.cmpi .eq c2_i32_40 c0_i32_41
  let c1_i32_42 : BitVec 32 := 1#32
  let v83 : BitVec 32 := Scalar.select v82 c1_i32_42 c2_i32_40
  let v84 : BitVec 32 := Scalar.remsi arg1 v83
  let c0_i32_44 : BitVec 32 := 0#32
  let v86 : BitVec 1 := Scalar.cmpi .slt v84 c0_i32_44
  let c0_i32_45 : BitVec 32 := 0#32
  let v87 : BitVec 1 := Scalar.cmpi .slt v83 c0_i32_45
  let v88 : BitVec 1 := Scalar.xori v86 v87
  let c0_i32_43 : BitVec 32 := 0#32
  let v85 : BitVec 1 := Scalar.cmpi .ne v84 c0_i32_43
  let v89 : BitVec 1 := Scalar.andi v88 v85
  let v90 : BitVec 32 := Scalar.addi v84 v83
  let v91 : BitVec 32 := Scalar.select v89 v90 v84
  let c1_i32_46 : BitVec 32 := 1#32
  let v92 : BitVec 1 := Scalar.cmpi .eq v91 c1_i32_46
  let v93 : BitVec 32 := Scalar.extui v92
  let c0_i32_47 : BitVec 32 := 0#32
  let v94 : BitVec 1 := Scalar.cmpi .ne v93 c0_i32_47
  v94

def k0_mult7 (i : grid0.Coords) : BitVec 32 :=
  let arg1 : BitVec 32 := BitVec.ofNat 32 (i 1).val
  let c1_i32_87 : BitVec 32 := 1#32
  let v158 : BitVec 32 := Scalar.subi arg1 c1_i32_87
  let c256_i32_88 : BitVec 32 := 256#32
  let v159 : BitVec 32 := Scalar.muli v158 c256_i32_88
  v159
def k0_off7 (i : grid0.Coords) : Fin 3 → Nat :=
  let c0_89 : Index := 0#32
  let arg1 : BitVec 32 := BitVec.ofNat 32 (i 1).val
  let c1_i32_87 : BitVec 32 := 1#32
  let v158 : BitVec 32 := Scalar.subi arg1 c1_i32_87
  let c256_i32_88 : BitVec 32 := 256#32
  let v159 : BitVec 32 := Scalar.muli v158 c256_i32_88
  let v160 : BitVec 32 := v159
  let v161 : Index := Scalar.indexCast v160
  let c0_90 : Index := 0#32
  ![0, v161.toNat, 0]
@[reducible] def k0_t3_loop (i : grid0.Coords) : Scf.Loop 32 :=
  let c0_i32_55 : BitVec 32 := 0#32
  let arg1 : BitVec 32 := BitVec.ofNat 32 (i 1).val
  let c0_i32_49 : BitVec 32 := 0#32
  let v96 : BitVec 1 := Scalar.cmpi .sgt arg1 c0_i32_49
  let v97 : BitVec 32 := Scalar.extui v96
  let c0_i32_50 : BitVec 32 := 0#32
  let v98 : BitVec 1 := Scalar.cmpi .slt arg1 c0_i32_50
  let v99 : BitVec 32 := Scalar.extui v98
  let v100 : BitVec 32 := Scalar.subi v97 v99
  let c2_i32_48 : BitVec 32 := 2#32
  let c0_i32_51 : BitVec 32 := 0#32
  let v101 : BitVec 1 := Scalar.cmpi .sgt c2_i32_48 c0_i32_51
  let v102 : BitVec 32 := Scalar.extui v101
  let c0_i32_52 : BitVec 32 := 0#32
  let v103 : BitVec 1 := Scalar.cmpi .slt c2_i32_48 c0_i32_52
  let v104 : BitVec 32 := Scalar.extui v103
  let v105 : BitVec 32 := Scalar.subi v102 v104
  let v106 : BitVec 1 := Scalar.cmpi .ne v100 v105
  let v107 : BitVec 32 := Scalar.remsi arg1 c2_i32_48
  let c0_i32_53 : BitVec 32 := 0#32
  let v108 : BitVec 1 := Scalar.cmpi .ne v107 c0_i32_53
  let v109 : BitVec 1 := Scalar.andi v106 v108
  let v95 : BitVec 32 := Scalar.divsi arg1 c2_i32_48
  let c1_i32_54 : BitVec 32 := 1#32
  let v110 : BitVec 32 := Scalar.subi v95 c1_i32_54
  let v111 : BitVec 32 := Scalar.select v109 v110 v95
  let v112 : BitVec 32 := Scalar.subi v111 c0_i32_55
  let c1_i32_57 : BitVec 32 := 1#32
  let v114 : BitVec 32 := Scalar.divsi v112 c1_i32_57
  let v115 : BitVec 32 := Scalar.muli v114 c1_i32_57
  let v116 : BitVec 32 := Scalar.addi c0_i32_55 v115
  let c1_i32_58 : BitVec 32 := 1#32
  ⟨c0_i32_55, v116, c1_i32_58⟩
def k0_mult8 (i : grid0.Coords) (k0_t3 : Fin (k0_t3_loop i).trips) : BitVec 32 :=
  let arg1 : BitVec 32 := BitVec.ofNat 32 (i 1).val
  let c2_i32_87 : BitVec 32 := 2#32
  let c0_i32_88 : BitVec 32 := 0#32
  let v158 : BitVec 1 := Scalar.cmpi .eq c2_i32_87 c0_i32_88
  let c1_i32_89 : BitVec 32 := 1#32
  let v159 : BitVec 32 := Scalar.select v158 c1_i32_89 c2_i32_87
  let v160 : BitVec 32 := Scalar.remsi arg1 v159
  let c0_i32_91 : BitVec 32 := 0#32
  let v162 : BitVec 1 := Scalar.cmpi .slt v160 c0_i32_91
  let c0_i32_92 : BitVec 32 := 0#32
  let v163 : BitVec 1 := Scalar.cmpi .slt v159 c0_i32_92
  let v164 : BitVec 1 := Scalar.xori v162 v163
  let c0_i32_90 : BitVec 32 := 0#32
  let v161 : BitVec 1 := Scalar.cmpi .ne v160 c0_i32_90
  let v165 : BitVec 1 := Scalar.andi v164 v161
  let v166 : BitVec 32 := Scalar.addi v160 v159
  let v167 : BitVec 32 := Scalar.select v165 v166 v160
  let v168 : BitVec 32 := Scalar.subi arg1 v167
  let c1_i32_93 : BitVec 32 := 1#32
  let v169 : BitVec 32 := Scalar.subi v168 c1_i32_93
  let c2_i32_94 : BitVec 32 := 2#32
  let c0_i32_55 : BitVec 32 := 0#32
  let c1_i32_58 : BitVec 32 := 1#32
  let arg8 : BitVec 32 := Scf.iv c0_i32_55 c1_i32_58 k0_t3
  let v170 : BitVec 32 := Scalar.muli c2_i32_94 arg8
  let v171 : BitVec 32 := Scalar.subi v169 v170
  let c256_i32_95 : BitVec 32 := 256#32
  let v172 : BitVec 32 := Scalar.muli v171 c256_i32_95
  v172
def k0_off8 (i : grid0.Coords) (k0_t3 : Fin (k0_t3_loop i).trips) : Fin 3 → Nat :=
  let c0_96 : Index := 0#32
  let arg1 : BitVec 32 := BitVec.ofNat 32 (i 1).val
  let c2_i32_87 : BitVec 32 := 2#32
  let c0_i32_88 : BitVec 32 := 0#32
  let v158 : BitVec 1 := Scalar.cmpi .eq c2_i32_87 c0_i32_88
  let c1_i32_89 : BitVec 32 := 1#32
  let v159 : BitVec 32 := Scalar.select v158 c1_i32_89 c2_i32_87
  let v160 : BitVec 32 := Scalar.remsi arg1 v159
  let c0_i32_91 : BitVec 32 := 0#32
  let v162 : BitVec 1 := Scalar.cmpi .slt v160 c0_i32_91
  let c0_i32_92 : BitVec 32 := 0#32
  let v163 : BitVec 1 := Scalar.cmpi .slt v159 c0_i32_92
  let v164 : BitVec 1 := Scalar.xori v162 v163
  let c0_i32_90 : BitVec 32 := 0#32
  let v161 : BitVec 1 := Scalar.cmpi .ne v160 c0_i32_90
  let v165 : BitVec 1 := Scalar.andi v164 v161
  let v166 : BitVec 32 := Scalar.addi v160 v159
  let v167 : BitVec 32 := Scalar.select v165 v166 v160
  let v168 : BitVec 32 := Scalar.subi arg1 v167
  let c1_i32_93 : BitVec 32 := 1#32
  let v169 : BitVec 32 := Scalar.subi v168 c1_i32_93
  let c2_i32_94 : BitVec 32 := 2#32
  let c0_i32_55 : BitVec 32 := 0#32
  let c1_i32_58 : BitVec 32 := 1#32
  let arg8 : BitVec 32 := Scf.iv c0_i32_55 c1_i32_58 k0_t3
  let v170 : BitVec 32 := Scalar.muli c2_i32_94 arg8
  let v171 : BitVec 32 := Scalar.subi v169 v170
  let c256_i32_95 : BitVec 32 := 256#32
  let v172 : BitVec 32 := Scalar.muli v171 c256_i32_95
  let v173 : BitVec 32 := v172
  let v174 : Index := Scalar.indexCast v173
  let c0_97 : Index := 0#32
  ![0, v174.toNat, 0]
def k0_mult9 (i : grid0.Coords) (k0_t3 : Fin (k0_t3_loop i).trips) : BitVec 32 :=
  let arg1 : BitVec 32 := BitVec.ofNat 32 (i 1).val
  let c2_i32_87 : BitVec 32 := 2#32
  let c0_i32_88 : BitVec 32 := 0#32
  let v158 : BitVec 1 := Scalar.cmpi .eq c2_i32_87 c0_i32_88
  let c1_i32_89 : BitVec 32 := 1#32
  let v159 : BitVec 32 := Scalar.select v158 c1_i32_89 c2_i32_87
  let v160 : BitVec 32 := Scalar.remsi arg1 v159
  let c0_i32_91 : BitVec 32 := 0#32
  let v162 : BitVec 1 := Scalar.cmpi .slt v160 c0_i32_91
  let c0_i32_92 : BitVec 32 := 0#32
  let v163 : BitVec 1 := Scalar.cmpi .slt v159 c0_i32_92
  let v164 : BitVec 1 := Scalar.xori v162 v163
  let c0_i32_90 : BitVec 32 := 0#32
  let v161 : BitVec 1 := Scalar.cmpi .ne v160 c0_i32_90
  let v165 : BitVec 1 := Scalar.andi v164 v161
  let v166 : BitVec 32 := Scalar.addi v160 v159
  let v167 : BitVec 32 := Scalar.select v165 v166 v160
  let v168 : BitVec 32 := Scalar.subi arg1 v167
  let c1_i32_93 : BitVec 32 := 1#32
  let v169 : BitVec 32 := Scalar.subi v168 c1_i32_93
  let c2_i32_94 : BitVec 32 := 2#32
  let c0_i32_55 : BitVec 32 := 0#32
  let c1_i32_58 : BitVec 32 := 1#32
  let arg8 : BitVec 32 := Scf.iv c0_i32_55 c1_i32_58 k0_t3
  let v170 : BitVec 32 := Scalar.muli c2_i32_94 arg8
  let v171 : BitVec 32 := Scalar.subi v169 v170
  let c1_i32_106 : BitVec 32 := 1#32
  let v189 : BitVec 32 := Scalar.subi v171 c1_i32_106
  let c256_i32_107 : BitVec 32 := 256#32
  let v190 : BitVec 32 := Scalar.muli v189 c256_i32_107
  v190
def k0_off9 (i : grid0.Coords) (k0_t3 : Fin (k0_t3_loop i).trips) : Fin 3 → Nat :=
  let c0_108 : Index := 0#32
  let arg1 : BitVec 32 := BitVec.ofNat 32 (i 1).val
  let c2_i32_87 : BitVec 32 := 2#32
  let c0_i32_88 : BitVec 32 := 0#32
  let v158 : BitVec 1 := Scalar.cmpi .eq c2_i32_87 c0_i32_88
  let c1_i32_89 : BitVec 32 := 1#32
  let v159 : BitVec 32 := Scalar.select v158 c1_i32_89 c2_i32_87
  let v160 : BitVec 32 := Scalar.remsi arg1 v159
  let c0_i32_91 : BitVec 32 := 0#32
  let v162 : BitVec 1 := Scalar.cmpi .slt v160 c0_i32_91
  let c0_i32_92 : BitVec 32 := 0#32
  let v163 : BitVec 1 := Scalar.cmpi .slt v159 c0_i32_92
  let v164 : BitVec 1 := Scalar.xori v162 v163
  let c0_i32_90 : BitVec 32 := 0#32
  let v161 : BitVec 1 := Scalar.cmpi .ne v160 c0_i32_90
  let v165 : BitVec 1 := Scalar.andi v164 v161
  let v166 : BitVec 32 := Scalar.addi v160 v159
  let v167 : BitVec 32 := Scalar.select v165 v166 v160
  let v168 : BitVec 32 := Scalar.subi arg1 v167
  let c1_i32_93 : BitVec 32 := 1#32
  let v169 : BitVec 32 := Scalar.subi v168 c1_i32_93
  let c2_i32_94 : BitVec 32 := 2#32
  let c0_i32_55 : BitVec 32 := 0#32
  let c1_i32_58 : BitVec 32 := 1#32
  let arg8 : BitVec 32 := Scf.iv c0_i32_55 c1_i32_58 k0_t3
  let v170 : BitVec 32 := Scalar.muli c2_i32_94 arg8
  let v171 : BitVec 32 := Scalar.subi v169 v170
  let c1_i32_106 : BitVec 32 := 1#32
  let v189 : BitVec 32 := Scalar.subi v171 c1_i32_106
  let c256_i32_107 : BitVec 32 := 256#32
  let v190 : BitVec 32 := Scalar.muli v189 c256_i32_107
  let v191 : BitVec 32 := v190
  let v192 : Index := Scalar.indexCast v191
  let c0_109 : Index := 0#32
  ![0, v192.toNat, 0]
@[reducible] def k0_t4_loop (i : grid0.Coords) : Scf.Loop 32 :=
  let c0_i32_55 : BitVec 32 := 0#32
  let arg1 : BitVec 32 := BitVec.ofNat 32 (i 1).val
  let c0_i32_49 : BitVec 32 := 0#32
  let v96 : BitVec 1 := Scalar.cmpi .sgt arg1 c0_i32_49
  let v97 : BitVec 32 := Scalar.extui v96
  let c0_i32_50 : BitVec 32 := 0#32
  let v98 : BitVec 1 := Scalar.cmpi .slt arg1 c0_i32_50
  let v99 : BitVec 32 := Scalar.extui v98
  let v100 : BitVec 32 := Scalar.subi v97 v99
  let c2_i32_48 : BitVec 32 := 2#32
  let c0_i32_51 : BitVec 32 := 0#32
  let v101 : BitVec 1 := Scalar.cmpi .sgt c2_i32_48 c0_i32_51
  let v102 : BitVec 32 := Scalar.extui v101
  let c0_i32_52 : BitVec 32 := 0#32
  let v103 : BitVec 1 := Scalar.cmpi .slt c2_i32_48 c0_i32_52
  let v104 : BitVec 32 := Scalar.extui v103
  let v105 : BitVec 32 := Scalar.subi v102 v104
  let v106 : BitVec 1 := Scalar.cmpi .ne v100 v105
  let v107 : BitVec 32 := Scalar.remsi arg1 c2_i32_48
  let c0_i32_53 : BitVec 32 := 0#32
  let v108 : BitVec 1 := Scalar.cmpi .ne v107 c0_i32_53
  let v109 : BitVec 1 := Scalar.andi v106 v108
  let v95 : BitVec 32 := Scalar.divsi arg1 c2_i32_48
  let c1_i32_54 : BitVec 32 := 1#32
  let v110 : BitVec 32 := Scalar.subi v95 c1_i32_54
  let v111 : BitVec 32 := Scalar.select v109 v110 v95
  let v112 : BitVec 32 := Scalar.subi v111 c0_i32_55
  let c1_i32_57 : BitVec 32 := 1#32
  let v114 : BitVec 32 := Scalar.divsi v112 c1_i32_57
  let v115 : BitVec 32 := Scalar.muli v114 c1_i32_57
  let v116 : BitVec 32 := Scalar.addi c0_i32_55 v115
  let v113 : BitVec 32 := Scalar.addi c0_i32_55 v112
  let c1_i32_59 : BitVec 32 := 1#32
  ⟨v116, v113, c1_i32_59⟩
def k0_mult10 (i : grid0.Coords) (k0_t4 : Fin (k0_t4_loop i).trips) : BitVec 32 :=
  let arg1 : BitVec 32 := BitVec.ofNat 32 (i 1).val
  let c2_i32_87 : BitVec 32 := 2#32
  let c0_i32_88 : BitVec 32 := 0#32
  let v158 : BitVec 1 := Scalar.cmpi .eq c2_i32_87 c0_i32_88
  let c1_i32_89 : BitVec 32 := 1#32
  let v159 : BitVec 32 := Scalar.select v158 c1_i32_89 c2_i32_87
  let v160 : BitVec 32 := Scalar.remsi arg1 v159
  let c0_i32_91 : BitVec 32 := 0#32
  let v162 : BitVec 1 := Scalar.cmpi .slt v160 c0_i32_91
  let c0_i32_92 : BitVec 32 := 0#32
  let v163 : BitVec 1 := Scalar.cmpi .slt v159 c0_i32_92
  let v164 : BitVec 1 := Scalar.xori v162 v163
  let c0_i32_90 : BitVec 32 := 0#32
  let v161 : BitVec 1 := Scalar.cmpi .ne v160 c0_i32_90
  let v165 : BitVec 1 := Scalar.andi v164 v161
  let v166 : BitVec 32 := Scalar.addi v160 v159
  let v167 : BitVec 32 := Scalar.select v165 v166 v160
  let v168 : BitVec 32 := Scalar.subi arg1 v167
  let c1_i32_93 : BitVec 32 := 1#32
  let v169 : BitVec 32 := Scalar.subi v168 c1_i32_93
  let c2_i32_94 : BitVec 32 := 2#32
  let c0_i32_55 : BitVec 32 := 0#32
  let c0_i32_49 : BitVec 32 := 0#32
  let v96 : BitVec 1 := Scalar.cmpi .sgt arg1 c0_i32_49
  let v97 : BitVec 32 := Scalar.extui v96
  let c0_i32_50 : BitVec 32 := 0#32
  let v98 : BitVec 1 := Scalar.cmpi .slt arg1 c0_i32_50
  let v99 : BitVec 32 := Scalar.extui v98
  let v100 : BitVec 32 := Scalar.subi v97 v99
  let c2_i32_48 : BitVec 32 := 2#32
  let c0_i32_51 : BitVec 32 := 0#32
  let v101 : BitVec 1 := Scalar.cmpi .sgt c2_i32_48 c0_i32_51
  let v102 : BitVec 32 := Scalar.extui v101
  let c0_i32_52 : BitVec 32 := 0#32
  let v103 : BitVec 1 := Scalar.cmpi .slt c2_i32_48 c0_i32_52
  let v104 : BitVec 32 := Scalar.extui v103
  let v105 : BitVec 32 := Scalar.subi v102 v104
  let v106 : BitVec 1 := Scalar.cmpi .ne v100 v105
  let v107 : BitVec 32 := Scalar.remsi arg1 c2_i32_48
  let c0_i32_53 : BitVec 32 := 0#32
  let v108 : BitVec 1 := Scalar.cmpi .ne v107 c0_i32_53
  let v109 : BitVec 1 := Scalar.andi v106 v108
  let v95 : BitVec 32 := Scalar.divsi arg1 c2_i32_48
  let c1_i32_54 : BitVec 32 := 1#32
  let v110 : BitVec 32 := Scalar.subi v95 c1_i32_54
  let v111 : BitVec 32 := Scalar.select v109 v110 v95
  let v112 : BitVec 32 := Scalar.subi v111 c0_i32_55
  let c1_i32_57 : BitVec 32 := 1#32
  let v114 : BitVec 32 := Scalar.divsi v112 c1_i32_57
  let v115 : BitVec 32 := Scalar.muli v114 c1_i32_57
  let v116 : BitVec 32 := Scalar.addi c0_i32_55 v115
  let c1_i32_59 : BitVec 32 := 1#32
  let arg8 : BitVec 32 := Scf.iv v116 c1_i32_59 k0_t4
  let v170 : BitVec 32 := Scalar.muli c2_i32_94 arg8
  let v171 : BitVec 32 := Scalar.subi v169 v170
  let c256_i32_95 : BitVec 32 := 256#32
  let v172 : BitVec 32 := Scalar.muli v171 c256_i32_95
  v172
def k0_off10 (i : grid0.Coords) (k0_t4 : Fin (k0_t4_loop i).trips) : Fin 3 → Nat :=
  let c0_96 : Index := 0#32
  let arg1 : BitVec 32 := BitVec.ofNat 32 (i 1).val
  let c2_i32_87 : BitVec 32 := 2#32
  let c0_i32_88 : BitVec 32 := 0#32
  let v158 : BitVec 1 := Scalar.cmpi .eq c2_i32_87 c0_i32_88
  let c1_i32_89 : BitVec 32 := 1#32
  let v159 : BitVec 32 := Scalar.select v158 c1_i32_89 c2_i32_87
  let v160 : BitVec 32 := Scalar.remsi arg1 v159
  let c0_i32_91 : BitVec 32 := 0#32
  let v162 : BitVec 1 := Scalar.cmpi .slt v160 c0_i32_91
  let c0_i32_92 : BitVec 32 := 0#32
  let v163 : BitVec 1 := Scalar.cmpi .slt v159 c0_i32_92
  let v164 : BitVec 1 := Scalar.xori v162 v163
  let c0_i32_90 : BitVec 32 := 0#32
  let v161 : BitVec 1 := Scalar.cmpi .ne v160 c0_i32_90
  let v165 : BitVec 1 := Scalar.andi v164 v161
  let v166 : BitVec 32 := Scalar.addi v160 v159
  let v167 : BitVec 32 := Scalar.select v165 v166 v160
  let v168 : BitVec 32 := Scalar.subi arg1 v167
  let c1_i32_93 : BitVec 32 := 1#32
  let v169 : BitVec 32 := Scalar.subi v168 c1_i32_93
  let c2_i32_94 : BitVec 32 := 2#32
  let c0_i32_55 : BitVec 32 := 0#32
  let c0_i32_49 : BitVec 32 := 0#32
  let v96 : BitVec 1 := Scalar.cmpi .sgt arg1 c0_i32_49
  let v97 : BitVec 32 := Scalar.extui v96
  let c0_i32_50 : BitVec 32 := 0#32
  let v98 : BitVec 1 := Scalar.cmpi .slt arg1 c0_i32_50
  let v99 : BitVec 32 := Scalar.extui v98
  let v100 : BitVec 32 := Scalar.subi v97 v99
  let c2_i32_48 : BitVec 32 := 2#32
  let c0_i32_51 : BitVec 32 := 0#32
  let v101 : BitVec 1 := Scalar.cmpi .sgt c2_i32_48 c0_i32_51
  let v102 : BitVec 32 := Scalar.extui v101
  let c0_i32_52 : BitVec 32 := 0#32
  let v103 : BitVec 1 := Scalar.cmpi .slt c2_i32_48 c0_i32_52
  let v104 : BitVec 32 := Scalar.extui v103
  let v105 : BitVec 32 := Scalar.subi v102 v104
  let v106 : BitVec 1 := Scalar.cmpi .ne v100 v105
  let v107 : BitVec 32 := Scalar.remsi arg1 c2_i32_48
  let c0_i32_53 : BitVec 32 := 0#32
  let v108 : BitVec 1 := Scalar.cmpi .ne v107 c0_i32_53
  let v109 : BitVec 1 := Scalar.andi v106 v108
  let v95 : BitVec 32 := Scalar.divsi arg1 c2_i32_48
  let c1_i32_54 : BitVec 32 := 1#32
  let v110 : BitVec 32 := Scalar.subi v95 c1_i32_54
  let v111 : BitVec 32 := Scalar.select v109 v110 v95
  let v112 : BitVec 32 := Scalar.subi v111 c0_i32_55
  let c1_i32_57 : BitVec 32 := 1#32
  let v114 : BitVec 32 := Scalar.divsi v112 c1_i32_57
  let v115 : BitVec 32 := Scalar.muli v114 c1_i32_57
  let v116 : BitVec 32 := Scalar.addi c0_i32_55 v115
  let c1_i32_59 : BitVec 32 := 1#32
  let arg8 : BitVec 32 := Scf.iv v116 c1_i32_59 k0_t4
  let v170 : BitVec 32 := Scalar.muli c2_i32_94 arg8
  let v171 : BitVec 32 := Scalar.subi v169 v170
  let c256_i32_95 : BitVec 32 := 256#32
  let v172 : BitVec 32 := Scalar.muli v171 c256_i32_95
  let v173 : BitVec 32 := v172
  let v174 : Index := Scalar.indexCast v173
  let c0_97 : Index := 0#32
  ![0, v174.toNat, 0]
def k0_mult11 (i : grid0.Coords) (k0_t4 : Fin (k0_t4_loop i).trips) : BitVec 32 :=
  let arg1 : BitVec 32 := BitVec.ofNat 32 (i 1).val
  let c2_i32_87 : BitVec 32 := 2#32
  let c0_i32_88 : BitVec 32 := 0#32
  let v158 : BitVec 1 := Scalar.cmpi .eq c2_i32_87 c0_i32_88
  let c1_i32_89 : BitVec 32 := 1#32
  let v159 : BitVec 32 := Scalar.select v158 c1_i32_89 c2_i32_87
  let v160 : BitVec 32 := Scalar.remsi arg1 v159
  let c0_i32_91 : BitVec 32 := 0#32
  let v162 : BitVec 1 := Scalar.cmpi .slt v160 c0_i32_91
  let c0_i32_92 : BitVec 32 := 0#32
  let v163 : BitVec 1 := Scalar.cmpi .slt v159 c0_i32_92
  let v164 : BitVec 1 := Scalar.xori v162 v163
  let c0_i32_90 : BitVec 32 := 0#32
  let v161 : BitVec 1 := Scalar.cmpi .ne v160 c0_i32_90
  let v165 : BitVec 1 := Scalar.andi v164 v161
  let v166 : BitVec 32 := Scalar.addi v160 v159
  let v167 : BitVec 32 := Scalar.select v165 v166 v160
  let v168 : BitVec 32 := Scalar.subi arg1 v167
  let c1_i32_93 : BitVec 32 := 1#32
  let v169 : BitVec 32 := Scalar.subi v168 c1_i32_93
  let c2_i32_94 : BitVec 32 := 2#32
  let c0_i32_55 : BitVec 32 := 0#32
  let c0_i32_49 : BitVec 32 := 0#32
  let v96 : BitVec 1 := Scalar.cmpi .sgt arg1 c0_i32_49
  let v97 : BitVec 32 := Scalar.extui v96
  let c0_i32_50 : BitVec 32 := 0#32
  let v98 : BitVec 1 := Scalar.cmpi .slt arg1 c0_i32_50
  let v99 : BitVec 32 := Scalar.extui v98
  let v100 : BitVec 32 := Scalar.subi v97 v99
  let c2_i32_48 : BitVec 32 := 2#32
  let c0_i32_51 : BitVec 32 := 0#32
  let v101 : BitVec 1 := Scalar.cmpi .sgt c2_i32_48 c0_i32_51
  let v102 : BitVec 32 := Scalar.extui v101
  let c0_i32_52 : BitVec 32 := 0#32
  let v103 : BitVec 1 := Scalar.cmpi .slt c2_i32_48 c0_i32_52
  let v104 : BitVec 32 := Scalar.extui v103
  let v105 : BitVec 32 := Scalar.subi v102 v104
  let v106 : BitVec 1 := Scalar.cmpi .ne v100 v105
  let v107 : BitVec 32 := Scalar.remsi arg1 c2_i32_48
  let c0_i32_53 : BitVec 32 := 0#32
  let v108 : BitVec 1 := Scalar.cmpi .ne v107 c0_i32_53
  let v109 : BitVec 1 := Scalar.andi v106 v108
  let v95 : BitVec 32 := Scalar.divsi arg1 c2_i32_48
  let c1_i32_54 : BitVec 32 := 1#32
  let v110 : BitVec 32 := Scalar.subi v95 c1_i32_54
  let v111 : BitVec 32 := Scalar.select v109 v110 v95
  let v112 : BitVec 32 := Scalar.subi v111 c0_i32_55
  let c1_i32_57 : BitVec 32 := 1#32
  let v114 : BitVec 32 := Scalar.divsi v112 c1_i32_57
  let v115 : BitVec 32 := Scalar.muli v114 c1_i32_57
  let v116 : BitVec 32 := Scalar.addi c0_i32_55 v115
  let c1_i32_59 : BitVec 32 := 1#32
  let arg8 : BitVec 32 := Scf.iv v116 c1_i32_59 k0_t4
  let v170 : BitVec 32 := Scalar.muli c2_i32_94 arg8
  let v171 : BitVec 32 := Scalar.subi v169 v170
  let c1_i32_106 : BitVec 32 := 1#32
  let v189 : BitVec 32 := Scalar.subi v171 c1_i32_106
  let c256_i32_107 : BitVec 32 := 256#32
  let v190 : BitVec 32 := Scalar.muli v189 c256_i32_107
  v190
def k0_off11 (i : grid0.Coords) (k0_t4 : Fin (k0_t4_loop i).trips) : Fin 3 → Nat :=
  let c0_108 : Index := 0#32
  let arg1 : BitVec 32 := BitVec.ofNat 32 (i 1).val
  let c2_i32_87 : BitVec 32 := 2#32
  let c0_i32_88 : BitVec 32 := 0#32
  let v158 : BitVec 1 := Scalar.cmpi .eq c2_i32_87 c0_i32_88
  let c1_i32_89 : BitVec 32 := 1#32
  let v159 : BitVec 32 := Scalar.select v158 c1_i32_89 c2_i32_87
  let v160 : BitVec 32 := Scalar.remsi arg1 v159
  let c0_i32_91 : BitVec 32 := 0#32
  let v162 : BitVec 1 := Scalar.cmpi .slt v160 c0_i32_91
  let c0_i32_92 : BitVec 32 := 0#32
  let v163 : BitVec 1 := Scalar.cmpi .slt v159 c0_i32_92
  let v164 : BitVec 1 := Scalar.xori v162 v163
  let c0_i32_90 : BitVec 32 := 0#32
  let v161 : BitVec 1 := Scalar.cmpi .ne v160 c0_i32_90
  let v165 : BitVec 1 := Scalar.andi v164 v161
  let v166 : BitVec 32 := Scalar.addi v160 v159
  let v167 : BitVec 32 := Scalar.select v165 v166 v160
  let v168 : BitVec 32 := Scalar.subi arg1 v167
  let c1_i32_93 : BitVec 32 := 1#32
  let v169 : BitVec 32 := Scalar.subi v168 c1_i32_93
  let c2_i32_94 : BitVec 32 := 2#32
  let c0_i32_55 : BitVec 32 := 0#32
  let c0_i32_49 : BitVec 32 := 0#32
  let v96 : BitVec 1 := Scalar.cmpi .sgt arg1 c0_i32_49
  let v97 : BitVec 32 := Scalar.extui v96
  let c0_i32_50 : BitVec 32 := 0#32
  let v98 : BitVec 1 := Scalar.cmpi .slt arg1 c0_i32_50
  let v99 : BitVec 32 := Scalar.extui v98
  let v100 : BitVec 32 := Scalar.subi v97 v99
  let c2_i32_48 : BitVec 32 := 2#32
  let c0_i32_51 : BitVec 32 := 0#32
  let v101 : BitVec 1 := Scalar.cmpi .sgt c2_i32_48 c0_i32_51
  let v102 : BitVec 32 := Scalar.extui v101
  let c0_i32_52 : BitVec 32 := 0#32
  let v103 : BitVec 1 := Scalar.cmpi .slt c2_i32_48 c0_i32_52
  let v104 : BitVec 32 := Scalar.extui v103
  let v105 : BitVec 32 := Scalar.subi v102 v104
  let v106 : BitVec 1 := Scalar.cmpi .ne v100 v105
  let v107 : BitVec 32 := Scalar.remsi arg1 c2_i32_48
  let c0_i32_53 : BitVec 32 := 0#32
  let v108 : BitVec 1 := Scalar.cmpi .ne v107 c0_i32_53
  let v109 : BitVec 1 := Scalar.andi v106 v108
  let v95 : BitVec 32 := Scalar.divsi arg1 c2_i32_48
  let c1_i32_54 : BitVec 32 := 1#32
  let v110 : BitVec 32 := Scalar.subi v95 c1_i32_54
  let v111 : BitVec 32 := Scalar.select v109 v110 v95
  let v112 : BitVec 32 := Scalar.subi v111 c0_i32_55
  let c1_i32_57 : BitVec 32 := 1#32
  let v114 : BitVec 32 := Scalar.divsi v112 c1_i32_57
  let v115 : BitVec 32 := Scalar.muli v114 c1_i32_57
  let v116 : BitVec 32 := Scalar.addi c0_i32_55 v115
  let c1_i32_59 : BitVec 32 := 1#32
  let arg8 : BitVec 32 := Scf.iv v116 c1_i32_59 k0_t4
  let v170 : BitVec 32 := Scalar.muli c2_i32_94 arg8
  let v171 : BitVec 32 := Scalar.subi v169 v170
  let c1_i32_106 : BitVec 32 := 1#32
  let v189 : BitVec 32 := Scalar.subi v171 c1_i32_106
  let c256_i32_107 : BitVec 32 := 256#32
  let v190 : BitVec 32 := Scalar.muli v189 c256_i32_107
  let v191 : BitVec 32 := v190
  let v192 : Index := Scalar.indexCast v191
  let c0_109 : Index := 0#32
  ![0, v192.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x8192x4x128 : Shape := ⟨4, ![2, 8192, 4, 128]⟩
abbrev S2x8192x4x32 : Shape := ⟨4, ![2, 8192, 4, 32]⟩
abbrev S2x8192x160 : Shape := ⟨3, ![2, 8192, 160]⟩
abbrev S128x4x64 : Shape := ⟨3, ![128, 4, 64]⟩
abbrev S2x8192x128 : Shape := ⟨3, ![2, 8192, 128]⟩
abbrev S2x8192x32 : Shape := ⟨3, ![2, 8192, 32]⟩
abbrev S8192 : Shape := ⟨1, ![8192]⟩
abbrev S2x8192x4x8192 : Shape := ⟨4, ![2, 8192, 4, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S8192x1x8192 : Shape := ⟨3, ![8192, 1, 8192]⟩
abbrev S2x8192x4 : Shape := ⟨3, ![2, 8192, 4]⟩
abbrev S2x8192x4x1 : Shape := ⟨4, ![2, 8192, 4, 1]⟩
abbrev S4x64x2x8192 : Shape := ⟨4, ![4, 64, 2, 8192]⟩
abbrev S2x8192x4x64 : Shape := ⟨4, ![2, 8192, 4, 64]⟩

abbrev nBuf : Space → Nat
  | .hbm => 57
  | .vmem => 0
  | .smem => 0
  | _ => 0

abbrev bufTy : (tb : Table) → Fin (tcTables nBuf tb) → BufTy
  | .hbm, ⟨0, _⟩ => ⟨S2x8192x4x128, .f32⟩
  | .hbm, ⟨1, _⟩ => ⟨S2x8192x4x32, .f32⟩
  | .hbm, ⟨2, _⟩ => ⟨S2x8192x160, .f32⟩
  | .hbm, ⟨3, _⟩ => ⟨S128x4x64, .f32⟩
  | .hbm, ⟨4, _⟩ => ⟨S2x8192x128, .f32⟩
  | .hbm, ⟨5, _⟩ => ⟨S2x8192x32, .f32⟩
  | .hbm, ⟨6, _⟩ => ⟨S8192, .i32⟩
  | .hbm, ⟨7, _⟩ => ⟨S2x8192x4x8192, .f32⟩
  | .hbm, ⟨8, _⟩ => ⟨S2x8192x4x8192, .f32⟩
  | .hbm, ⟨9, _⟩ => ⟨S2x8192x4x8192, .f32⟩
  | .hbm, ⟨10, _⟩ => ⟨S_, .f32⟩
  | .hbm, ⟨11, _⟩ => ⟨S2x8192x4x8192, .f32⟩
  | .hbm, ⟨12, _⟩ => ⟨S2x8192x4x8192, .f32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S8192x1x8192, .i1⟩
  | .hbm, ⟨19, _⟩ => ⟨S_, .f32⟩
  | .hbm, ⟨20, _⟩ => ⟨S_, .f32⟩
  | .hbm, ⟨21, _⟩ => ⟨S2x8192x4x8192, .i1⟩
  | .hbm, ⟨22, _⟩ => ⟨S2x8192x4x8192, .f32⟩
  | .hbm, ⟨23, _⟩ => ⟨S2x8192x4x8192, .f32⟩
  | .hbm, ⟨24, _⟩ => ⟨S_, .f32⟩
  | .hbm, ⟨25, _⟩ => ⟨S2x8192x4, .f32⟩
  | .hbm, ⟨26, _⟩ => ⟨S2x8192x4x1, .f32⟩
  | .hbm, ⟨27, _⟩ => ⟨S_, .f32⟩
  | .hbm, ⟨28, _⟩ => ⟨S2x8192x4x1, .f32⟩
  | .hbm, ⟨29, _⟩ => ⟨S2x8192x4x1, .i1⟩
  | .hbm, ⟨30, _⟩ => ⟨S_, .f32⟩
  | .hbm, ⟨31, _⟩ => ⟨S2x8192x4x1, .f32⟩
  | .hbm, ⟨32, _⟩ => ⟨S2x8192x4x1, .i1⟩
  | .hbm, ⟨33, _⟩ => ⟨S2x8192x4x1, .i1⟩
  | .hbm, ⟨34, _⟩ => ⟨S_, .f32⟩
  | .hbm, ⟨35, _⟩ => ⟨S_, .f32⟩
  | .hbm, ⟨36, _⟩ => ⟨S2x8192x4x1, .f32⟩
  | .hbm, ⟨37, _⟩ => ⟨S2x8192x4x1, .f32⟩
  | .hbm, ⟨38, _⟩ => ⟨S2x8192x4x8192, .f32⟩
  | .hbm, ⟨39, _⟩ => ⟨S2x8192x4x8192, .f32⟩
  | .hbm, ⟨40, _⟩ => ⟨S2x8192x4x8192, .f32⟩
  | .hbm, ⟨41, _⟩ => ⟨S_, .f32⟩
  | .hbm, ⟨42, _⟩ => ⟨S_, .f32⟩
  | .hbm, ⟨43, _⟩ => ⟨S2x8192x4x8192, .i1⟩
  | .hbm, ⟨44, _⟩ => ⟨S2x8192x4x8192, .f32⟩
  | .hbm, ⟨45, _⟩ => ⟨S2x8192x4x8192, .f32⟩
  | .hbm, ⟨46, _⟩ => ⟨S_, .f32⟩
  | .hbm, ⟨47, _⟩ => ⟨S2x8192x4, .f32⟩
  | .hbm, ⟨48, _⟩ => ⟨S2x8192x4x1, .f32⟩
  | .hbm, ⟨49, _⟩ => ⟨S_, .f32⟩
  | .hbm, ⟨50, _⟩ => ⟨S2x8192x4x1, .f32⟩
  | .hbm, ⟨51, _⟩ => ⟨S2x8192x4x1, .f32⟩
  | .hbm, ⟨52, _⟩ => ⟨S2x8192x4x8192, .f32⟩
  | .hbm, ⟨53, _⟩ => ⟨S2x8192x4x8192, .f32⟩
  | .hbm, ⟨54, _⟩ => ⟨S2x8192x4x128, .f32⟩
  | .hbm, ⟨55, _⟩ => ⟨S4x64x2x8192, .f32⟩
  | .hbm, ⟨56, _⟩ => ⟨S2x8192x4x64, .f32⟩
  | _, _ => ⟨S2x8192x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== SbKernel.lean ====
abbrev S2x8192x4x64 : Shape := ⟨4, ![2, 8192, 4, 64]⟩
abbrev S2x8192x2x2x64 : Shape := ⟨5, ![2, 8192, 2, 2, 64]⟩
abbrev S256x384 : Shape := ⟨2, ![256, 384]⟩
abbrev S_ : Shape := ⟨0, ![]⟩
abbrev S2x8192x4x128 : Shape := ⟨4, ![2, 8192, 4, 128]⟩
abbrev S2x8192x512 : Shape := ⟨3, ![2, 8192, 512]⟩
abbrev S2x8192x256 : Shape := ⟨3, ![2, 8192, 256]⟩
abbrev S1x256x512 : Shape := ⟨3, ![1, 256, 512]⟩
abbrev S1x8192x256 : Shape := ⟨3, ![1, 8192, 256]⟩
abbrev S2x512x128 : Shape := ⟨3, ![2, 512, 128]⟩
abbrev S512x256 : Shape := ⟨2, ![512, 256]⟩
abbrev S1x256x128 : Shape := ⟨3, ![1, 256, 128]⟩
abbrev S256x128 : Shape := ⟨2, ![256, 128]⟩
abbrev S512x128 : Shape := ⟨2, ![512, 128]⟩
abbrev S512x384 : Shape := ⟨2, ![512, 384]⟩
abbrev S1x512x128 : Shape := ⟨3, ![1, 512, 128]⟩

abbrev nBuf : Space → Nat
  | .hbm => 17
  | .vmem => 9
  | .smem => 0
  | _ => 0

abbrev bufTy : (tb : Table) → Fin (tcTables nBuf tb) → BufTy
  | .hbm, ⟨0, _⟩ => ⟨S2x8192x4x64, .f32⟩
  | .hbm, ⟨1, _⟩ => ⟨S2x8192x2x2x64, .f32⟩
  | .hbm, ⟨2, _⟩ => ⟨S256x384, .bf16⟩
  | .hbm, ⟨3, _⟩ => ⟨S_, .i32⟩
  | .hbm, ⟨4, _⟩ => ⟨S_, .f32⟩
  | .hbm, ⟨5, _⟩ => ⟨S2x8192x4x128, .f32⟩
  | .hbm, ⟨6, _⟩ => ⟨S2x8192x512, .f32⟩
  | .hbm, ⟨7, _⟩ => ⟨S_, .f32⟩
  | .hbm, ⟨8, _⟩ => ⟨S2x8192x512, .f32⟩
  | .hbm, ⟨9, _⟩ => ⟨S2x8192x512, .f32⟩
  | .hbm, ⟨10, _⟩ => ⟨S2x8192x512, .bf16⟩
  | .hbm, ⟨11, _⟩ => ⟨S2x8192x256, .f32⟩
  | .hbm, ⟨12, _⟩ => ⟨S2x8192x256, .bf16⟩
  | .hbm, ⟨13, _⟩ => ⟨S2x8192x512, .bf16⟩
  | .hbm, ⟨14, _⟩ => ⟨S2x8192x4x128, .bf16⟩
  | .hbm, ⟨15, _⟩ => ⟨S2x8192x4x64, .bf16⟩
  | .hbm, ⟨16, _⟩ => ⟨S2x8192x4x64, .f32⟩
  | .local _ .vmem, ⟨0, _⟩ => ⟨S1x256x512, .bf16⟩
  | .local _ .vmem, ⟨1, _⟩ => ⟨S1x256x512, .bf16⟩
  | .local _ .vmem, ⟨2, _⟩ => ⟨S1x8192x256, .bf16⟩
  | .local _ .vmem, ⟨3, _⟩ => ⟨S1x8192x256, .bf16⟩
  | .local _ .vmem, ⟨4, _⟩ => ⟨S256x384, .bf16⟩
  | .local _ .vmem, ⟨5, _⟩ => ⟨S1x256x512, .bf16⟩
  | .local _ .vmem, ⟨6, _⟩ => ⟨S1x256x512, .bf16⟩
  | .local _ .vmem, ⟨7, _⟩ => ⟨S2x512x128, .f32⟩
  | .local _ .vmem, ⟨8, _⟩ => ⟨S2x512x128, .f32⟩
  | _, _ => ⟨S2x8192x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

def k0_mult1 (i : grid0.Coords) : BitVec 32 :=
  let arg1 : BitVec 32 := BitVec.ofNat 32 (i 1).val
  let c256_i32 : BitVec 32 := 256#32
  let v14 : BitVec 32 := Scalar.muli arg1 c256_i32
  v14
def k0_off1 (i : grid0.Coords) : Fin 3 → Nat :=
  let c0_8 : Index := 0#32
  let arg1 : BitVec 32 := BitVec.ofNat 32 (i 1).val
  let c256_i32 : BitVec 32 := 256#32
  let v14 : BitVec 32 := Scalar.muli arg1 c256_i32
  let v15 : BitVec 32 := v14
  let v16 : Index := Scalar.indexCast v15
  let c0_9 : Index := 0#32
  ![0, v16.toNat, 0]
def k0_mult2 (i : grid0.Coords) : BitVec 32 :=
  let arg1 : BitVec 32 := BitVec.ofNat 32 (i 1).val
  let c256_i32_28 : BitVec 32 := 256#32
  let v62 : BitVec 32 := Scalar.muli arg1 c256_i32_28
  v62
def k0_off2 (i : grid0.Coords) : Fin 3 → Nat :=
  let c0_29 : Index := 0#32
  let arg1 : BitVec 32 := BitVec.ofNat 32 (i 1).val
  let c256_i32_28 : BitVec 32 := 256#32
  let v62 : BitVec 32 := Scalar.muli arg1 c256_i32_28
  let v63 : BitVec 32 := v62
  let v64 : Index := Scalar.indexCast v63
  let c128_30 : Index := 128#32
  ![0, v64.toNat, 128]
def k0_cond1 (i : grid0.Coords) : BitVec 1 :=
  let arg1 : BitVec 32 := BitVec.ofNat 32 (i 1).val
  let c2_i32 : BitVec 32 := 2#32
  let c0_i32 : BitVec 32 := 0#32
  let v110 : BitVec 1 := Scalar.cmpi .eq c2_i32 c0_i32
  let c1_i32 : BitVec 32 := 1#32
  let v111 : BitVec 32 := Scalar.select v110 c1_i32 c2_i32
  let v112 : BitVec 32 := Scalar.remsi arg1 v111
  let c0_i32_50 : BitVec 32 := 0#32
  let v114 : BitVec 1 := Scalar.cmpi .slt v112 c0_i32_50
  let c0_i32_51 : BitVec 32 := 0#32
  let v115 : BitVec 1 := Scalar.cmpi .slt v111 c0_i32_51
  let v116 : BitVec 1 := Scalar.xori v114 v115
  let c0_i32_49 : BitVec 32 := 0#32
  let v113 : BitVec 1 := Scalar.cmpi .ne v112 c0_i32_49
  let v117 : BitVec 1 := Scalar.andi v116 v113
  let v118 : BitVec 32 := Scalar.addi v112 v111
  let v119 : BitVec 32 := Scalar.select v117 v118 v112
  let c1_i32_52 : BitVec 32 := 1#32
  let v120 : BitVec 1 := Scalar.cmpi .eq v119 c1_i32_52
  let v121 : BitVec 32 := Scalar.extui v120
  let c0_i32_53 : BitVec 32 := 0#32
  let v122 : BitVec 1 := Scalar.cmpi .ne v121 c0_i32_53
  v122

def k0_mult3 (i : grid0.Coords) : BitVec 32 :=
  let arg1 : BitVec 32 := BitVec.ofNat 32 (i 1).val
  let c1_i32_84 : BitVec 32 := 1#32
  let v169 : BitVec 32 := Scalar.subi arg1 c1_i32_84
  let c256_i32_85 : BitVec 32 := 256#32
  let v170 : BitVec 32 := Scalar.muli v169 c256_i32_85
  v170
def k0_off3 (i : grid0.Coords) : Fin 3 → Nat :=
  let c0_86 : Index := 0#32
  let arg1 : BitVec 32 := BitVec.ofNat 32 (i 1).val
  let c1_i32_84 : BitVec 32 := 1#32
  let v169 : BitVec 32 := Scalar.subi arg1 c1_i32_84
  let c256_i32_85 : BitVec 32 := 256#32
  let v170 : BitVec 32 := Scalar.muli v169 c256_i32_85
  let v171 : BitVec 32 := v170
  let v172 : Index := Scalar.indexCast v171
  let c0_87 : Index := 0#32
  ![0, v172.toNat, 0]
def k0_mult4 (i : grid0.Coords) : BitVec 32 :=
  let arg1 : BitVec 32 := BitVec.ofNat 32 (i 1).val
  let c1_i32_84 : BitVec 32 := 1#32
  let v169 : BitVec 32 := Scalar.subi arg1 c1_i32_84
  let c256_i32_110 : BitVec 32 := 256#32
  let v217 : BitVec 32 := Scalar.muli v169 c256_i32_110
  v217
def k0_off4 (i : grid0.Coords) : Fin 3 → Nat :=
  let c0_111 : Index := 0#32
  let arg1 : BitVec 32 := BitVec.ofNat 32 (i 1).val
  let c1_i32_84 : BitVec 32 := 1#32
  let v169 : BitVec 32 := Scalar.subi arg1 c1_i32_84
  let c256_i32_110 : BitVec 32 := 256#32
  let v217 : BitVec 32 := Scalar.muli v169 c256_i32_110
  let v218 : BitVec 32 := v217
  let v219 : Index := Scalar.indexCast v218
  let c128_112 : Index := 128#32
  ![0, v219.toNat, 128]
@[reducible] def k0_t1_loop (i : grid0.Coords) : Scf.Loop 32 :=
  let c0_i32_61 : BitVec 32 := 0#32
  let arg1 : BitVec 32 := BitVec.ofNat 32 (i 1).val
  let c0_i32_55 : BitVec 32 := 0#32
  let v124 : BitVec 1 := Scalar.cmpi .sgt arg1 c0_i32_55
  let v125 : BitVec 32 := Scalar.extui v124
  let c0_i32_56 : BitVec 32 := 0#32
  let v126 : BitVec 1 := Scalar.cmpi .slt arg1 c0_i32_56
  let v127 : BitVec 32 := Scalar.extui v126
  let v128 : BitVec 32 := Scalar.subi v125 v127
  let c2_i32_54 : BitVec 32 := 2#32
  let c0_i32_57 : BitVec 32 := 0#32
  let v129 : BitVec 1 := Scalar.cmpi .sgt c2_i32_54 c0_i32_57
  let v130 : BitVec 32 := Scalar.extui v129
  let c0_i32_58 : BitVec 32 := 0#32
  let v131 : BitVec 1 := Scalar.cmpi .slt c2_i32_54 c0_i32_58
  let v132 : BitVec 32 := Scalar.extui v131
  let v133 : BitVec 32 := Scalar.subi v130 v132
  let v134 : BitVec 1 := Scalar.cmpi .ne v128 v133
  let v135 : BitVec 32 := Scalar.remsi arg1 c2_i32_54
  let c0_i32_59 : BitVec 32 := 0#32
  let v136 : BitVec 1 := Scalar.cmpi .ne v135 c0_i32_59
  let v137 : BitVec 1 := Scalar.andi v134 v136
  let v123 : BitVec 32 := Scalar.divsi arg1 c2_i32_54
  let c1_i32_60 : BitVec 32 := 1#32
  let v138 : BitVec 32 := Scalar.subi v123 c1_i32_60
  let v139 : BitVec 32 := Scalar.select v137 v138 v123
  let v140 : BitVec 32 := Scalar.subi v139 c0_i32_61
  let c1_i32_63 : BitVec 32 := 1#32
  let v142 : BitVec 32 := Scalar.divsi v140 c1_i32_63
  let v143 : BitVec 32 := Scalar.muli v142 c1_i32_63
  let v144 : BitVec 32 := Scalar.addi c0_i32_61 v143
  let c1_i32_64 : BitVec 32 := 1#32
  ⟨c0_i32_61, v144, c1_i32_64⟩
def k0_mult5 (i : grid0.Coords) (k0_t1 : Fin (k0_t1_loop i).trips) : BitVec 32 :=
  let arg1 : BitVec 32 := BitVec.ofNat 32 (i 1).val
  let c2_i32_84 : BitVec 32 := 2#32
  let c0_i32_85 : BitVec 32 := 0#32
  let v169 : BitVec 1 := Scalar.cmpi .eq c2_i32_84 c0_i32_85
  let c1_i32_86 : BitVec 32 := 1#32
  let v170 : BitVec 32 := Scalar.select v169 c1_i32_86 c2_i32_84
  let v171 : BitVec 32 := Scalar.remsi arg1 v170
  let c0_i32_88 : BitVec 32 := 0#32
  let v173 : BitVec 1 := Scalar.cmpi .slt v171 c0_i32_88
  let c0_i32_89 : BitVec 32 := 0#32
  let v174 : BitVec 1 := Scalar.cmpi .slt v170 c0_i32_89
  let v175 : BitVec 1 := Scalar.xori v173 v174
  let c0_i32_87 : BitVec 32 := 0#32
  let v172 : BitVec 1 := Scalar.cmpi .ne v171 c0_i32_87
  let v176 : BitVec 1 := Scalar.andi v175 v172
  let v177 : BitVec 32 := Scalar.addi v171 v170
  let v178 : BitVec 32 := Scalar.select v176 v177 v171
  let v179 : BitVec 32 := Scalar.subi arg1 v178
  let c1_i32_90 : BitVec 32 := 1#32
  let v180 : BitVec 32 := Scalar.subi v179 c1_i32_90
  let c2_i32_91 : BitVec 32 := 2#32
  let c0_i32_61 : BitVec 32 := 0#32
  let c1_i32_64 : BitVec 32 := 1#32
  let arg8 : BitVec 32 := Scf.iv c0_i32_61 c1_i32_64 k0_t1
  let v181 : BitVec 32 := Scalar.muli c2_i32_91 arg8
  let v182 : BitVec 32 := Scalar.subi v180 v181
  let c256_i32_92 : BitVec 32 := 256#32
  let v183 : BitVec 32 := Scalar.muli v182 c256_i32_92
  v183
def k0_off5 (i : grid0.Coords) (k0_t1 : Fin (k0_t1_loop i).trips) : Fin 3 → Nat :=
  let c0_93 : Index := 0#32
  let arg1 : BitVec 32 := BitVec.ofNat 32 (i 1).val
  let c2_i32_84 : BitVec 32 := 2#32
  let c0_i32_85 : BitVec 32 := 0#32
  let v169 : BitVec 1 := Scalar.cmpi .eq c2_i32_84 c0_i32_85
  let c1_i32_86 : BitVec 32 := 1#32
  let v170 : BitVec 32 := Scalar.select v169 c1_i32_86 c2_i32_84
  let v171 : BitVec 32 := Scalar.remsi arg1 v170
  let c0_i32_88 : BitVec 32 := 0#32
  let v173 : BitVec 1 := Scalar.cmpi .slt v171 c0_i32_88
  let c0_i32_89 : BitVec 32 := 0#32
  let v174 : BitVec 1 := Scalar.cmpi .slt v170 c0_i32_89
  let v175 : BitVec 1 := Scalar.xori v173 v174
  let c0_i32_87 : BitVec 32 := 0#32
  let v172 : BitVec 1 := Scalar.cmpi .ne v171 c0_i32_87
  let v176 : BitVec 1 := Scalar.andi v175 v172
  let v177 : BitVec 32 := Scalar.addi v171 v170
  let v178 : BitVec 32 := Scalar.select v176 v177 v171
  let v179 : BitVec 32 := Scalar.subi arg1 v178
  let c1_i32_90 : BitVec 32 := 1#32
  let v180 : BitVec 32 := Scalar.subi v179 c1_i32_90
  let c2_i32_91 : BitVec 32 := 2#32
  let c0_i32_61 : BitVec 32 := 0#32
  let c1_i32_64 : BitVec 32 := 1#32
  let arg8 : BitVec 32 := Scf.iv c0_i32_61 c1_i32_64 k0_t1
  let v181 : BitVec 32 := Scalar.muli c2_i32_91 arg8
  let v182 : BitVec 32 := Scalar.subi v180 v181
  let c256_i32_92 : BitVec 32 := 256#32
  let v183 : BitVec 32 := Scalar.muli v182 c256_i32_92
  let v184 : BitVec 32 := v183
  let v185 : Index := Scalar.indexCast v184
  let c0_94 : Index := 0#32
  ![0, v185.toNat, 0]
def k0_mult6 (i : grid0.Coords) (k0_t1 : Fin (k0_t1_loop i).trips) : BitVec 32 :=
  let arg1 : BitVec 32 := BitVec.ofNat 32 (i 1).val
  let c2_i32_84 : BitVec 32 := 2#32
  let c0_i32_85 : BitVec 32 := 0#32
  let v169 : BitVec 1 := Scalar.cmpi .eq c2_i32_84 c0_i32_85
  let c1_i32_86 : BitVec 32 := 1#32
  let v170 : BitVec 32 := Scalar.select v169 c1_i32_86 c2_i32_84
  let v171 : BitVec 32 := Scalar.remsi arg1 v170
  let c0_i32_88 : BitVec 32 := 0#32
  let v173 : BitVec 1 := Scalar.cmpi .slt v171 c0_i32_88
  let c0_i32_89 : BitVec 32 := 0#32
  let v174 : BitVec 1 := Scalar.cmpi .slt v170 c0_i32_89
  let v175 : BitVec 1 := Scalar.xori v173 v174
  let c0_i32_87 : BitVec 32 := 0#32
  let v172 : BitVec 1 := Scalar.cmpi .ne v171 c0_i32_87
  let v176 : BitVec 1 := Scalar.andi v175 v172
  let v177 : BitVec 32 := Scalar.addi v171 v170
  let v178 : BitVec 32 := Scalar.select v176 v177 v171
  let v179 : BitVec 32 := Scalar.subi arg1 v178
  let c1_i32_90 : BitVec 32 := 1#32
  let v180 : BitVec 32 := Scalar.subi v179 c1_i32_90
  let c2_i32_91 : BitVec 32 := 2#32
  let c0_i32_61 : BitVec 32 := 0#32
  let c1_i32_64 : BitVec 32 := 1#32
  let arg8 : BitVec 32 := Scf.iv c0_i32_61 c1_i32_64 k0_t1
  let v181 : BitVec 32 := Scalar.muli c2_i32_91 arg8
  let v182 : BitVec 32 := Scalar.subi v180 v181
  let c256_i32_117 : BitVec 32 := 256#32
  let v230 : BitVec 32 := Scalar.muli v182 c256_i32_117
  v230
def k0_off6 (i : grid0.Coords) (k0_t1 : Fin (k0_t1_loop i).trips) : Fin 3 → Nat :=
  let c0_118 : Index := 0#32
  let arg1 : BitVec 32 := BitVec.ofNat 32 (i 1).val
  let c2_i32_84 : BitVec 32 := 2#32
  let c0_i32_85 : BitVec 32 := 0#32
  let v169 : BitVec 1 := Scalar.cmpi .eq c2_i32_84 c0_i32_85
  let c1_i32_86 : BitVec 32 := 1#32
  let v170 : BitVec 32 := Scalar.select v169 c1_i32_86 c2_i32_84
  let v171 : BitVec 32 := Scalar.remsi arg1 v170
  let c0_i32_88 : BitVec 32 := 0#32
  let v173 : BitVec 1 := Scalar.cmpi .slt v171 c0_i32_88
  let c0_i32_89 : BitVec 32 := 0#32
  let v174 : BitVec 1 := Scalar.cmpi .slt v170 c0_i32_89
  let v175 : BitVec 1 := Scalar.xori v173 v174
  let c0_i32_87 : BitVec 32 := 0#32
  let v172 : BitVec 1 := Scalar.cmpi .ne v171 c0_i32_87
  let v176 : BitVec 1 := Scalar.andi v175 v172
  let v177 : BitVec 32 := Scalar.addi v171 v170
  let v178 : BitVec 32 := Scalar.select v176 v177 v171
  let v179 : BitVec 32 := Scalar.subi arg1 v178
  let c1_i32_90 : BitVec 32 := 1#32
  let v180 : BitVec 32 := Scalar.subi v179 c1_i32_90
  let c2_i32_91 : BitVec 32 := 2#32
  let c0_i32_61 : BitVec 32 := 0#32
  let c1_i32_64 : BitVec 32 := 1#32
  let arg8 : BitVec 32 := Scf.iv c0_i32_61 c1_i32_64 k0_t1
  let v181 : BitVec 32 := Scalar.muli c2_i32_91 arg8
  let v182 : BitVec 32 := Scalar.subi v180 v181
  let c256_i32_117 : BitVec 32 := 256#32
  let v230 : BitVec 32 := Scalar.muli v182 c256_i32_117
  let v231 : BitVec 32 := v230
  let v232 : Index := Scalar.indexCast v231
  let c128_119 : Index := 128#32
  ![0, v232.toNat, 128]
def k0_mult7 (i : grid0.Coords) (k0_t1 : Fin (k0_t1_loop i).trips) : BitVec 32 :=
  let arg1 : BitVec 32 := BitVec.ofNat 32 (i 1).val
  let c2_i32_84 : BitVec 32 := 2#32
  let c0_i32_85 : BitVec 32 := 0#32
  let v169 : BitVec 1 := Scalar.cmpi .eq c2_i32_84 c0_i32_85
  let c1_i32_86 : BitVec 32 := 1#32
  let v170 : BitVec 32 := Scalar.select v169 c1_i32_86 c2_i32_84
  let v171 : BitVec 32 := Scalar.remsi arg1 v170
  let c0_i32_88 : BitVec 32 := 0#32
  let v173 : BitVec 1 := Scalar.cmpi .slt v171 c0_i32_88
  let c0_i32_89 : BitVec 32 := 0#32
  let v174 : BitVec 1 := Scalar.cmpi .slt v170 c0_i32_89
  let v175 : BitVec 1 := Scalar.xori v173 v174
  let c0_i32_87 : BitVec 32 := 0#32
  let v172 : BitVec 1 := Scalar.cmpi .ne v171 c0_i32_87
  let v176 : BitVec 1 := Scalar.andi v175 v172
  let v177 : BitVec 32 := Scalar.addi v171 v170
  let v178 : BitVec 32 := Scalar.select v176 v177 v171
  let v179 : BitVec 32 := Scalar.subi arg1 v178
  let c1_i32_90 : BitVec 32 := 1#32
  let v180 : BitVec 32 := Scalar.subi v179 c1_i32_90
  let c2_i32_91 : BitVec 32 := 2#32
  let c0_i32_61 : BitVec 32 := 0#32
  let c1_i32_64 : BitVec 32 := 1#32
  let arg8 : BitVec 32 := Scf.iv c0_i32_61 c1_i32_64 k0_t1
  let v181 : BitVec 32 := Scalar.muli c2_i32_91 arg8
  let v182 : BitVec 32 := Scalar.subi v180 v181
  let c1_i32_142 : BitVec 32 := 1#32
  let v277 : BitVec 32 := Scalar.subi v182 c1_i32_142
  let c256_i32_143 : BitVec 32 := 256#32
  let v278 : BitVec 32 := Scalar.muli v277 c256_i32_143
  v278
def k0_off7 (i : grid0.Coords) (k0_t1 : Fin (k0_t1_loop i).trips) : Fin 3 → Nat :=
  let c0_144 : Index := 0#32
  let arg1 : BitVec 32 := BitVec.ofNat 32 (i 1).val
  let c2_i32_84 : BitVec 32 := 2#32
  let c0_i32_85 : BitVec 32 := 0#32
  let v169 : BitVec 1 := Scalar.cmpi .eq c2_i32_84 c0_i32_85
  let c1_i32_86 : BitVec 32 := 1#32
  let v170 : BitVec 32 := Scalar.select v169 c1_i32_86 c2_i32_84
  let v171 : BitVec 32 := Scalar.remsi arg1 v170
  let c0_i32_88 : BitVec 32 := 0#32
  let v173 : BitVec 1 := Scalar.cmpi .slt v171 c0_i32_88
  let c0_i32_89 : BitVec 32 := 0#32
  let v174 : BitVec 1 := Scalar.cmpi .slt v170 c0_i32_89
  let v175 : BitVec 1 := Scalar.xori v173 v174
  let c0_i32_87 : BitVec 32 := 0#32
  let v172 : BitVec 1 := Scalar.cmpi .ne v171 c0_i32_87
  let v176 : BitVec 1 := Scalar.andi v175 v172
  let v177 : BitVec 32 := Scalar.addi v171 v170
  let v178 : BitVec 32 := Scalar.select v176 v177 v171
  let v179 : BitVec 32 := Scalar.subi arg1 v178
  let c1_i32_90 : BitVec 32 := 1#32
  let v180 : BitVec 32 := Scalar.subi v179 c1_i32_90
  let c2_i32_91 : BitVec 32 := 2#32
  let c0_i32_61 : BitVec 32 := 0#32
  let c1_i32_64 : BitVec 32 := 1#32
  let arg8 : BitVec 32 := Scf.iv c0_i32_61 c1_i32_64 k0_t1
  let v181 : BitVec 32 := Scalar.muli c2_i32_91 arg8
  let v182 : BitVec 32 := Scalar.subi v180 v181
  let c1_i32_142 : BitVec 32 := 1#32
  let v277 : BitVec 32 := Scalar.subi v182 c1_i32_142
  let c256_i32_143 : BitVec 32 := 256#32
  let v278 : BitVec 32 := Scalar.muli v277 c256_i32_143
  let v279 : BitVec 32 := v278
  let v280 : Index := Scalar.indexCast v279
  let c0_145 : Index := 0#32
  ![0, v280.toNat, 0]
def k0_mult8 (i : grid0.Coords) (k0_t1 : Fin (k0_t1_loop i).trips) : BitVec 32 :=
  let arg1 : BitVec 32 := BitVec.ofNat 32 (i 1).val
  let c2_i32_84 : BitVec 32 := 2#32
  let c0_i32_85 : BitVec 32 := 0#32
  let v169 : BitVec 1 := Scalar.cmpi .eq c2_i32_84 c0_i32_85
  let c1_i32_86 : BitVec 32 := 1#32
  let v170 : BitVec 32 := Scalar.select v169 c1_i32_86 c2_i32_84
  let v171 : BitVec 32 := Scalar.remsi arg1 v170
  let c0_i32_88 : BitVec 32 := 0#32
  let v173 : BitVec 1 := Scalar.cmpi .slt v171 c0_i32_88
  let c0_i32_89 : BitVec 32 := 0#32
  let v174 : BitVec 1 := Scalar.cmpi .slt v170 c0_i32_89
  let v175 : BitVec 1 := Scalar.xori v173 v174
  let c0_i32_87 : BitVec 32 := 0#32
  let v172 : BitVec 1 := Scalar.cmpi .ne v171 c0_i32_87
  let v176 : BitVec 1 := Scalar.andi v175 v172
  let v177 : BitVec 32 := Scalar.addi v171 v170
  let v178 : BitVec 32 := Scalar.select v176 v177 v171
  let v179 : BitVec 32 := Scalar.subi arg1 v178
  let c1_i32_90 : BitVec 32 := 1#32
  let v180 : BitVec 32 := Scalar.subi v179 c1_i32_90
  let c2_i32_91 : BitVec 32 := 2#32
  let c0_i32_61 : BitVec 32 := 0#32
  let c1_i32_64 : BitVec 32 := 1#32
  let arg8 : BitVec 32 := Scf.iv c0_i32_61 c1_i32_64 k0_t1
  let v181 : BitVec 32 := Scalar.muli c2_i32_91 arg8
  let v182 : BitVec 32 := Scalar.subi v180 v181
  let c1_i32_142 : BitVec 32 := 1#32
  let v277 : BitVec 32 := Scalar.subi v182 c1_i32_142
  let c256_i32_168 : BitVec 32 := 256#32
  let v325 : BitVec 32 := Scalar.muli v277 c256_i32_168
  v325
def k0_off8 (i : grid0.Coords) (k0_t1 : Fin (k0_t1_loop i).trips) : Fin 3 → Nat :=
  let c0_169 : Index := 0#32
  let arg1 : BitVec 32 := BitVec.ofNat 32 (i 1).val
  let c2_i32_84 : BitVec 32 := 2#32
  let c0_i32_85 : BitVec 32 := 0#32
  let v169 : BitVec 1 := Scalar.cmpi .eq c2_i32_84 c0_i32_85
  let c1_i32_86 : BitVec 32 := 1#32
  let v170 : BitVec 32 := Scalar.select v169 c1_i32_86 c2_i32_84
  let v171 : BitVec 32 := Scalar.remsi arg1 v170
  let c0_i32_88 : BitVec 32 := 0#32
  let v173 : BitVec 1 := Scalar.cmpi .slt v171 c0_i32_88
  let c0_i32_89 : BitVec 32 := 0#32
  let v174 : BitVec 1 := Scalar.cmpi .slt v170 c0_i32_89
  let v175 : BitVec 1 := Scalar.xori v173 v174
  let c0_i32_87 : BitVec 32 := 0#32
  let v172 : BitVec 1 := Scalar.cmpi .ne v171 c0_i32_87
  let v176 : BitVec 1 := Scalar.andi v175 v172
  let v177 : BitVec 32 := Scalar.addi v171 v170
  let v178 : BitVec 32 := Scalar.select v176 v177 v171
  let v179 : BitVec 32 := Scalar.subi arg1 v178
  let c1_i32_90 : BitVec 32 := 1#32
  let v180 : BitVec 32 := Scalar.subi v179 c1_i32_90
  let c2_i32_91 : BitVec 32 := 2#32
  let c0_i32_61 : BitVec 32 := 0#32
  let c1_i32_64 : BitVec 32 := 1#32
  let arg8 : BitVec 32 := Scf.iv c0_i32_61 c1_i32_64 k0_t1
  let v181 : BitVec 32 := Scalar.muli c2_i32_91 arg8
  let v182 : BitVec 32 := Scalar.subi v180 v181
  let c1_i32_142 : BitVec 32 := 1#32
  let v277 : BitVec 32 := Scalar.subi v182 c1_i32_142
  let c256_i32_168 : BitVec 32 := 256#32
  let v325 : BitVec 32 := Scalar.muli v277 c256_i32_168
  let v326 : BitVec 32 := v325
  let v327 : Index := Scalar.indexCast v326
  let c128_170 : Index := 128#32
  ![0, v327.toNat, 128]
@[reducible] def k0_t2_loop (i : grid0.Coords) : Scf.Loop 32 :=
  let c0_i32_61 : BitVec 32 := 0#32
  let arg1 : BitVec 32 := BitVec.ofNat 32 (i 1).val
  let c0_i32_55 : BitVec 32 := 0#32
  let v124 : BitVec 1 := Scalar.cmpi .sgt arg1 c0_i32_55
  let v125 : BitVec 32 := Scalar.extui v124
  let c0_i32_56 : BitVec 32 := 0#32
  let v126 : BitVec 1 := Scalar.cmpi .slt arg1 c0_i32_56
  let v127 : BitVec 32 := Scalar.extui v126
  let v128 : BitVec 32 := Scalar.subi v125 v127
  let c2_i32_54 : BitVec 32 := 2#32
  let c0_i32_57 : BitVec 32 := 0#32
  let v129 : BitVec 1 := Scalar.cmpi .sgt c2_i32_54 c0_i32_57
  let v130 : BitVec 32 := Scalar.extui v129
  let c0_i32_58 : BitVec 32 := 0#32
  let v131 : BitVec 1 := Scalar.cmpi .slt c2_i32_54 c0_i32_58
  let v132 : BitVec 32 := Scalar.extui v131
  let v133 : BitVec 32 := Scalar.subi v130 v132
  let v134 : BitVec 1 := Scalar.cmpi .ne v128 v133
  let v135 : BitVec 32 := Scalar.remsi arg1 c2_i32_54
  let c0_i32_59 : BitVec 32 := 0#32
  let v136 : BitVec 1 := Scalar.cmpi .ne v135 c0_i32_59
  let v137 : BitVec 1 := Scalar.andi v134 v136
  let v123 : BitVec 32 := Scalar.divsi arg1 c2_i32_54
  let c1_i32_60 : BitVec 32 := 1#32
  let v138 : BitVec 32 := Scalar.subi v123 c1_i32_60
  let v139 : BitVec 32 := Scalar.select v137 v138 v123
  let v140 : BitVec 32 := Scalar.subi v139 c0_i32_61
  let c1_i32_63 : BitVec 32 := 1#32
  let v142 : BitVec 32 := Scalar.divsi v140 c1_i32_63
  let v143 : BitVec 32 := Scalar.muli v142 c1_i32_63
  let v144 : BitVec 32 := Scalar.addi c0_i32_61 v143
  let v141 : BitVec 32 := Scalar.addi c0_i32_61 v140
  let c1_i32_65 : BitVec 32 := 1#32
  ⟨v144, v141, c1_i32_65⟩
def k0_mult9 (i : grid0.Coords) (k0_t2 : Fin (k0_t2_loop i).trips) : BitVec 32 :=
  let arg1 : BitVec 32 := BitVec.ofNat 32 (i 1).val
  let c2_i32_84 : BitVec 32 := 2#32
  let c0_i32_85 : BitVec 32 := 0#32
  let v169 : BitVec 1 := Scalar.cmpi .eq c2_i32_84 c0_i32_85
  let c1_i32_86 : BitVec 32 := 1#32
  let v170 : BitVec 32 := Scalar.select v169 c1_i32_86 c2_i32_84
  let v171 : BitVec 32 := Scalar.remsi arg1 v170
  let c0_i32_88 : BitVec 32 := 0#32
  let v173 : BitVec 1 := Scalar.cmpi .slt v171 c0_i32_88
  let c0_i32_89 : BitVec 32 := 0#32
  let v174 : BitVec 1 := Scalar.cmpi .slt v170 c0_i32_89
  let v175 : BitVec 1 := Scalar.xori v173 v174
  let c0_i32_87 : BitVec 32 := 0#32
  let v172 : BitVec 1 := Scalar.cmpi .ne v171 c0_i32_87
  let v176 : BitVec 1 := Scalar.andi v175 v172
  let v177 : BitVec 32 := Scalar.addi v171 v170
  let v178 : BitVec 32 := Scalar.select v176 v177 v171
  let v179 : BitVec 32 := Scalar.subi arg1 v178
  let c1_i32_90 : BitVec 32 := 1#32
  let v180 : BitVec 32 := Scalar.subi v179 c1_i32_90
  let c2_i32_91 : BitVec 32 := 2#32
  let c0_i32_61 : BitVec 32 := 0#32
  let c0_i32_55 : BitVec 32 := 0#32
  let v124 : BitVec 1 := Scalar.cmpi .sgt arg1 c0_i32_55
  let v125 : BitVec 32 := Scalar.extui v124
  let c0_i32_56 : BitVec 32 := 0#32
  let v126 : BitVec 1 := Scalar.cmpi .slt arg1 c0_i32_56
  let v127 : BitVec 32 := Scalar.extui v126
  let v128 : BitVec 32 := Scalar.subi v125 v127
  let c2_i32_54 : BitVec 32 := 2#32
  let c0_i32_57 : BitVec 32 := 0#32
  let v129 : BitVec 1 := Scalar.cmpi .sgt c2_i32_54 c0_i32_57
  let v130 : BitVec 32 := Scalar.extui v129
  let c0_i32_58 : BitVec 32 := 0#32
  let v131 : BitVec 1 := Scalar.cmpi .slt c2_i32_54 c0_i32_58
  let v132 : BitVec 32 := Scalar.extui v131
  let v133 : BitVec 32 := Scalar.subi v130 v132
  let v134 : BitVec 1 := Scalar.cmpi .ne v128 v133
  let v135 : BitVec 32 := Scalar.remsi arg1 c2_i32_54
  let c0_i32_59 : BitVec 32 := 0#32
  let v136 : BitVec 1 := Scalar.cmpi .ne v135 c0_i32_59
  let v137 : BitVec 1 := Scalar.andi v134 v136
  let v123 : BitVec 32 := Scalar.divsi arg1 c2_i32_54
  let c1_i32_60 : BitVec 32 := 1#32
  let v138 : BitVec 32 := Scalar.subi v123 c1_i32_60
  let v139 : BitVec 32 := Scalar.select v137 v138 v123
  let v140 : BitVec 32 := Scalar.subi v139 c0_i32_61
  let c1_i32_63 : BitVec 32 := 1#32
  let v142 : BitVec 32 := Scalar.divsi v140 c1_i32_63
  let v143 : BitVec 32 := Scalar.muli v142 c1_i32_63
  let v144 : BitVec 32 := Scalar.addi c0_i32_61 v143
  let c1_i32_65 : BitVec 32 := 1#32
  let arg8 : BitVec 32 := Scf.iv v144 c1_i32_65 k0_t2
  let v181 : BitVec 32 := Scalar.muli c2_i32_91 arg8
  let v182 : BitVec 32 := Scalar.subi v180 v181
  let c256_i32_92 : BitVec 32 := 256#32
  let v183 : BitVec 32 := Scalar.muli v182 c256_i32_92
  v183
def k0_off9 (i : grid0.Coords) (k0_t2 : Fin (k0_t2_loop i).trips) : Fin 3 → Nat :=
  let c0_93 : Index := 0#32
  let arg1 : BitVec 32 := BitVec.ofNat 32 (i 1).val
  let c2_i32_84 : BitVec 32 := 2#32
  let c0_i32_85 : BitVec 32 := 0#32
  let v169 : BitVec 1 := Scalar.cmpi .eq c2_i32_84 c0_i32_85
  let c1_i32_86 : BitVec 32 := 1#32
  let v170 : BitVec 32 := Scalar.select v169 c1_i32_86 c2_i32_84
  let v171 : BitVec 32 := Scalar.remsi arg1 v170
  let c0_i32_88 : BitVec 32 := 0#32
  let v173 : BitVec 1 := Scalar.cmpi .slt v171 c0_i32_88
  let c0_i32_89 : BitVec 32 := 0#32
  let v174 : BitVec 1 := Scalar.cmpi .slt v170 c0_i32_89
  let v175 : BitVec 1 := Scalar.xori v173 v174
  let c0_i32_87 : BitVec 32 := 0#32
  let v172 : BitVec 1 := Scalar.cmpi .ne v171 c0_i32_87
  let v176 : BitVec 1 := Scalar.andi v175 v172
  let v177 : BitVec 32 := Scalar.addi v171 v170
  let v178 : BitVec 32 := Scalar.select v176 v177 v171
  let v179 : BitVec 32 := Scalar.subi arg1 v178
  let c1_i32_90 : BitVec 32 := 1#32
  let v180 : BitVec 32 := Scalar.subi v179 c1_i32_90
  let c2_i32_91 : BitVec 32 := 2#32
  let c0_i32_61 : BitVec 32 := 0#32
  let c0_i32_55 : BitVec 32 := 0#32
  let v124 : BitVec 1 := Scalar.cmpi .sgt arg1 c0_i32_55
  let v125 : BitVec 32 := Scalar.extui v124
  let c0_i32_56 : BitVec 32 := 0#32
  let v126 : BitVec 1 := Scalar.cmpi .slt arg1 c0_i32_56
  let v127 : BitVec 32 := Scalar.extui v126
  let v128 : BitVec 32 := Scalar.subi v125 v127
  let c2_i32_54 : BitVec 32 := 2#32
  let c0_i32_57 : BitVec 32 := 0#32
  let v129 : BitVec 1 := Scalar.cmpi .sgt c2_i32_54 c0_i32_57
  let v130 : BitVec 32 := Scalar.extui v129
  let c0_i32_58 : BitVec 32 := 0#32
  let v131 : BitVec 1 := Scalar.cmpi .slt c2_i32_54 c0_i32_58
  let v132 : BitVec 32 := Scalar.extui v131
  let v133 : BitVec 32 := Scalar.subi v130 v132
  let v134 : BitVec 1 := Scalar.cmpi .ne v128 v133
  let v135 : BitVec 32 := Scalar.remsi arg1 c2_i32_54
  let c0_i32_59 : BitVec 32 := 0#32
  let v136 : BitVec 1 := Scalar.cmpi .ne v135 c0_i32_59
  let v137 : BitVec 1 := Scalar.andi v134 v136
  let v123 : BitVec 32 := Scalar.divsi arg1 c2_i32_54
  let c1_i32_60 : BitVec 32 := 1#32
  let v138 : BitVec 32 := Scalar.subi v123 c1_i32_60
  let v139 : BitVec 32 := Scalar.select v137 v138 v123
  let v140 : BitVec 32 := Scalar.subi v139 c0_i32_61
  let c1_i32_63 : BitVec 32 := 1#32
  let v142 : BitVec 32 := Scalar.divsi v140 c1_i32_63
  let v143 : BitVec 32 := Scalar.muli v142 c1_i32_63
  let v144 : BitVec 32 := Scalar.addi c0_i32_61 v143
  let c1_i32_65 : BitVec 32 := 1#32
  let arg8 : BitVec 32 := Scf.iv v144 c1_i32_65 k0_t2
  let v181 : BitVec 32 := Scalar.muli c2_i32_91 arg8
  let v182 : BitVec 32 := Scalar.subi v180 v181
  let c256_i32_92 : BitVec 32 := 256#32
  let v183 : BitVec 32 := Scalar.muli v182 c256_i32_92
  let v184 : BitVec 32 := v183
  let v185 : Index := Scalar.indexCast v184
  let c0_94 : Index := 0#32
  ![0, v185.toNat, 0]
def k0_mult10 (i : grid0.Coords) (k0_t2 : Fin (k0_t2_loop i).trips) : BitVec 32 :=
  let arg1 : BitVec 32 := BitVec.ofNat 32 (i 1).val
  let c2_i32_84 : BitVec 32 := 2#32
  let c0_i32_85 : BitVec 32 := 0#32
  let v169 : BitVec 1 := Scalar.cmpi .eq c2_i32_84 c0_i32_85
  let c1_i32_86 : BitVec 32 := 1#32
  let v170 : BitVec 32 := Scalar.select v169 c1_i32_86 c2_i32_84
  let v171 : BitVec 32 := Scalar.remsi arg1 v170
  let c0_i32_88 : BitVec 32 := 0#32
  let v173 : BitVec 1 := Scalar.cmpi .slt v171 c0_i32_88
  let c0_i32_89 : BitVec 32 := 0#32
  let v174 : BitVec 1 := Scalar.cmpi .slt v170 c0_i32_89
  let v175 : BitVec 1 := Scalar.xori v173 v174
  let c0_i32_87 : BitVec 32 := 0#32
  let v172 : BitVec 1 := Scalar.cmpi .ne v171 c0_i32_87
  let v176 : BitVec 1 := Scalar.andi v175 v172
  let v177 : BitVec 32 := Scalar.addi v171 v170
  let v178 : BitVec 32 := Scalar.select v176 v177 v171
  let v179 : BitVec 32 := Scalar.subi arg1 v178
  let c1_i32_90 : BitVec 32 := 1#32
  let v180 : BitVec 32 := Scalar.subi v179 c1_i32_90
  let c2_i32_91 : BitVec 32 := 2#32
  let c0_i32_61 : BitVec 32 := 0#32
  let c0_i32_55 : BitVec 32 := 0#32
  let v124 : BitVec 1 := Scalar.cmpi .sgt arg1 c0_i32_55
  let v125 : BitVec 32 := Scalar.extui v124
  let c0_i32_56 : BitVec 32 := 0#32
  let v126 : BitVec 1 := Scalar.cmpi .slt arg1 c0_i32_56
  let v127 : BitVec 32 := Scalar.extui v126
  let v128 : BitVec 32 := Scalar.subi v125 v127
  let c2_i32_54 : BitVec 32 := 2#32
  let c0_i32_57 : BitVec 32 := 0#32
  let v129 : BitVec 1 := Scalar.cmpi .sgt c2_i32_54 c0_i32_57
  let v130 : BitVec 32 := Scalar.extui v129
  let c0_i32_58 : BitVec 32 := 0#32
  let v131 : BitVec 1 := Scalar.cmpi .slt c2_i32_54 c0_i32_58
  let v132 : BitVec 32 := Scalar.extui v131
  let v133 : BitVec 32 := Scalar.subi v130 v132
  let v134 : BitVec 1 := Scalar.cmpi .ne v128 v133
  let v135 : BitVec 32 := Scalar.remsi arg1 c2_i32_54
  let c0_i32_59 : BitVec 32 := 0#32
  let v136 : BitVec 1 := Scalar.cmpi .ne v135 c0_i32_59
  let v137 : BitVec 1 := Scalar.andi v134 v136
  let v123 : BitVec 32 := Scalar.divsi arg1 c2_i32_54
  let c1_i32_60 : BitVec 32 := 1#32
  let v138 : BitVec 32 := Scalar.subi v123 c1_i32_60
  let v139 : BitVec 32 := Scalar.select v137 v138 v123
  let v140 : BitVec 32 := Scalar.subi v139 c0_i32_61
  let c1_i32_63 : BitVec 32 := 1#32
  let v142 : BitVec 32 := Scalar.divsi v140 c1_i32_63
  let v143 : BitVec 32 := Scalar.muli v142 c1_i32_63
  let v144 : BitVec 32 := Scalar.addi c0_i32_61 v143
  let c1_i32_65 : BitVec 32 := 1#32
  let arg8 : BitVec 32 := Scf.iv v144 c1_i32_65 k0_t2
  let v181 : BitVec 32 := Scalar.muli c2_i32_91 arg8
  let v182 : BitVec 32 := Scalar.subi v180 v181
  let c256_i32_117 : BitVec 32 := 256#32
  let v230 : BitVec 32 := Scalar.muli v182 c256_i32_117
  v230
def k0_off10 (i : grid0.Coords) (k0_t2 : Fin (k0_t2_loop i).trips) : Fin 3 → Nat :=
  let c0_118 : Index := 0#32
  let arg1 : BitVec 32 := BitVec.ofNat 32 (i 1).val
  let c2_i32_84 : BitVec 32 := 2#32
  let c0_i32_85 : BitVec 32 := 0#32
  let v169 : BitVec 1 := Scalar.cmpi .eq c2_i32_84 c0_i32_85
  let c1_i32_86 : BitVec 32 := 1#32
  let v170 : BitVec 32 := Scalar.select v169 c1_i32_86 c2_i32_84
  let v171 : BitVec 32 := Scalar.remsi arg1 v170
  let c0_i32_88 : BitVec 32 := 0#32
  let v173 : BitVec 1 := Scalar.cmpi .slt v171 c0_i32_88
  let c0_i32_89 : BitVec 32 := 0#32
  let v174 : BitVec 1 := Scalar.cmpi .slt v170 c0_i32_89
  let v175 : BitVec 1 := Scalar.xori v173 v174
  let c0_i32_87 : BitVec 32 := 0#32
  let v172 : BitVec 1 := Scalar.cmpi .ne v171 c0_i32_87
  let v176 : BitVec 1 := Scalar.andi v175 v172
  let v177 : BitVec 32 := Scalar.addi v171 v170
  let v178 : BitVec 32 := Scalar.select v176 v177 v171
  let v179 : BitVec 32 := Scalar.subi arg1 v178
  let c1_i32_90 : BitVec 32 := 1#32
  let v180 : BitVec 32 := Scalar.subi v179 c1_i32_90
  let c2_i32_91 : BitVec 32 := 2#32
  let c0_i32_61 : BitVec 32 := 0#32
  let c0_i32_55 : BitVec 32 := 0#32
  let v124 : BitVec 1 := Scalar.cmpi .sgt arg1 c0_i32_55
  let v125 : BitVec 32 := Scalar.extui v124
  let c0_i32_56 : BitVec 32 := 0#32
  let v126 : BitVec 1 := Scalar.cmpi .slt arg1 c0_i32_56
  let v127 : BitVec 32 := Scalar.extui v126
  let v128 : BitVec 32 := Scalar.subi v125 v127
  let c2_i32_54 : BitVec 32 := 2#32
  let c0_i32_57 : BitVec 32 := 0#32
  let v129 : BitVec 1 := Scalar.cmpi .sgt c2_i32_54 c0_i32_57
  let v130 : BitVec 32 := Scalar.extui v129
  let c0_i32_58 : BitVec 32 := 0#32
  let v131 : BitVec 1 := Scalar.cmpi .slt c2_i32_54 c0_i32_58
  let v132 : BitVec 32 := Scalar.extui v131
  let v133 : BitVec 32 := Scalar.subi v130 v132
  let v134 : BitVec 1 := Scalar.cmpi .ne v128 v133
  let v135 : BitVec 32 := Scalar.remsi arg1 c2_i32_54
  let c0_i32_59 : BitVec 32 := 0#32
  let v136 : BitVec 1 := Scalar.cmpi .ne v135 c0_i32_59
  let v137 : BitVec 1 := Scalar.andi v134 v136
  let v123 : BitVec 32 := Scalar.divsi arg1 c2_i32_54
  let c1_i32_60 : BitVec 32 := 1#32
  let v138 : BitVec 32 := Scalar.subi v123 c1_i32_60
  let v139 : BitVec 32 := Scalar.select v137 v138 v123
  let v140 : BitVec 32 := Scalar.subi v139 c0_i32_61
  let c1_i32_63 : BitVec 32 := 1#32
  let v142 : BitVec 32 := Scalar.divsi v140 c1_i32_63
  let v143 : BitVec 32 := Scalar.muli v142 c1_i32_63
  let v144 : BitVec 32 := Scalar.addi c0_i32_61 v143
  let c1_i32_65 : BitVec 32 := 1#32
  let arg8 : BitVec 32 := Scf.iv v144 c1_i32_65 k0_t2
  let v181 : BitVec 32 := Scalar.muli c2_i32_91 arg8
  let v182 : BitVec 32 := Scalar.subi v180 v181
  let c256_i32_117 : BitVec 32 := 256#32
  let v230 : BitVec 32 := Scalar.muli v182 c256_i32_117
  let v231 : BitVec 32 := v230
  let v232 : Index := Scalar.indexCast v231
  let c128_119 : Index := 128#32
  ![0, v232.toNat, 128]
def k0_mult11 (i : grid0.Coords) (k0_t2 : Fin (k0_t2_loop i).trips) : BitVec 32 :=
  let arg1 : BitVec 32 := BitVec.ofNat 32 (i 1).val
  let c2_i32_84 : BitVec 32 := 2#32
  let c0_i32_85 : BitVec 32 := 0#32
  let v169 : BitVec 1 := Scalar.cmpi .eq c2_i32_84 c0_i32_85
  let c1_i32_86 : BitVec 32 := 1#32
  let v170 : BitVec 32 := Scalar.select v169 c1_i32_86 c2_i32_84
  let v171 : BitVec 32 := Scalar.remsi arg1 v170
  let c0_i32_88 : BitVec 32 := 0#32
  let v173 : BitVec 1 := Scalar.cmpi .slt v171 c0_i32_88
  let c0_i32_89 : BitVec 32 := 0#32
  let v174 : BitVec 1 := Scalar.cmpi .slt v170 c0_i32_89
  let v175 : BitVec 1 := Scalar.xori v173 v174
  let c0_i32_87 : BitVec 32 := 0#32
  let v172 : BitVec 1 := Scalar.cmpi .ne v171 c0_i32_87
  let v176 : BitVec 1 := Scalar.andi v175 v172
  let v177 : BitVec 32 := Scalar.addi v171 v170
  let v178 : BitVec 32 := Scalar.select v176 v177 v171
  let v179 : BitVec 32 := Scalar.subi arg1 v178
  let c1_i32_90 : BitVec 32 := 1#32
  let v180 : BitVec 32 := Scalar.subi v179 c1_i32_90
  let c2_i32_91 : BitVec 32 := 2#32
  let c0_i32_61 : BitVec 32 := 0#32
  let c0_i32_55 : BitVec 32 := 0#32
  let v124 : BitVec 1 := Scalar.cmpi .sgt arg1 c0_i32_55
  let v125 : BitVec 32 := Scalar.extui v124
  let c0_i32_56 : BitVec 32 := 0#32
  let v126 : BitVec 1 := Scalar.cmpi .slt arg1 c0_i32_56
  let v127 : BitVec 32 := Scalar.extui v126
  let v128 : BitVec 32 := Scalar.subi v125 v127
  let c2_i32_54 : BitVec 32 := 2#32
  let c0_i32_57 : BitVec 32 := 0#32
  let v129 : BitVec 1 := Scalar.cmpi .sgt c2_i32_54 c0_i32_57
  let v130 : BitVec 32 := Scalar.extui v129
  let c0_i32_58 : BitVec 32 := 0#32
  let v131 : BitVec 1 := Scalar.cmpi .slt c2_i32_54 c0_i32_58
  let v132 : BitVec 32 := Scalar.extui v131
  let v133 : BitVec 32 := Scalar.subi v130 v132
  let v134 : BitVec 1 := Scalar.cmpi .ne v128 v133
  let v135 : BitVec 32 := Scalar.remsi arg1 c2_i32_54
  let c0_i32_59 : BitVec 32 := 0#32
  let v136 : BitVec 1 := Scalar.cmpi .ne v135 c0_i32_59
  let v137 : BitVec 1 := Scalar.andi v134 v136
  let v123 : BitVec 32 := Scalar.divsi arg1 c2_i32_54
  let c1_i32_60 : BitVec 32 := 1#32
  let v138 : BitVec 32 := Scalar.subi v123 c1_i32_60
  let v139 : BitVec 32 := Scalar.select v137 v138 v123
  let v140 : BitVec 32 := Scalar.subi v139 c0_i32_61
  let c1_i32_63 : BitVec 32 := 1#32
  let v142 : BitVec 32 := Scalar.divsi v140 c1_i32_63
  let v143 : BitVec 32 := Scalar.muli v142 c1_i32_63
  let v144 : BitVec 32 := Scalar.addi c0_i32_61 v143
  let c1_i32_65 : BitVec 32 := 1#32
  let arg8 : BitVec 32 := Scf.iv v144 c1_i32_65 k0_t2
  let v181 : BitVec 32 := Scalar.muli c2_i32_91 arg8
  let v182 : BitVec 32 := Scalar.subi v180 v181
  let c1_i32_142 : BitVec 32 := 1#32
  let v277 : BitVec 32 := Scalar.subi v182 c1_i32_142
  let c256_i32_143 : BitVec 32 := 256#32
  let v278 : BitVec 32 := Scalar.muli v277 c256_i32_143
  v278
def k0_off11 (i : grid0.Coords) (k0_t2 : Fin (k0_t2_loop i).trips) : Fin 3 → Nat :=
  let c0_144 : Index := 0#32
  let arg1 : BitVec 32 := BitVec.ofNat 32 (i 1).val
  let c2_i32_84 : BitVec 32 := 2#32
  let c0_i32_85 : BitVec 32 := 0#32
  let v169 : BitVec 1 := Scalar.cmpi .eq c2_i32_84 c0_i32_85
  let c1_i32_86 : BitVec 32 := 1#32
  let v170 : BitVec 32 := Scalar.select v169 c1_i32_86 c2_i32_84
  let v171 : BitVec 32 := Scalar.remsi arg1 v170
  let c0_i32_88 : BitVec 32 := 0#32
  let v173 : BitVec 1 := Scalar.cmpi .slt v171 c0_i32_88
  let c0_i32_89 : BitVec 32 := 0#32
  let v174 : BitVec 1 := Scalar.cmpi .slt v170 c0_i32_89
  let v175 : BitVec 1 := Scalar.xori v173 v174
  let c0_i32_87 : BitVec 32 := 0#32
  let v172 : BitVec 1 := Scalar.cmpi .ne v171 c0_i32_87
  let v176 : BitVec 1 := Scalar.andi v175 v172
  let v177 : BitVec 32 := Scalar.addi v171 v170
  let v178 : BitVec 32 := Scalar.select v176 v177 v171
  let v179 : BitVec 32 := Scalar.subi arg1 v178
  let c1_i32_90 : BitVec 32 := 1#32
  let v180 : BitVec 32 := Scalar.subi v179 c1_i32_90
  let c2_i32_91 : BitVec 32 := 2#32
  let c0_i32_61 : BitVec 32 := 0#32
  let c0_i32_55 : BitVec 32 := 0#32
  let v124 : BitVec 1 := Scalar.cmpi .sgt arg1 c0_i32_55
  let v125 : BitVec 32 := Scalar.extui v124
  let c0_i32_56 : BitVec 32 := 0#32
  let v126 : BitVec 1 := Scalar.cmpi .slt arg1 c0_i32_56
  let v127 : BitVec 32 := Scalar.extui v126
  let v128 : BitVec 32 := Scalar.subi v125 v127
  let c2_i32_54 : BitVec 32 := 2#32
  let c0_i32_57 : BitVec 32 := 0#32
  let v129 : BitVec 1 := Scalar.cmpi .sgt c2_i32_54 c0_i32_57
  let v130 : BitVec 32 := Scalar.extui v129
  let c0_i32_58 : BitVec 32 := 0#32
  let v131 : BitVec 1 := Scalar.cmpi .slt c2_i32_54 c0_i32_58
  let v132 : BitVec 32 := Scalar.extui v131
  let v133 : BitVec 32 := Scalar.subi v130 v132
  let v134 : BitVec 1 := Scalar.cmpi .ne v128 v133
  let v135 : BitVec 32 := Scalar.remsi arg1 c2_i32_54
  let c0_i32_59 : BitVec 32 := 0#32
  let v136 : BitVec 1 := Scalar.cmpi .ne v135 c0_i32_59
  let v137 : BitVec 1 := Scalar.andi v134 v136
  let v123 : BitVec 32 := Scalar.divsi arg1 c2_i32_54
  let c1_i32_60 : BitVec 32 := 1#32
  let v138 : BitVec 32 := Scalar.subi v123 c1_i32_60
  let v139 : BitVec 32 := Scalar.select v137 v138 v123
  let v140 : BitVec 32 := Scalar.subi v139 c0_i32_61
  let c1_i32_63 : BitVec 32 := 1#32
  let v142 : BitVec 32 := Scalar.divsi v140 c1_i32_63
  let v143 : BitVec 32 := Scalar.muli v142 c1_i32_63
  let v144 : BitVec 32 := Scalar.addi c0_i32_61 v143
  let c1_i32_65 : BitVec 32 := 1#32
  let arg8 : BitVec 32 := Scf.iv v144 c1_i32_65 k0_t2
  let v181 : BitVec 32 := Scalar.muli c2_i32_91 arg8
  let v182 : BitVec 32 := Scalar.subi v180 v181
  let c1_i32_142 : BitVec 32 := 1#32
  let v277 : BitVec 32 := Scalar.subi v182 c1_i32_142
  let c256_i32_143 : BitVec 32 := 256#32
  let v278 : BitVec 32 := Scalar.muli v277 c256_i32_143
  let v279 : BitVec 32 := v278
  let v280 : Index := Scalar.indexCast v279
  let c0_145 : Index := 0#32
  ![0, v280.toNat, 0]
def k0_mult12 (i : grid0.Coords) (k0_t2 : Fin (k0_t2_loop i).trips) : BitVec 32 :=
  let arg1 : BitVec 32 := BitVec.ofNat 32 (i 1).val
  let c2_i32_84 : BitVec 32 := 2#32
  let c0_i32_85 : BitVec 32 := 0#32
  let v169 : BitVec 1 := Scalar.cmpi .eq c2_i32_84 c0_i32_85
  let c1_i32_86 : BitVec 32 := 1#32
  let v170 : BitVec 32 := Scalar.select v169 c1_i32_86 c2_i32_84
  let v171 : BitVec 32 := Scalar.remsi arg1 v170
  let c0_i32_88 : BitVec 32 := 0#32
  let v173 : BitVec 1 := Scalar.cmpi .slt v171 c0_i32_88
  let c0_i32_89 : BitVec 32 := 0#32
  let v174 : BitVec 1 := Scalar.cmpi .slt v170 c0_i32_89
  let v175 : BitVec 1 := Scalar.xori v173 v174
  let c0_i32_87 : BitVec 32 := 0#32
  let v172 : BitVec 1 := Scalar.cmpi .ne v171 c0_i32_87
  let v176 : BitVec 1 := Scalar.andi v175 v172
  let v177 : BitVec 32 := Scalar.addi v171 v170
  let v178 : BitVec 32 := Scalar.select v176 v177 v171
  let v179 : BitVec 32 := Scalar.subi arg1 v178
  let c1_i32_90 : BitVec 32 := 1#32
  let v180 : BitVec 32 := Scalar.subi v179 c1_i32_90
  let c2_i32_91 : BitVec 32 := 2#32
  let c0_i32_61 : BitVec 32 := 0#32
  let c0_i32_55 : BitVec 32 := 0#32
  let v124 : BitVec 1 := Scalar.cmpi .sgt arg1 c0_i32_55
  let v125 : BitVec 32 := Scalar.extui v124
  let c0_i32_56 : BitVec 32 := 0#32
  let v126 : BitVec 1 := Scalar.cmpi .slt arg1 c0_i32_56
  let v127 : BitVec 32 := Scalar.extui v126
  let v128 : BitVec 32 := Scalar.subi v125 v127
  let c2_i32_54 : BitVec 32 := 2#32
  let c0_i32_57 : BitVec 32 := 0#32
  let v129 : BitVec 1 := Scalar.cmpi .sgt c2_i32_54 c0_i32_57
  let v130 : BitVec 32 := Scalar.extui v129
  let c0_i32_58 : BitVec 32 := 0#32
  let v131 : BitVec 1 := Scalar.cmpi .slt c2_i32_54 c0_i32_58
  let v132 : BitVec 32 := Scalar.extui v131
  let v133 : BitVec 32 := Scalar.subi v130 v132
  let v134 : BitVec 1 := Scalar.cmpi .ne v128 v133
  let v135 : BitVec 32 := Scalar.remsi arg1 c2_i32_54
  let c0_i32_59 : BitVec 32 := 0#32
  let v136 : BitVec 1 := Scalar.cmpi .ne v135 c0_i32_59
  let v137 : BitVec 1 := Scalar.andi v134 v136
  let v123 : BitVec 32 := Scalar.divsi arg1 c2_i32_54
  let c1_i32_60 : BitVec 32 := 1#32
  let v138 : BitVec 32 := Scalar.subi v123 c1_i32_60
  let v139 : BitVec 32 := Scalar.select v137 v138 v123
  let v140 : BitVec 32 := Scalar.subi v139 c0_i32_61
  let c1_i32_63 : BitVec 32 := 1#32
  let v142 : BitVec 32 := Scalar.divsi v140 c1_i32_63
  let v143 : BitVec 32 := Scalar.muli v142 c1_i32_63
  let v144 : BitVec 32 := Scalar.addi c0_i32_61 v143
  let c1_i32_65 : BitVec 32 := 1#32
  let arg8 : BitVec 32 := Scf.iv v144 c1_i32_65 k0_t2
  let v181 : BitVec 32 := Scalar.muli c2_i32_91 arg8
  let v182 : BitVec 32 := Scalar.subi v180 v181
  let c1_i32_142 : BitVec 32 := 1#32
  let v277 : BitVec 32 := Scalar.subi v182 c1_i32_142
  let c256_i32_168 : BitVec 32 := 256#32
  let v325 : BitVec 32 := Scalar.muli v277 c256_i32_168
  v325
def k0_off12 (i : grid0.Coords) (k0_t2 : Fin (k0_t2_loop i).trips) : Fin 3 → Nat :=
  let c0_169 : Index := 0#32
  let arg1 : BitVec 32 := BitVec.ofNat 32 (i 1).val
  let c2_i32_84 : BitVec 32 := 2#32
  let c0_i32_85 : BitVec 32 := 0#32
  let v169 : BitVec 1 := Scalar.cmpi .eq c2_i32_84 c0_i32_85
  let c1_i32_86 : BitVec 32 := 1#32
  let v170 : BitVec 32 := Scalar.select v169 c1_i32_86 c2_i32_84
  let v171 : BitVec 32 := Scalar.remsi arg1 v170
  let c0_i32_88 : BitVec 32 := 0#32
  let v173 : BitVec 1 := Scalar.cmpi .slt v171 c0_i32_88
  let c0_i32_89 : BitVec 32 := 0#32
  let v174 : BitVec 1 := Scalar.cmpi .slt v170 c0_i32_89
  let v175 : BitVec 1 := Scalar.xori v173 v174
  let c0_i32_87 : BitVec 32 := 0#32
  let v172 : BitVec 1 := Scalar.cmpi .ne v171 c0_i32_87
  let v176 : BitVec 1 := Scalar.andi v175 v172
  let v177 : BitVec 32 := Scalar.addi v171 v170
  let v178 : BitVec 32 := Scalar.select v176 v177 v171
  let v179 : BitVec 32 := Scalar.subi arg1 v178
  let c1_i32_90 : BitVec 32 := 1#32
  let v180 : BitVec 32 := Scalar.subi v179 c1_i32_90
  let c2_i32_91 : BitVec 32 := 2#32
  let c0_i32_61 : BitVec 32 := 0#32
  let c0_i32_55 : BitVec 32 := 0#32
  let v124 : BitVec 1 := Scalar.cmpi .sgt arg1 c0_i32_55
  let v125 : BitVec 32 := Scalar.extui v124
  let c0_i32_56 : BitVec 32 := 0#32
  let v126 : BitVec 1 := Scalar.cmpi .slt arg1 c0_i32_56
  let v127 : BitVec 32 := Scalar.extui v126
  let v128 : BitVec 32 := Scalar.subi v125 v127
  let c2_i32_54 : BitVec 32 := 2#32
  let c0_i32_57 : BitVec 32 := 0#32
  let v129 : BitVec 1 := Scalar.cmpi .sgt c2_i32_54 c0_i32_57
  let v130 : BitVec 32 := Scalar.extui v129
  let c0_i32_58 : BitVec 32 := 0#32
  let v131 : BitVec 1 := Scalar.cmpi .slt c2_i32_54 c0_i32_58
  let v132 : BitVec 32 := Scalar.extui v131
  let v133 : BitVec 32 := Scalar.subi v130 v132
  let v134 : BitVec 1 := Scalar.cmpi .ne v128 v133
  let v135 : BitVec 32 := Scalar.remsi arg1 c2_i32_54
  let c0_i32_59 : BitVec 32 := 0#32
  let v136 : BitVec 1 := Scalar.cmpi .ne v135 c0_i32_59
  let v137 : BitVec 1 := Scalar.andi v134 v136
  let v123 : BitVec 32 := Scalar.divsi arg1 c2_i32_54
  let c1_i32_60 : BitVec 32 := 1#32
  let v138 : BitVec 32 := Scalar.subi v123 c1_i32_60
  let v139 : BitVec 32 := Scalar.select v137 v138 v123
  let v140 : BitVec 32 := Scalar.subi v139 c0_i32_61
  let c1_i32_63 : BitVec 32 := 1#32
  let v142 : BitVec 32 := Scalar.divsi v140 c1_i32_63
  let v143 : BitVec 32 := Scalar.muli v142 c1_i32_63
  let v144 : BitVec 32 := Scalar.addi c0_i32_61 v143
  let c1_i32_65 : BitVec 32 := 1#32
  let arg8 : BitVec 32 := Scf.iv v144 c1_i32_65 k0_t2
  let v181 : BitVec 32 := Scalar.muli c2_i32_91 arg8
  let v182 : BitVec 32 := Scalar.subi v180 v181
  let c1_i32_142 : BitVec 32 := 1#32
  let v277 : BitVec 32 := Scalar.subi v182 c1_i32_142
  let c256_i32_168 : BitVec 32 := 256#32
  let v325 : BitVec 32 := Scalar.muli v277 c256_i32_168
  let v326 : BitVec 32 := v325
  let v327 : Index := Scalar.indexCast v326
  let c128_170 : Index := 128#32
  ![0, v327.toNat, 128]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SbReferenceIdeal.lean ====
abbrev S2x8192x4x64 : Shape := ⟨4, ![2, 8192, 4, 64]⟩
abbrev S2x8192x2x2x64 : Shape := ⟨5, ![2, 8192, 2, 2, 64]⟩
abbrev S2x8192x2x1x64 : Shape := ⟨5, ![2, 8192, 2, 1, 64]⟩
abbrev S2x8192x2x64 : Shape := ⟨4, ![2, 8192, 2, 64]⟩
abbrev S8192 : Shape := ⟨1, ![8192]⟩
abbrev S2x2x8192x8192x2 : Shape := ⟨5, ![2, 2, 8192, 8192, 2]⟩
abbrev S2x2x2x8192x8192 : Shape := ⟨5, ![2, 2, 2, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S2x2x64x2x8192 : Shape := ⟨5, ![2, 2, 64, 2, 8192]⟩

abbrev nBuf : Space → Nat
  | .hbm => 70
  | .vmem => 0
  | .smem => 0
  | _ => 0

abbrev bufTy : (tb : Table) → Fin (tcTables nBuf tb) → BufTy
  | .hbm, ⟨0, _⟩ => ⟨S2x8192x4x64, .f32⟩
  | .hbm, ⟨1, _⟩ => ⟨S2x8192x2x2x64, .f32⟩
  | .hbm, ⟨2, _⟩ => ⟨S2x8192x2x1x64, .f32⟩
  | .hbm, ⟨3, _⟩ => ⟨S2x8192x2x64, .f32⟩
  | .hbm, ⟨4, _⟩ => ⟨S2x8192x2x1x64, .f32⟩
  | .hbm, ⟨5, _⟩ => ⟨S2x8192x2x64, .f32⟩
  | .hbm, ⟨6, _⟩ => ⟨S8192, .i32⟩
  | .hbm, ⟨7, _⟩ => ⟨S2x8192x2x2x64, .f32⟩
  | .hbm, ⟨8, _⟩ => ⟨S2x2x8192x8192x2, .f32⟩
  | .hbm, ⟨9, _⟩ => ⟨S2x2x2x8192x8192, .f32⟩
  | .hbm, ⟨10, _⟩ => ⟨S_, .f32⟩
  | .hbm, ⟨11, _⟩ => ⟨S2x2x2x8192x8192, .f32⟩
  | .hbm, ⟨12, _⟩ => ⟨S2x2x2x8192x8192, .f32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S2x2x2x8192x8192, .f32⟩
  | .hbm, ⟨19, _⟩ => ⟨S2x2x2x8192x8192, .f32⟩
  | .hbm, ⟨20, _⟩ => ⟨S_, .f32⟩
  | .hbm, ⟨21, _⟩ => ⟨S2x2x2x8192x8192, .f32⟩
  | .hbm, ⟨22, _⟩ => ⟨S2x2x2x8192x8192, .f32⟩
  | .hbm, ⟨23, _⟩ => ⟨S2x2x2x8192x8192, .f32⟩
  | .hbm, ⟨24, _⟩ => ⟨S2x2x2x8192x8192, .f32⟩
  | .hbm, ⟨25, _⟩ => ⟨S2x2x2x8192x8192, .i1⟩
  | .hbm, ⟨26, _⟩ => ⟨S2x2x2x8192x8192, .f32⟩
  | .hbm, ⟨27, _⟩ => ⟨S2x2x2x8192x8192, .f32⟩
  | .hbm, ⟨28, _⟩ => ⟨S2x2x2x8192x8192, .f32⟩
  | .hbm, ⟨29, _⟩ => ⟨S2x2x2x8192x8192, .f32⟩
  | .hbm, ⟨30, _⟩ => ⟨S2x2x2x8192x8192, .f32⟩
  | .hbm, ⟨31, _⟩ => ⟨S2x2x2x8192x8192, .f32⟩
  | .hbm, ⟨32, _⟩ => ⟨S2x2x2x8192x8192, .f32⟩
  | .hbm, ⟨33, _⟩ => ⟨S2x2x2x8192x8192, .f32⟩
  | .hbm, ⟨34, _⟩ => ⟨S2x2x2x8192x8192, .f32⟩
  | .hbm, ⟨35, _⟩ => ⟨S_, .f32⟩
  | .hbm, ⟨36, _⟩ => ⟨S_, .f32⟩
  | .hbm, ⟨37, _⟩ => ⟨S2x2x2x8192x8192, .i1⟩
  | .hbm, ⟨38, _⟩ => ⟨S2x2x2x8192x8192, .f32⟩
  | .hbm, ⟨39, _⟩ => ⟨S2x2x2x8192x8192, .f32⟩
  | .hbm, ⟨40, _⟩ => ⟨S_, .f32⟩
  | .hbm, ⟨41, _⟩ => ⟨S_, .f32⟩
  | .hbm, ⟨42, _⟩ => ⟨S2x2x2x8192x8192, .f32⟩
  | .hbm, ⟨43, _⟩ => ⟨S2x2x2x8192x8192, .f32⟩
  | .hbm, ⟨44, _⟩ => ⟨S2x2x2x8192x8192, .f32⟩
  | .hbm, ⟨45, _⟩ => ⟨S_, .f32⟩
  | .hbm, ⟨46, _⟩ => ⟨S2x2x2x8192x8192, .f32⟩
  | .hbm, ⟨47, _⟩ => ⟨S2x2x2x8192x8192, .f32⟩
  | .hbm, ⟨48, _⟩ => ⟨S2x2x2x8192x8192, .f32⟩
  | .hbm, ⟨49, _⟩ => ⟨S2x2x2x8192x8192, .f32⟩
  | .hbm, ⟨50, _⟩ => ⟨S2x2x2x8192x8192, .i1⟩
  | .hbm, ⟨51, _⟩ => ⟨S2x2x2x8192x8192, .f32⟩
  | .hbm, ⟨52, _⟩ => ⟨S2x2x2x8192x8192, .f32⟩
  | .hbm, ⟨53, _⟩ => ⟨S2x2x2x8192x8192, .f32⟩
  | .hbm, ⟨54, _⟩ => ⟨S2x2x2x8192x8192, .f32⟩
  | .hbm, ⟨55, _⟩ => ⟨S2x2x2x8192x8192, .f32⟩
  | .hbm, ⟨56, _⟩ => ⟨S2x2x2x8192x8192, .f32⟩
  | .hbm, ⟨57, _⟩ => ⟨S2x2x2x8192x8192, .f32⟩
  | .hbm, ⟨58, _⟩ => ⟨S2x2x2x8192x8192, .f32⟩
  | .hbm, ⟨59, _⟩ => ⟨S2x2x2x8192x8192, .f32⟩
  | .hbm, ⟨60, _⟩ => ⟨S2x2x2x8192x8192, .f32⟩
  | .hbm, ⟨61, _⟩ => ⟨S2x2x2x8192x8192, .f32⟩
  | .hbm, ⟨62, _⟩ => ⟨S_, .f32⟩
  | .hbm, ⟨63, _⟩ => ⟨S_, .f32⟩
  | .hbm, ⟨64, _⟩ => ⟨S2x2x2x8192x8192, .i1⟩
  | .hbm, ⟨65, _⟩ => ⟨S2x2x2x8192x8192, .f32⟩
  | .hbm, ⟨66, _⟩ => ⟨S2x2x2x8192x8192, .f32⟩
  | .hbm, ⟨67, _⟩ => ⟨S2x2x64x2x8192, .f32⟩
  | .hbm, ⟨68, _⟩ => ⟨S2x8192x2x2x64, .f32⟩
  | .hbm, ⟨69, _⟩ => ⟨S2x8192x4x64, .f32⟩
  | _, _ => ⟨S2x8192x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v16 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v17 : Ref sig .tc := ⟨.hbm, 39, rfl⟩
abbrev main_call2_cst : Ref sig .tc := ⟨.hbm, 40, rfl⟩
abbrev main_call2_v0 : Ref sig .tc := ⟨.hbm, 41, rfl⟩
abbrev main_v18 : Ref sig .tc := ⟨.hbm, 42, rfl⟩
abbrev main_v19 : Ref sig .tc := ⟨.hbm, 43, rfl⟩
abbrev main_call3_v0 : Ref sig .tc := ⟨.hbm, 44, rfl⟩
abbrev main_call3_call0_cst : Ref sig .tc := ⟨.hbm, 45, rfl⟩
abbrev main_call3_call0_v0 : Ref sig .tc := ⟨.hbm, 46, rfl⟩
abbrev main_call3_call0_v1 : Ref sig .tc := ⟨.hbm, 47, rfl⟩
abbrev main_call3_call0_v2 : Ref sig .tc := ⟨.hbm, 48, rfl⟩
abbrev main_call3_call0_v3 : Ref sig .tc := ⟨.hbm, 49, rfl⟩
abbrev main_call3_call0_v4 : Ref sig .tc := ⟨.hbm, 50, rfl⟩
abbrev main_call3_call0_v5 : Ref sig .tc := ⟨.hbm, 51, rfl⟩
abbrev main_call3_call0_v6 : Ref sig .tc := ⟨.hbm, 52, rfl⟩
abbrev main_call3_call0_v7 : Ref sig .tc := ⟨.hbm, 53, rfl⟩
abbrev main_call3_call0_v8 : Ref sig .tc := ⟨.hbm, 54, rfl⟩
abbrev main_call3_call0_v9 : Ref sig .tc := ⟨.hbm, 55, rfl⟩
abbrev main_call3_call0_v10 : Ref sig .tc := ⟨.hbm, 56, rfl⟩
abbrev main_call3_call0_v11 : Ref sig .tc := ⟨.hbm, 57, rfl⟩
abbrev main_call3_v1 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩

abbrev nD : Nat := 1
abbrev τ : Topo := Topo.v7x

variable {F : FTy → Type} [FloatOps F]
-- ==== FfnKernel.lean ====
abbrev S2x8192x1024 : Shape := ⟨3, ![2, 8192, 1024]⟩
abbrev S2x1x6144 : Shape := ⟨3, ![2, 1, 6144]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S1x256x1024 : Shape := ⟨3, ![1, 256, 1024]⟩
abbrev S1x1x6144 : Shape := ⟨3, ![1, 1, 6144]⟩
abbrev S256x1024 : Shape := ⟨2, ![256, 1024]⟩
abbrev S1x6144 : Shape := ⟨2, ![1, 6144]⟩
abbrev S256x2816 : Shape := ⟨2, ![256, 2816]⟩
abbrev S256 : Shape := ⟨1, ![256]⟩
abbrev S256x1 : Shape := ⟨2, ![256, 1]⟩

abbrev nBuf : Space → Nat
  | .hbm => 13
  | .vmem => 11
  | .smem => 0
  | _ => 0

abbrev bufTy : (tb : Table) → Fin (tcTables nBuf tb) → BufTy
  | .hbm, ⟨0, _⟩ => ⟨S2x8192x1024, .f32⟩
  | .hbm, ⟨1, _⟩ => ⟨S2x1x6144, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S2x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6144, .f32⟩
  | .local _ .vmem, ⟨3, _⟩ => ⟨S1x1x6144, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x1024, .f32⟩
  | .local _ .vmem, ⟨8, _⟩ => ⟨S1x1024, .f32⟩
  | .local _ .vmem, ⟨9, _⟩ => ⟨S1x256x1024, .f32⟩
  | .local _ .vmem, ⟨10, _⟩ => ⟨S1x256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnReferenceIdeal.lean ====
abbrev S2x8192x1024 : Shape := ⟨3, ![2, 8192, 1024]⟩
abbrev S2x1x6144 : Shape := ⟨3, ![2, 1, 6144]⟩
abbrev S1024x2816 : Shape := ⟨2, ![1024, 2816]⟩
abbrev S2816x1024 : Shape := ⟨2, ![2816, 1024]⟩
abbrev S1024 : Shape := ⟨1, ![1024]⟩
abbrev S2x1x6x1024 : Shape := ⟨4, ![2, 1, 6, 1024]⟩
abbrev S2x1x1x1024 : Shape := ⟨4, ![2, 1, 1, 1024]⟩
abbrev S2x1x1024 : Shape := ⟨3, ![2, 1, 1024]⟩
abbrev S_ : Shape := ⟨0, ![]⟩
abbrev S2x8192x2816 : Shape := ⟨3, ![2, 8192, 2816]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x6144, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S2x1x6x1024, .f32⟩
  | .hbm, ⟨8, _⟩ => ⟨S2x1x1x1024, .f32⟩
  | .hbm, ⟨9, _⟩ => ⟨S2x1x1024, .f32⟩
  | .hbm, ⟨10, _⟩ => ⟨S2x1x1x1024, .f32⟩
  | .hbm, ⟨11, _⟩ => ⟨S2x1x1024, .f32⟩
  | .hbm, ⟨12, _⟩ => ⟨S2x1x1x1024, .f32⟩
  | .hbm, ⟨13, _⟩ => ⟨S2x1x1024, .f32⟩
  | .hbm, ⟨14, _⟩ => ⟨S_, .f32⟩
  | .hbm, ⟨15, _⟩ => ⟨S2x1x1024, .f32⟩
  | .hbm, ⟨16, _⟩ => ⟨S2x1x1024, .f32⟩
  | .hbm, ⟨17, _⟩ => ⟨S2x8192x1024, .f32⟩
  | .hbm, ⟨18, _⟩ => ⟨S2x8192x1024, .f32⟩
  | .hbm, ⟨19, _⟩ => ⟨S2x8192x1024, .f32⟩
  | .hbm, ⟨20, _⟩ => ⟨S2x8192x1024, .f32⟩
  | .hbm, ⟨21, _⟩ => ⟨S2x8192x2816, .f32⟩
  | .hbm, ⟨22, _⟩ => ⟨S2x8192x2816, .f32⟩
  | .hbm, ⟨23, _⟩ => ⟨S2x8192x2816, .f32⟩
  | .hbm, ⟨24, _⟩ => ⟨S_, .f32⟩
  | .hbm, ⟨25, _⟩ => ⟨S2x8192x2816, .f32⟩
  | .hbm, ⟨26, _⟩ => ⟨S2x8192x2816, .f32⟩
  | .hbm, ⟨27, _⟩ => ⟨S_, .f32⟩
  | .hbm, ⟨28, _⟩ => ⟨S2x8192x2816, .f32⟩
  | .hbm, ⟨29, _⟩ => ⟨S2x8192x2816, .f32⟩
  | .hbm, ⟨30, _⟩ => ⟨S2x8192x2816, .f32⟩
  | .hbm, ⟨31, _⟩ => ⟨S2x8192x2816, .f32⟩
  | .hbm, ⟨32, _⟩ => ⟨S2x8192x2816, .f32⟩
  | .hbm, ⟨33, _⟩ => ⟨S2x8192x1024, .f32⟩
  | .hbm, ⟨34, _⟩ => ⟨S_, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S_, .f32⟩
  | .hbm, ⟨41, _⟩ => ⟨S2x8192, .f32⟩
  | .hbm, ⟨42, _⟩ => ⟨S2x8192x1, .f32⟩
  | .hbm, ⟨43, _⟩ => ⟨S_, .f32⟩
  | .hbm, ⟨44, _⟩ => ⟨S2x8192x1, .f32⟩
  | .hbm, ⟨45, _⟩ => ⟨S2x8192x1, .f32⟩
  | .hbm, ⟨46, _⟩ => ⟨S2x8192x1024, .f32⟩
  | .hbm, ⟨47, _⟩ => ⟨S2x8192x1024, .f32⟩
  | .hbm, ⟨48, _⟩ => ⟨S2x8192x1024, .f32⟩
  | .hbm, ⟨49, _⟩ => ⟨S_, .f32⟩
  | .hbm, ⟨50, _⟩ => ⟨S2x8192, .f32⟩
  | .hbm, ⟨51, _⟩ => ⟨S2x8192x1, .f32⟩
  | .hbm, ⟨52, _⟩ => ⟨S_, .f32⟩
  | .hbm, ⟨53, _⟩ => ⟨S2x8192x1, .f32⟩
  | .hbm, ⟨54, _⟩ => ⟨S2x8192x1, .f32⟩
  | .hbm, ⟨55, _⟩ => ⟨S2x8192x1024, .f32⟩
  | .hbm, ⟨56, _⟩ => ⟨S2x8192x1024, .f32⟩
  | .hbm, ⟨57, _⟩ => ⟨S_, .f32⟩
  | .hbm, ⟨58, _⟩ => ⟨S2x8192x1, .f32⟩
  | .hbm, ⟨59, _⟩ => ⟨S2x8192x1, .f32⟩
  | .hbm, ⟨60, _⟩ => ⟨S2x8192x1, .f32⟩
  | .hbm, ⟨61, _⟩ => ⟨S2x8192x1024, .f32⟩
  | .hbm, ⟨62, _⟩ => ⟨S2x8192x1024, .f32⟩
  | .hbm, ⟨63, _⟩ => ⟨S1x1x1024, .f32⟩
  | .hbm, ⟨64, _⟩ => ⟨S2x8192x1024, .f32⟩
  | .hbm, ⟨65, _⟩ => ⟨S2x8192x1024, .f32⟩
  | .hbm, ⟨66, _⟩ => ⟨S1x1x1024, .f32⟩
  | .hbm, ⟨67, _⟩ => ⟨S2x8192x1024, .f32⟩
  | .hbm, ⟨68, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩

abbrev nD : Nat := 1
abbrev τ : Topo := Topo.v7x

variable {F : FTy → Type} [FloatOps F]
-- ==== FfnDecodeKernel.lean ====
abbrev S128x4x1024 : Shape := ⟨3, ![128, 4, 1024]⟩
abbrev S128x1x6144 : Shape := ⟨3, ![128, 1, 6144]⟩
abbrev S1024x2816 : Shape := ⟨2, ![1024, 2816]⟩
abbrev S2816x1024 : Shape := ⟨2, ![2816, 1024]⟩
abbrev S1024 : Shape := ⟨1, ![1024]⟩
abbrev S1x512x1024 : Shape := ⟨3, ![1, 512, 1024]⟩
abbrev S128x1x4x6144 : Shape := ⟨4, ![128, 1, 4, 6144]⟩
abbrev S128x4x6144 : Shape := ⟨3, ![128, 4, 6144]⟩
abbrev S1x512x6144 : Shape := ⟨3, ![1, 512, 6144]⟩
abbrev S1x1024 : Shape := ⟨2, ![1, 1024]⟩
abbrev S1x256x1024 : Shape := ⟨3, ![1, 256, 1024]⟩
abbrev S1x256x6144 : Shape := ⟨3, ![1, 256, 6144]⟩
abbrev S256x1024 : Shape := ⟨2, ![256, 1024]⟩
abbrev S256x6144 : Shape := ⟨2, ![256, 6144]⟩
abbrev S256x2816 : Shape := ⟨2, ![256, 2816]⟩
abbrev S256 : Shape := ⟨1, ![256]⟩
abbrev S256x1 : Shape := ⟨2, ![256, 1]⟩

abbrev nBuf : Space → Nat
  | .hbm => 18
  | .vmem => 11
  | .smem => 0
  | _ => 0

abbrev bufTy : (tb : Table) → Fin (tcTables nBuf tb) → BufTy
  | .hbm, ⟨0, _⟩ => ⟨S128x4x1024, .f32⟩
  | .hbm, ⟨1, _⟩ => ⟨S128x1x6144, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1x512x1024, .f32⟩
  | .hbm, ⟨8, _⟩ => ⟨S128x1x4x6144, .f32⟩
  | .hbm, ⟨9, _⟩ => ⟨S128x4x6144, .f32⟩
  | .hbm, ⟨10, _⟩ => ⟨S1x512x6144, .f32⟩
  | .hbm, ⟨11, _⟩ => ⟨S1024x2816, .bf16⟩
  | .hbm, ⟨12, _⟩ => ⟨S1024x2816, .bf16⟩
  | .hbm, ⟨13, _⟩ => ⟨S2816x1024, .bf16⟩
  | .hbm, ⟨14, _⟩ => ⟨S1x1024, .f32⟩
  | .hbm, ⟨15, _⟩ => ⟨S1x1024, .f32⟩
  | .hbm, ⟨16, _⟩ => ⟨S1x512x1024, .f32⟩
  | .hbm, ⟨17, _⟩ => ⟨S128x4x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x6144, .f32⟩
  | .local _ .vmem, ⟨3, _⟩ => ⟨S1x256x6144, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x1024, .f32⟩
  | .local _ .vmem, ⟨8, _⟩ => ⟨S1x1024, .f32⟩
  | .local _ .vmem, ⟨9, _⟩ => ⟨S1x256x1024, .f32⟩
  | .local _ .vmem, ⟨10, _⟩ => ⟨S1x256x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnDecodeReferenceIdeal.lean ====
abbrev S128x4x1024 : Shape := ⟨3, ![128, 4, 1024]⟩
abbrev S128x1x6144 : Shape := ⟨3, ![128, 1, 6144]⟩
abbrev S1024x2816 : Shape := ⟨2, ![1024, 2816]⟩
abbrev S2816x1024 : Shape := ⟨2, ![2816, 1024]⟩
abbrev S1024 : Shape := ⟨1, ![1024]⟩
abbrev S128x1x6x1024 : Shape := ⟨4, ![128, 1, 6, 1024]⟩
abbrev S128x1x1x1024 : Shape := ⟨4, ![128, 1, 1, 1024]⟩
abbrev S128x1x1024 : Shape := ⟨3, ![128, 1, 1024]⟩
abbrev S_ : Shape := ⟨0, ![]⟩
abbrev S128x4x2816 : Shape := ⟨3, ![128, 4, 2816]⟩
abbrev S128x4 : Shape := ⟨2, ![128, 4]⟩
abbrev S128x4x1 : Shape := ⟨3, ![128, 4, 1]⟩
abbrev S1x1x1024 : Shape := ⟨3, ![1, 1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x1x6144, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S128x1x6x1024, .f32⟩
  | .hbm, ⟨8, _⟩ => ⟨S128x1x1x1024, .f32⟩
  | .hbm, ⟨9, _⟩ => ⟨S128x1x1024, .f32⟩
  | .hbm, ⟨10, _⟩ => ⟨S128x1x1x1024, .f32⟩
  | .hbm, ⟨11, _⟩ => ⟨S128x1x1024, .f32⟩
  | .hbm, ⟨12, _⟩ => ⟨S128x1x1x1024, .f32⟩
  | .hbm, ⟨13, _⟩ => ⟨S128x1x1024, .f32⟩
  | .hbm, ⟨14, _⟩ => ⟨S_, .f32⟩
  | .hbm, ⟨15, _⟩ => ⟨S128x1x1024, .f32⟩
  | .hbm, ⟨16, _⟩ => ⟨S128x1x1024, .f32⟩
  | .hbm, ⟨17, _⟩ => ⟨S128x4x1024, .f32⟩
  | .hbm, ⟨18, _⟩ => ⟨S128x4x1024, .f32⟩
  | .hbm, ⟨19, _⟩ => ⟨S128x4x1024, .f32⟩
  | .hbm, ⟨20, _⟩ => ⟨S128x4x1024, .f32⟩
  | .hbm, ⟨21, _⟩ => ⟨S128x4x2816, .f32⟩
  | .hbm, ⟨22, _⟩ => ⟨S128x4x2816, .f32⟩
  | .hbm, ⟨23, _⟩ => ⟨S128x4x2816, .f32⟩
  | .hbm, ⟨24, _⟩ => ⟨S_, .f32⟩
  | .hbm, ⟨25, _⟩ => ⟨S128x4x2816, .f32⟩
  | .hbm, ⟨26, _⟩ => ⟨S128x4x2816, .f32⟩
  | .hbm, ⟨27, _⟩ => ⟨S_, .f32⟩
  | .hbm, ⟨28, _⟩ => ⟨S128x4x2816, .f32⟩
  | .hbm, ⟨29, _⟩ => ⟨S128x4x2816, .f32⟩
  | .hbm, ⟨30, _⟩ => ⟨S128x4x2816, .f32⟩
  | .hbm, ⟨31, _⟩ => ⟨S128x4x2816, .f32⟩
  | .hbm, ⟨32, _⟩ => ⟨S128x4x2816, .f32⟩
  | .hbm, ⟨33, _⟩ => ⟨S128x4x1024, .f32⟩
  | .hbm, ⟨34, _⟩ => ⟨S_, .f32⟩
  | .hbm, ⟨35, _⟩ => ⟨S128x4x1024, .f32⟩
  | .hbm, ⟨36, _⟩ => ⟨S128x4x1024, .f32⟩
  | .hbm, ⟨37, _⟩ => ⟨S128x4x1024, .f32⟩
  | .hbm, ⟨38, _⟩ => ⟨S128x4x1024, .f32⟩
  | .hbm, ⟨39, _⟩ => ⟨S128x4x1024, .f32⟩
  | .hbm, ⟨40, _⟩ => ⟨S_, .f32⟩
  | .hbm, ⟨41, _⟩ => ⟨S128x4, .f32⟩
  | .hbm, ⟨42, _⟩ => ⟨S128x4x1, .f32⟩
  | .hbm, ⟨43, _⟩ => ⟨S_, .f32⟩
  | .hbm, ⟨44, _⟩ => ⟨S128x4x1, .f32⟩
  | .hbm, ⟨45, _⟩ => ⟨S128x4x1, .f32⟩
  | .hbm, ⟨46, _⟩ => ⟨S128x4x1024, .f32⟩
  | .hbm, ⟨47, _⟩ => ⟨S128x4x1024, .f32⟩
  | .hbm, ⟨48, _⟩ => ⟨S128x4x1024, .f32⟩
  | .hbm, ⟨49, _⟩ => ⟨S_, .f32⟩
  | .hbm, ⟨50, _⟩ => ⟨S128x4, .f32⟩
  | .hbm, ⟨51, _⟩ => ⟨S128x4x1, .f32⟩
  | .hbm, ⟨52, _⟩ => ⟨S_, .f32⟩
  | .hbm, ⟨53, _⟩ => ⟨S128x4x1, .f32⟩
  | .hbm, ⟨54, _⟩ => ⟨S128x4x1, .f32⟩
  | .hbm, ⟨55, _⟩ => ⟨S128x4x1024, .f32⟩
  | .hbm, ⟨56, _⟩ => ⟨S128x4x1024, .f32⟩
  | .hbm, ⟨57, _⟩ => ⟨S_, .f32⟩
  | .hbm, ⟨58, _⟩ => ⟨S128x4x1, .f32⟩
  | .hbm, ⟨59, _⟩ => ⟨S128x4x1, .f32⟩
  | .hbm, ⟨60, _⟩ => ⟨S128x4x1, .f32⟩
  | .hbm, ⟨61, _⟩ => ⟨S128x4x1024, .f32⟩
  | .hbm, ⟨62, _⟩ => ⟨S128x4x1024, .f32⟩
  | .hbm, ⟨63, _⟩ => ⟨S1x1x1024, .f32⟩
  | .hbm, ⟨64, _⟩ => ⟨S128x4x1024, .f32⟩
  | .hbm, ⟨65, _⟩ => ⟨S128x4x1024, .f32⟩
  | .hbm, ⟨66, _⟩ => ⟨S1x1x1024, .f32⟩
  | .hbm, ⟨67, _⟩ => ⟨S128x4x1024, .f32⟩
  | .hbm, ⟨68, _⟩ => ⟨S128x4x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩

abbrev nD : Nat := 1
abbrev τ : Topo := Topo.v7x

variable {F : FTy → Type} [FloatOps F]
-- ==== MergeKernel.lean ====
abbrev S2x8192x1024 : Shape := ⟨3, ![2, 8192, 1024]⟩
abbrev S2x1x6144 : Shape := ⟨3, ![2, 1, 6144]⟩
abbrev S2x8192x256 : Shape := ⟨3, ![2, 8192, 256]⟩
abbrev S1024x4096 : Shape := ⟨2, ![1024, 4096]⟩
abbrev S4x256x1024 : Shape := ⟨3, ![4, 256, 1024]⟩
abbrev S1024x1024 : Shape := ⟨2, ![1024, 1024]⟩
abbrev S1024 : Shape := ⟨1, ![1024]⟩
abbrev S4x4x64x1024 : Shape := ⟨4, ![4, 4, 64, 1024]⟩
abbrev S_ : Shape := ⟨0, ![]⟩
abbrev S4x4x128x1024 : Shape := ⟨4, ![4, 4, 128, 1024]⟩
abbrev S4x512x1024 : Shape := ⟨3, ![4, 512, 1024]⟩
abbrev S2x8192x4x64 : Shape := ⟨4, ![2, 8192, 4, 64]⟩
abbrev S2x8192x4x128 : Shape := ⟨4, ![2, 8192, 4, 128]⟩
abbrev S2x8192x512 : Shape := ⟨3, ![2, 8192, 512]⟩
abbrev S4096x1024 : Shape := ⟨2, ![4096, 1024]⟩
abbrev S1x1024 : Shape := ⟨2, ![1, 1024]⟩
abbrev S1x256x1024 : Shape := ⟨3, ![1, 256, 1024]⟩
abbrev S1x1x6144 : Shape := ⟨3, ![1, 1, 6144]⟩
abbrev S1x256x512 : Shape := ⟨3, ![1, 256, 512]⟩
abbrev S256x1024 : Shape := ⟨2, ![256, 1024]⟩
abbrev S1x6144 : Shape := ⟨2, ![1, 6144]⟩
abbrev S256x512 : Shape := ⟨2, ![256, 512]⟩
abbrev S1x512x1024 : Shape := ⟨3, ![1, 512, 1024]⟩
abbrev S512x1024 : Shape := ⟨2, ![512, 1024]⟩
abbrev S256 : Shape := ⟨1, ![256]⟩
abbrev S256x1 : Shape := ⟨2, ![256, 1]⟩

abbrev nBuf : Space → Nat
  | .hbm => 47
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S2x1x6144, .f32⟩
  | .hbm, ⟨2, _⟩ => ⟨S2x8192x256, .f32⟩
  | .hbm, ⟨3, _⟩ => ⟨S2x8192x256, .f32⟩
  | .hbm, ⟨4, _⟩ => ⟨S2x8192x256, .f32⟩
  | .hbm, ⟨5, _⟩ => ⟨S2x8192x256, .f32⟩
  | .hbm, ⟨6, _⟩ => ⟨S1024x4096, .f32⟩
  | .hbm, ⟨7, _⟩ => ⟨S4x256x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S4x4x64x1024, .f32⟩
  | .hbm, ⟨12, _⟩ => ⟨S_, .i32⟩
  | .hbm, ⟨13, _⟩ => ⟨S_, .f32⟩
  | .hbm, ⟨14, _⟩ => ⟨S4x4x128x1024, .f32⟩
  | .hbm, ⟨15, _⟩ => ⟨S4x512x1024, .f32⟩
  | .hbm, ⟨16, _⟩ => ⟨S4x512x1024, .bf16⟩
  | .hbm, ⟨17, _⟩ => ⟨S2x8192x4x64, .f32⟩
  | .hbm, ⟨18, _⟩ => ⟨S_, .i32⟩
  | .hbm, ⟨19, _⟩ => ⟨S_, .f32⟩
  | .hbm, ⟨20, _⟩ => ⟨S2x8192x4x128, .f32⟩
  | .hbm, ⟨21, _⟩ => ⟨S2x8192x512, .f32⟩
  | .hbm, ⟨22, _⟩ => ⟨S2x8192x512, .bf16⟩
  | .hbm, ⟨23, _⟩ => ⟨S2x8192x4x64, .f32⟩
  | .hbm, ⟨24, _⟩ => ⟨S_, .i32⟩
  | .hbm, ⟨25, _⟩ => ⟨S_, .f32⟩
  | .hbm, ⟨26, _⟩ => ⟨S2x8192x4x128, .f32⟩
  | .hbm, ⟨27, _⟩ => ⟨S2x8192x512, .f32⟩
  | .hbm, ⟨28, _⟩ => ⟨S2x8192x512, .bf16⟩
  | .hbm, ⟨29, _⟩ => ⟨S2x8192x4x64, .f32⟩
  | .hbm, ⟨30, _⟩ => ⟨S_, .i32⟩
  | .hbm, ⟨31, _⟩ => ⟨S_, .f32⟩
  | .hbm, ⟨32, _⟩ => ⟨S2x8192x4x128, .f32⟩
  | .hbm, ⟨33, _⟩ => ⟨S2x8192x512, .f32⟩
  | .hbm, ⟨34, _⟩ => ⟨S2x8192x512, .bf16⟩
  | .hbm, ⟨35, _⟩ => ⟨S2x8192x4x64, .f32⟩
  | .hbm, ⟨36, _⟩ => ⟨S_, .i32⟩
  | .hbm, ⟨37, _⟩ => ⟨S_, .f32⟩
  | .hbm, ⟨38, _⟩ => ⟨S2x8192x4x128, .f32⟩
  | .hbm, ⟨39, _⟩ => ⟨S2x8192x512, .f32⟩
  | .hbm, ⟨40, _⟩ => ⟨S2x8192x512, .bf16⟩
  | .hbm, ⟨41, _⟩ => ⟨S4096x1024, .f32⟩
  | .hbm, ⟨42, _⟩ => ⟨S4096x1024, .bf16⟩
  | .hbm, ⟨43, _⟩ => ⟨S1024x1024, .bf16⟩
  | .hbm, ⟨44, _⟩ => ⟨S1x1024, .f32⟩
  | .hbm, ⟨45, _⟩ => ⟨S1x1024, .f32⟩
  | .hbm, ⟨46, _⟩ => ⟨S2x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S4096x1024, .bf16⟩
  | .local _ .vmem, ⟨13, _⟩ => ⟨S4x512x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1x256x1024, .f32⟩
  | .local _ .vmem, ⟨18, _⟩ => ⟨S1x256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_call1_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_1 : Ref sig .tc := ⟨.hbm, 24, rfl⟩
abbrev main_call2_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_call3_v0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_call4_v0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MergeReferenceIdeal.lean ====
abbrev S2x8192x1024 : Shape := ⟨3, ![2, 8192, 1024]⟩
abbrev S2x1x6144 : Shape := ⟨3, ![2, 1, 6144]⟩
abbrev S2x8192x256 : Shape := ⟨3, ![2, 8192, 256]⟩
abbrev S1024x4096 : Shape := ⟨2, ![1024, 4096]⟩
abbrev S4x256x1024 : Shape := ⟨3, ![4, 256, 1024]⟩
abbrev S1024x1024 : Shape := ⟨2, ![1024, 1024]⟩
abbrev S1024 : Shape := ⟨1, ![1024]⟩
abbrev S2x1x6x1024 : Shape := ⟨4, ![2, 1, 6, 1024]⟩
abbrev S2x1x1x1024 : Shape := ⟨4, ![2, 1, 1, 1024]⟩
abbrev S2x1x1024 : Shape := ⟨3, ![2, 1, 1024]⟩
abbrev S_ : Shape := ⟨0, ![]⟩
abbrev S2x8192x4096 : Shape := ⟨3, ![2, 8192, 4096]⟩
abbrev S2x8192x4x1024 : Shape := ⟨4, ![2, 8192, 4, 1024]⟩
abbrev S2x8192x1x256 : Shape := ⟨4, ![2, 8192, 1, 256]⟩
abbrev S2x8192x4x256 : Shape := ⟨4, ![2, 8192, 4, 256]⟩
abbrev S4x1024x2x8192 : Shape := ⟨4, ![4, 1024, 2, 8192]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x6144, .f32⟩
  | .hbm, ⟨2, _⟩ => ⟨S2x8192x256, .f32⟩
  | .hbm, ⟨3, _⟩ => ⟨S2x8192x256, .f32⟩
  | .hbm, ⟨4, _⟩ => ⟨S2x8192x256, .f32⟩
  | .hbm, ⟨5, _⟩ => ⟨S2x8192x256, .f32⟩
  | .hbm, ⟨6, _⟩ => ⟨S1024x4096, .f32⟩
  | .hbm, ⟨7, _⟩ => ⟨S4x256x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S2x1x6x1024, .f32⟩
  | .hbm, ⟨12, _⟩ => ⟨S2x1x1x1024, .f32⟩
  | .hbm, ⟨13, _⟩ => ⟨S2x1x1024, .f32⟩
  | .hbm, ⟨14, _⟩ => ⟨S2x1x1x1024, .f32⟩
  | .hbm, ⟨15, _⟩ => ⟨S2x1x1024, .f32⟩
  | .hbm, ⟨16, _⟩ => ⟨S2x1x1x1024, .f32⟩
  | .hbm, ⟨17, _⟩ => ⟨S2x1x1024, .f32⟩
  | .hbm, ⟨18, _⟩ => ⟨S_, .f32⟩
  | .hbm, ⟨19, _⟩ => ⟨S2x1x1024, .f32⟩
  | .hbm, ⟨20, _⟩ => ⟨S2x1x1024, .f32⟩
  | .hbm, ⟨21, _⟩ => ⟨S2x8192x1024, .f32⟩
  | .hbm, ⟨22, _⟩ => ⟨S2x8192x1024, .f32⟩
  | .hbm, ⟨23, _⟩ => ⟨S2x8192x1024, .f32⟩
  | .hbm, ⟨24, _⟩ => ⟨S2x8192x1024, .f32⟩
  | .hbm, ⟨25, _⟩ => ⟨S2x8192x4096, .f32⟩
  | .hbm, ⟨26, _⟩ => ⟨S2x8192x4x1024, .f32⟩
  | .hbm, ⟨27, _⟩ => ⟨S2x8192x4x1024, .f32⟩
  | .hbm, ⟨28, _⟩ => ⟨S2x8192x4x1024, .f32⟩
  | .hbm, ⟨29, _⟩ => ⟨S_, .f32⟩
  | .hbm, ⟨30, _⟩ => ⟨S2x8192x4x1024, .f32⟩
  | .hbm, ⟨31, _⟩ => ⟨S2x8192x4x1024, .f32⟩
  | .hbm, ⟨32, _⟩ => ⟨S_, .f32⟩
  | .hbm, ⟨33, _⟩ => ⟨S2x8192x4x1024, .f32⟩
  | .hbm, ⟨34, _⟩ => ⟨S2x8192x4x1024, .f32⟩
  | .hbm, ⟨35, _⟩ => ⟨S2x8192x1x256, .f32⟩
  | .hbm, ⟨36, _⟩ => ⟨S2x8192x1x256, .f32⟩
  | .hbm, ⟨37, _⟩ => ⟨S2x8192x1x256, .f32⟩
  | .hbm, ⟨38, _⟩ => ⟨S2x8192x1x256, .f32⟩
  | .hbm, ⟨39, _⟩ => ⟨S2x8192x4x256, .f32⟩
  | .hbm, ⟨40, _⟩ => ⟨S4x1024x2x8192, .f32⟩
  | .hbm, ⟨41, _⟩ => ⟨S2x8192x4x1024, .f32⟩
  | .hbm, ⟨42, _⟩ => ⟨S2x8192x4x1024, .f32⟩
  | .hbm, ⟨43, _⟩ => ⟨S_, .f32⟩
  | .hbm, ⟨44, _⟩ => ⟨S2x8192x1024, .f32⟩
  | .hbm, ⟨45, _⟩ => ⟨S2x8192x1024, .f32⟩
  | .hbm, ⟨46, _⟩ => ⟨S_, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | .hbm, ⟨51, _⟩ => ⟨S2x8192x1024, .f32⟩
  | .hbm, ⟨52, _⟩ => ⟨S_, .f32⟩
  | .hbm, ⟨53, _⟩ => ⟨S2x8192, .f32⟩
  | .hbm, ⟨54, _⟩ => ⟨S2x8192x1, .f32⟩
  | .hbm, ⟨55, _⟩ => ⟨S_, .f32⟩
  | .hbm, ⟨56, _⟩ => ⟨S2x8192x1, .f32⟩
  | .hbm, ⟨57, _⟩ => ⟨S2x8192x1, .f32⟩
  | .hbm, ⟨58, _⟩ => ⟨S2x8192x1024, .f32⟩
  | .hbm, ⟨59, _⟩ => ⟨S2x8192x1024, .f32⟩
  | .hbm, ⟨60, _⟩ => ⟨S2x8192x1024, .f32⟩
  | .hbm, ⟨61, _⟩ => ⟨S_, .f32⟩
  | .hbm, ⟨62, _⟩ => ⟨S2x8192, .f32⟩
  | .hbm, ⟨63, _⟩ => ⟨S2x8192x1, .f32⟩
  | .hbm, ⟨64, _⟩ => ⟨S_, .f32⟩
  | .hbm, ⟨65, _⟩ => ⟨S2x8192x1, .f32⟩
  | .hbm, ⟨66, _⟩ => ⟨S2x8192x1, .f32⟩
  | .hbm, ⟨67, _⟩ => ⟨S2x8192x1024, .f32⟩
  | .hbm, ⟨68, _⟩ => ⟨S2x8192x1024, .f32⟩
  | .hbm, ⟨69, _⟩ => ⟨S_, .f32⟩
  | .hbm, ⟨70, _⟩ => ⟨S2x8192x1, .f32⟩
  | .hbm, ⟨71, _⟩ => ⟨S2x8192x1, .f32⟩
  | .hbm, ⟨72, _⟩ => ⟨S2x8192x1, .f32⟩
  | .hbm, ⟨73, _⟩ => ⟨S2x8192x1024, .f32⟩
  | .hbm, ⟨74, _⟩ => ⟨S2x8192x1024, .f32⟩
  | .hbm, ⟨75, _⟩ => ⟨S1x1x1024, .f32⟩
  | .hbm, ⟨76, _⟩ => ⟨S2x8192x1024, .f32⟩
  | .hbm, ⟨77, _⟩ => ⟨S2x8192x1024, .f32⟩
  | .hbm, ⟨78, _⟩ => ⟨S1x1x1024, .f32⟩
  | .hbm, ⟨79, _⟩ => ⟨S2x8192x1024, .f32⟩
  | .hbm, ⟨80, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== Proof.FfnValue.lean ====
module

public import proofs.«01_k».proof.Proof.Gen.FfnKernelIdeal.Frame
public import proofs.«01_k».proof.Proof.Gen.FfnReferenceIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnKernelIdeal.Hand

open Cert.FfnKernelIdeal Cert.FfnKernelIdeal.Gen Cert.FfnReferenceIdeal.Read

variable (m : (ℓ : Loc nD τ sig) → Buf (Elt Ideal) ℓ)

/-- The block indices of the eight windows at every point: sequence `t / 32`, row tile `t % 32`. -/
theorem idx : ∀ t : Fin cfg0.N, win0_0.index t = ![t.val / 32, t.val % 32, 0] ∧ win0_1.index t = ![t.val / 32, 0, 0]
    ∧ win0_2.index t = ![0, 0] ∧ win0_3.index t = ![0, 0] ∧ win0_4.index t = ![0, 0] ∧ win0_5.index t = ![0, 0]
    ∧ win0_6.index t = ![0, 0] ∧ win0_7.index t = ![t.val / 32, t.val % 32, 0] :=
  (by decide +kernel : ∀ t : Fin grid0.N, _)

/-- The residual sum before the last normalisation, at row `r` of a block, is the reference's at the array's row. -/
theorem pre_point (c : Dev nD) (t : Fin cfg0.N) (r : Fin 256) (d : Fin 1024) (hn : t.val / 32 < 2) (hr : t.val % 32 * 256 + r.val < 8192) :
    k0_pay2 (F := Ideal) (iblk m c 0 t) (iblk m c 1 t) (iblk m c 2 t) (iblk m c 3 t) (iblk m c 4 t) (ix2 r d)
      = val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 ⟨t.val / 32, hn⟩ ⟨t.val % 32 * 256 + r.val, hr⟩ d) := by
  pointwise [k0_pay2, val_main_v22, val_main_v21, val_main_v20, val_main_v19, val_main_v18, val_main_cst_0, val_main_v17, val_main_v16, val_main_v15, val_main_v14, val_main_call0_v5, val_main_call0_v4, val_main_call0_cst_0, val_main_call0_v3, val_main_call0_v2, val_main_call0_cst, val_main_call0_v1, val_main_call0_v0, val_main_v13, val_main_v12, val_main_v11, val_main_v10, val_main_v9, val_main_v8, val_main_v7, val_main_cst, val_main_v6, val_main_v5, val_main_v4, val_main_v3, val_main_v2, val_main_v1, val_main_v0]
  simp only [zero_sub]
  blk_point [iblk, V, idx t]

/-- The kernel's last normalisation of row `r` of a block is the reference's of the array's row. -/
theorem norm_point (c : Dev nD) (t : Fin cfg0.N) (r : Fin 256) (d : Fin 1024) (hn : t.val / 32 < 2) (hr : t.val % 32 * 256 + r.val < 8192) :
    k0_pay1 (F := Ideal) (k0_pay2 (F := Ideal) (iblk m c 0 t) (iblk m c 1 t) (iblk m c 2 t) (iblk m c 3 t) (iblk m c 4 t)) (iblk m c 5 t) (iblk m c 6 t) (ix3 0 r d)
      = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 ⟨t.val / 32, hn⟩ ⟨t.val % 32 * 256 + r.val, hr⟩ d) := by
  pointwise [k0_pay1, val_main_v46, val_main_v45, val_main_v44, val_main_v43, val_main_v42, val_main_v41, val_main_v40, val_main_v39, val_main_v38, val_main_v37, val_main_v36, val_main_cst_5, val_main_v35, val_main_v34, val_main_v33, val_main_v32, val_main_cst_4, val_main_v31, val_main_v30, val_main_cst_3, val_main_v29, val_main_v28, val_main_v27, val_main_v26, val_main_v25, val_main_cst_2, val_main_v24, val_main_v23, val_main_cst_1]
  simp only [pre_point m c t _ _ hn hr]
  blk_point [iblk, V, idx t]

/-- What the region leaves in the array returned is the reference's result at the same arguments. -/
theorem final (c : Dev nD) : (dats m 0 c).arrAt 7 (cfgs 0).N = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  frame_out
  idx_vars y
  obtain rfl : y0 = 0 := Subsingleton.elim _ _
  have ht : t.val < 64 := t.isLt
  have hn : t.val / 32 < 2 := by omega
  have hr : t.val % 32 * 256 + y1.val < 8192 := by omega
  refine (norm_point m c t y1 y2 hn hr).trans (congrArg _ ?_)
  blk_ext [idx t]

end Cert.FfnKernelIdeal.Hand

namespace Cert.FfnKernelIdeal.Hand

/-- Over the ideal scalars the mixer returns the reference's array. -/
theorem algebraic : Cert.algebraic_FfnKernelIdeal_FfnReferenceIdeal := by
  pair_intro
  · run_from Cert.FfnKernelIdeal.Gen.run_main m g
  · run_from Cert.FfnReferenceIdeal.Value.run m' g'
    obtain ⟨h0, h1, h2, h3, h4, h5, h6⟩ := hagree c
    rw [Cert.FfnReferenceIdeal.Read.val_main_v46_eq, h0, h1, h2, h3, h4, h5, h6]
    exact (final m c).symm

end Cert.FfnKernelIdeal.Hand

end
-- ==== Proof.FfnDecodeHost.lean ====
module

public import proofs.«01_k».proof.Proof.Gen.FfnDecodeKernelIdeal.Frame
public import proofs.«01_k».proof.Proof.Gen.FfnDecodeReferenceIdeal.Read
public import proofs.«01_k».proof.Defs
public import Idealize.ShloMosaic.Lib.Pipeline.ValueKit
public import Idealize.ShloMosaic.Lib.StableHlo.ReadAt
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnDecodeKernelIdeal.Hand

open Cert.FfnDecodeKernelIdeal Cert.FfnDecodeKernelIdeal.Gen Cert.FfnDecodeReferenceIdeal.Read

variable (m : (ℓ : Loc nD τ sig) → Buf (Elt Ideal) ℓ)

/-- The block indices of the eight windows at every point: row tile `t` of the 512 rows. -/
theorem idx : ∀ t : Fin cfg0.N, win0_0.index t = ![0, t.val, 0] ∧ win0_1.index t = ![0, t.val, 0]
    ∧ win0_2.index t = ![0, 0] ∧ win0_3.index t = ![0, 0] ∧ win0_4.index t = ![0, 0] ∧ win0_5.index t = ![0, 0]
    ∧ win0_6.index t = ![0, 0] ∧ win0_7.index t = ![0, t.val, 0] :=
  (by decide +kernel : ∀ t : Fin grid0.N, _)

/-- The rows as the region finds them: row `R` is position `R % 4` of sequence `R / 4`. -/
theorem V_v0 (c : Dev nD) (R : Fin 512) (k : Fin 1024) : V (F := Ideal) m c main_v0 (ix3 0 R k) = (m ((c : Thread nD τ).loc main_arg0)) (ix3 ⟨R.val / 4, by omega⟩ ⟨R.val % 4, by omega⟩ k) := by
  entry_read
  after_reads_at

/-- The modulation as the region finds it: row `R` is that of sequence `R / 4`. -/
theorem V_v3 (c : Dev nD) (R : Fin 512) (k : Fin 6144) : V (F := Ideal) m c main_v3 (ix3 0 R k) = (m ((c : Thread nD τ).loc main_arg1)) (ix3 ⟨R.val / 4, by omega⟩ 0 k) := by
  entry_read
  after_reads_at

/-- A row of a block of the activations is the row of the array the block lies at. -/
theorem read_0 (c : Dev nD) (t : Fin cfg0.N) (r : Fin 256) (hr : t.val * 256 + r.val < 512) (k : Fin 1024) (Y : Buf (Elt Ideal) ((c : Thread nD τ).loc main_v0)) :
    ((cfg0.win 0).blk t).view.read (Elt Ideal) Y (ix3 0 r k) = Y (ix3 0 ⟨t.val * 256 + r.val, hr⟩ k) := by
  blk_point [idx t]

/-- A row of a block of the modulation likewise. -/
theorem read_1 (c : Dev nD) (t : Fin cfg0.N) (r : Fin 256) (hr : t.val * 256 + r.val < 512) (k : Fin 6144) (Y : Buf (Elt Ideal) ((c : Thread nD τ).loc main_v3)) :
    ((cfg0.win 1).blk t).view.read (Elt Ideal) Y (ix3 0 r k) = Y (ix3 0 ⟨t.val * 256 + r.val, hr⟩ k) := by
  blk_point [idx t]

/-- Row `r` of block `t` of the activations, as an entry of the argument. -/
theorem blk_0 (c : Dev nD) (t : Fin cfg0.N) (r : Fin 256) (hr : t.val * 256 + r.val < 512) (k : Fin 1024) :
    iblk m c 0 t (ix3 0 r k) = (m ((c : Thread nD τ).loc main_arg0)) (ix3 ⟨(t.val * 256 + r.val) / 4, by omega⟩ ⟨(t.val * 256 + r.val) % 4, by omega⟩ k) := by
  unfold iblk
  exact (read_0 c t r hr k (V m c main_v0)).trans (V_v0 m c ⟨t.val * 256 + r.val, hr⟩ k)

/-- Row `r` of block `t` of the modulation, as an entry of the argument: the four positions of a sequence share it. -/
theorem blk_1 (c : Dev nD) (t : Fin cfg0.N) (r : Fin 256) (hr : t.val * 256 + r.val < 512) (k : Fin 6144) :
    iblk m c 1 t (ix3 0 r k) = (m ((c : Thread nD τ).loc main_arg1)) (ix3 ⟨(t.val * 256 + r.val) / 4, by omega⟩ 0 k) := by
  unfold iblk
  exact (read_1 c t r hr k (V m c main_v3)).trans (V_v3 m c ⟨t.val * 256 + r.val, hr⟩ k)

/-- The first weight's block is the whole array. -/
theorem blk_2 (c : Dev nD) (t : Fin cfg0.N) (a : Fin 1024) (b : Fin 2816) : iblk m c 2 t (ix2 a b) = (m ((c : Thread nD τ).loc main_arg2)) (ix2 a b) := by
  blk_point [iblk, V, idx t]

/-- The second weight's block is the whole array. -/
theorem blk_3 (c : Dev nD) (t : Fin cfg0.N) (a : Fin 1024) (b : Fin 2816) : iblk m c 3 t (ix2 a b) = (m ((c : Thread nD τ).loc main_arg3)) (ix2 a b) := by
  blk_point [iblk, V, idx t]

/-- The third weight's block is the whole array. -/
theorem blk_4 (c : Dev nD) (t : Fin cfg0.N) (a : Fin 2816) (b : Fin 1024) : iblk m c 4 t (ix2 a b) = (m ((c : Thread nD τ).loc main_arg4)) (ix2 a b) := by
  blk_point [iblk, V, idx t]

/-- The last normalisation's gain as the region finds it. -/
theorem V_v7 (c : Dev nD) (k : Fin 1024) : V (F := Ideal) m c main_v7 (ix2 0 k) = (m ((c : Thread nD τ).loc main_arg5)) (ix1 k) := by
  entry_read
  after_reads_at

/-- The block of the gain is the whole array. -/
theorem read_5 (c : Dev nD) (t : Fin cfg0.N) (k : Fin 1024) (Y : Buf (Elt Ideal) ((c : Thread nD τ).loc main_v7)) :
    ((cfg0.win 5).blk t).view.read (Elt Ideal) Y (ix2 0 k) = Y (ix2 0 k) := by
  blk_point [idx t]

/-- An entry of the gain's block, as an entry of the argument. -/
theorem blk_5 (c : Dev nD) (t : Fin cfg0.N) (k : Fin 1024) : iblk m c 5 t (ix2 0 k) = (m ((c : Thread nD τ).loc main_arg5)) (ix1 k) := by
  unfold iblk
  exact (read_5 c t k (V m c main_v7)).trans (V_v7 m c k)

/-- The last normalisation's bias as the region finds it. -/
theorem V_v8 (c : Dev nD) (k : Fin 1024) : V (F := Ideal) m c main_v8 (ix2 0 k) = (m ((c : Thread nD τ).loc main_arg6)) (ix1 k) := by
  entry_read
  after_reads_at

/-- The block of the bias is the whole array. -/
theorem read_6 (c : Dev nD) (t : Fin cfg0.N) (k : Fin 1024) (Y : Buf (Elt Ideal) ((c : Thread nD τ).loc main_v8)) :
    ((cfg0.win 6).blk t).view.read (Elt Ideal) Y (ix2 0 k) = Y (ix2 0 k) := by
  blk_point [idx t]

/-- An entry of the bias's block, as an entry of the argument. -/
theorem blk_6 (c : Dev nD) (t : Fin cfg0.N) (k : Fin 1024) : iblk m c 6 t (ix2 0 k) = (m ((c : Thread nD τ).loc main_arg6)) (ix1 k) := by
  unfold iblk
  exact (read_6 c t k (V m c main_v8)).trans (V_v8 m c k)

end Cert.FfnDecodeKernelIdeal.Hand

end
-- ==== Proof.FfnDecodeValue.lean ====
module

public import proofs.«01_k».proof.Proof.Gen.FfnDecodeKernelIdeal.Frame
public import proofs.«01_k».proof.Proof.FfnDecodeHost
public import proofs.«01_k».proof.Proof.Gen.FfnDecodeReferenceIdeal.Read
public import proofs.«01_k».proof.Defs
public import Idealize.ShloMosaic.Lib.Pipeline.ValueKit
public import Idealize.ShloMosaic.Lib.StableHlo.ReadAt
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnDecodeKernelIdeal.Hand

open Cert.FfnDecodeKernelIdeal Cert.FfnDecodeKernelIdeal.Gen Cert.FfnDecodeReferenceIdeal.Read

variable (m : (ℓ : Loc nD τ sig) → Buf (Elt Ideal) ℓ)

/-- The residual sum before the last normalisation, at row `r` of a block, is the reference's at the array's row. -/
theorem pre_point (c : Dev nD) (t : Fin cfg0.N) (r : Fin 256) (d : Fin 1024) (hr : t.val * 256 + r.val < 512) :
    k0_pay2 (F := Ideal) (iblk m c 0 t) (iblk m c 1 t) (iblk m c 2 t) (iblk m c 3 t) (iblk m c 4 t) (ix2 r d)
      = val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 ⟨(t.val * 256 + r.val) / 4, by omega⟩ ⟨(t.val * 256 + r.val) % 4, by omega⟩ d) := by
  pointwise [k0_pay2, val_main_v22, val_main_v21, val_main_v20, val_main_v19, val_main_v18, val_main_cst_0, val_main_v17, val_main_v16, val_main_v15, val_main_v14, val_main_call0_v5, val_main_call0_v4, val_main_call0_cst_0, val_main_call0_v3, val_main_call0_v2, val_main_call0_cst, val_main_call0_v1, val_main_call0_v0, val_main_v13, val_main_v12, val_main_v11, val_main_v10, val_main_v9, val_main_v8, val_main_v7, val_main_cst, val_main_v6, val_main_v5, val_main_v4, val_main_v3, val_main_v2, val_main_v1, val_main_v0]
  simp only [zero_sub, blk_0 m c t r hr, blk_1 m c t r hr, blk_2 m c t, blk_3 m c t, blk_4 m c t]

/-- The kernel's last normalisation of row `r` of a block is the reference's of the array's row. -/
theorem norm_point (c : Dev nD) (t : Fin cfg0.N) (r : Fin 256) (d : Fin 1024) (hr : t.val * 256 + r.val < 512) :
    k0_pay1 (F := Ideal) (k0_pay2 (F := Ideal) (iblk m c 0 t) (iblk m c 1 t) (iblk m c 2 t) (iblk m c 3 t) (iblk m c 4 t)) (iblk m c 5 t) (iblk m c 6 t) (ix3 0 r d)
      = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 ⟨(t.val * 256 + r.val) / 4, by omega⟩ ⟨(t.val * 256 + r.val) % 4, by omega⟩ d) := by
  pointwise [k0_pay1, val_main_v46, val_main_v45, val_main_v44, val_main_v43, val_main_v42, val_main_v41, val_main_v40, val_main_v39, val_main_v38, val_main_v37, val_main_v36, val_main_cst_5, val_main_v35, val_main_v34, val_main_v33, val_main_v32, val_main_cst_4, val_main_v31, val_main_v30, val_main_cst_3, val_main_v29, val_main_v28, val_main_v27, val_main_v26, val_main_v25, val_main_cst_2, val_main_v24, val_main_v23, val_main_cst_1]
  simp only [pre_point m c t r _ hr, blk_5 m c t, blk_6 m c t]

/-- The region's array: row `R` is the reference's at position `R % 4` of sequence `R / 4`. -/
def rows (c : Dev nD) : Vec Ideal S1x512x1024 .f32 := fun y =>
  val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 ⟨(y 1).val / 4, by have h : (y 1).val < 512 := (y 1).isLt; omega⟩ ⟨(y 1).val % 4, by omega⟩ (y 2))

/-- What the region leaves in its array. -/
theorem final (c : Dev nD) : (dats m 0 c).arrAt 7 (cfgs 0).N = rows m c := by
  refine (dats m 0 c).arrAt_eq_of_covers 7 _ (by decide +kernel) fun t _ y => ?_
  blk_simp
  rw [after0_7]
  frame_out
  idx_vars y
  obtain rfl : y0 = 0 := Subsingleton.elim _ _
  have ht : t.val < 2 := t.isLt
  have hy := y1.isLt
  have hr : t.val * 256 + y1.val < 512 := by omega
  have e : ((View.whole main_v9).slice (win0_7.rect t)).emb (ix3 0 y1 y2) = ix3 0 ⟨t.val * 256 + y1.val, hr⟩ y2 := by
    blk_ext [idx t]
  rw [e]
  exact norm_point m c t y1 y2 hr

/-- The operation after the region leaves argument 0 as it was. -/
theorem tail_arg0 (c : Dev nD) : Pipeline.afterTail₀ cfgs (dats m) 0 (V0 m) [hostOps1] c main_arg0 = m ((c.tc : Thread nD τ).loc main_arg0) := by
  unfold Pipeline.afterTail₀
  simp only [hostOps1, List.flatten_cons, List.flatten_nil, List.cons_append, List.nil_append, List.append_nil]
  after_results
  rw [Pipeline.withArrays_of_ne _ _ _ _ main_arg0 (by decide)]
  exact V_main_arg0 m c

/-- The operation after the region leaves argument 1 as it was. -/
theorem tail_arg1 (c : Dev nD) : Pipeline.afterTail₀ cfgs (dats m) 0 (V0 m) [hostOps1] c main_arg1 = m ((c.tc : Thread nD τ).loc main_arg1) := by
  unfold Pipeline.afterTail₀
  simp only [hostOps1, List.flatten_cons, List.flatten_nil, List.cons_append, List.nil_append, List.append_nil]
  after_results
  rw [Pipeline.withArrays_of_ne _ _ _ _ main_arg1 (by decide)]
  exact V_main_arg1 m c

/-- The operation after the region leaves argument 2 as it was. -/
theorem tail_arg2 (c : Dev nD) : Pipeline.afterTail₀ cfgs (dats m) 0 (V0 m) [hostOps1] c main_arg2 = m ((c.tc : Thread nD τ).loc main_arg2) := by
  unfold Pipeline.afterTail₀
  simp only [hostOps1, List.flatten_cons, List.flatten_nil, List.cons_append, List.nil_append, List.append_nil]
  after_results
  rw [Pipeline.withArrays_of_ne _ _ _ _ main_arg2 (by decide)]
  exact V_main_arg2 m c

/-- The operation after the region leaves argument 3 as it was. -/
theorem tail_arg3 (c : Dev nD) : Pipeline.afterTail₀ cfgs (dats m) 0 (V0 m) [hostOps1] c main_arg3 = m ((c.tc : Thread nD τ).loc main_arg3) := by
  unfold Pipeline.afterTail₀
  simp only [hostOps1, List.flatten_cons, List.flatten_nil, List.cons_append, List.nil_append, List.append_nil]
  after_results
  rw [Pipeline.withArrays_of_ne _ _ _ _ main_arg3 (by decide)]
  exact V_main_arg3 m c

/-- The operation after the region leaves argument 4 as it was. -/
theorem tail_arg4 (c : Dev nD) : Pipeline.afterTail₀ cfgs (dats m) 0 (V0 m) [hostOps1] c main_arg4 = m ((c.tc : Thread nD τ).loc main_arg4) := by
  unfold Pipeline.afterTail₀
  simp only [hostOps1, List.flatten_cons, List.flatten_nil, List.cons_append, List.nil_append, List.append_nil]
  after_results
  rw [Pipeline.withArrays_of_ne _ _ _ _ main_arg4 (by decide)]
  exact V_main_arg4 m c

/-- The operation after the region leaves argument 5 as it was. -/
theorem tail_arg5 (c : Dev nD) : Pipeline.afterTail₀ cfgs (dats m) 0 (V0 m) [hostOps1] c main_arg5 = m ((c.tc : Thread nD τ).loc main_arg5) := by
  unfold Pipeline.afterTail₀
  simp only [hostOps1, List.flatten_cons, List.flatten_nil, List.cons_append, List.nil_append, List.append_nil]
  after_results
  rw [Pipeline.withArrays_of_ne _ _ _ _ main_arg5 (by decide)]
  exact V_main_arg5 m c

/-- The operation after the region leaves argument 6 as it was. -/
theorem tail_arg6 (c : Dev nD) : Pipeline.afterTail₀ cfgs (dats m) 0 (V0 m) [hostOps1] c main_arg6 = m ((c.tc : Thread nD τ).loc main_arg6) := by
  unfold Pipeline.afterTail₀
  simp only [hostOps1, List.flatten_cons, List.flatten_nil, List.cons_append, List.nil_append, List.append_nil]
  after_results
  rw [Pipeline.withArrays_of_ne _ _ _ _ main_arg6 (by decide)]
  exact V_main_arg6 m c

/-- The array returned is the reference's. -/
theorem returned (c : Dev nD) (n : Fin 128) (s : Fin 4) (d : Fin 1024) :
    Pipeline.afterTail₀ cfgs (dats m) 0 (V0 m) [hostOps1] c main_v10 (ix3 n s d) = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 n s d) := by
  have hn := n.isLt
  have hs := s.isLt
  have hb : n.val * 4 + s.val < 512 := by omega
  have key : Pipeline.withArrays (cfgs 0).spec c (V0 m c) (fun w => (dats m 0 c).arrAt w (cfgs 0).N) (Proc.tc.devRef main_v9) (ix3 0 ⟨n.val * 4 + s.val, hb⟩ d)
      = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 n s d) := by
    refine (congrFun (Pipeline.withArrays_arr (cfgs 0).spec (by decide) c (V0 m c) (fun w => (dats m 0 c).arrAt w (cfgs 0).N) 7) (ix3 0 ⟨n.val * 4 + s.val, hb⟩ d)).trans ?_
    refine (congrFun (final m c) (ix3 0 ⟨n.val * 4 + s.val, hb⟩ d)).trans ?_
    have e1 : (⟨(n.val * 4 + s.val) / 4, by omega⟩ : Fin 128) = n := Fin.ext (by show (n.val * 4 + s.val) / 4 = n.val; omega)
    have e2 : (⟨(n.val * 4 + s.val) % 4, by omega⟩ : Fin 4) = s := Fin.ext (by show (n.val * 4 + s.val) % 4 = s.val; omega)
    exact congrArg₂ (fun a b => val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 a b d)) e1 e2
  unfold Pipeline.afterTail₀
  simp only [hostOps1, List.flatten_cons, List.flatten_nil, List.cons_append, List.nil_append, List.append_nil]
  after_reads_at
  exact key

set_option maxHeartbeats 2000000 in
/-- Over the ideal scalars the mixer returns the reference's array at the decoding step. -/
theorem algebraic : Cert.algebraic_FfnDecodeKernelIdeal_FfnDecodeReferenceIdeal := by
  pair_intro
  · run_from Cert.FfnDecodeKernelIdeal.Gen.run_main m g
    · exact tail_arg0 m c
    · exact tail_arg1 m c
    · exact tail_arg2 m c
    · exact tail_arg3 m c
    · exact tail_arg4 m c
    · exact tail_arg5 m c
    · exact tail_arg6 m c
  · run_from Cert.FfnDecodeReferenceIdeal.Value.run m' g'
    obtain ⟨h0, h1, h2, h3, h4, h5, h6⟩ := hagree c
    rw [Cert.FfnDecodeReferenceIdeal.Read.val_main_v46_eq, h0, h1, h2, h3, h4, h5, h6]
    funext y
    idx_vars y
    exact (returned m c y0 y1 y2).symm

end Cert.FfnDecodeKernelIdeal.Hand

end
-- ==== Proof.MergeValue.lean ====
module

public import proofs.«01_k».proof.Proof.Gen.MergeKernelIdeal.Frame
public import proofs.«01_k».proof.Proof.Gen.MergeReferenceIdeal.Read
public import proofs.«01_k».proof.Defs
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.MergeKernelIdeal.Hand

open Cert.MergeKernelIdeal Cert.MergeKernelIdeal.Gen Cert.MergeReferenceIdeal.Read

/-- The channel of the unpadded branch that lane `k` of the padded slabs holds. -/
def lane (k : Fin 512) : Fin 256 := ⟨k.val / 128 * 64 + (k.val % 128 - 64), by omega⟩

/-- The integer zero the pads convert is the ideal zero. -/
theorem ofInt_zero : FloatOps.sitofp (F := Ideal) FTy.f32 0#32 = (0 : EReal) := by
  show (((0#32 : BitVec 32).toInt : ℝ) : EReal) = 0
  simp

/-- A padded lane as the host's pad writes it: the value in a slab's upper half, zero in its lower half. -/
theorem pad_lane (k : Fin 512) (f : Fin 256 → EReal) :
    (if h : k.val / 128 < 4 ∧ 64 ≤ k.val % 128 ∧ k.val % 128 - 64 < 64 then f ⟨k.val / 128 * 64 + (k.val % 128 - 64), by omega⟩ else FloatOps.sitofp (F := Ideal) FTy.f32 0#32)
      = if 64 ≤ k.val % 128 then f (lane k) else 0 := by
  have hk := k.isLt
  by_cases h : 64 ≤ k.val % 128
  · rw [if_pos h, dif_pos ⟨by omega, h, by omega⟩]; rfl
  · rw [if_neg h, dif_neg (fun h' => h h'.2.1)]; exact ofInt_zero

/-- A product of two padded rows, summed over the padded lanes, is the sum over the branch's channels. -/
theorem sum_lane (f g : Fin 256 → EReal) :
    (∑ k : Fin 512, (if 64 ≤ k.val % 128 then f (lane k) else 0) * (if 64 ≤ k.val % 128 then g (lane k) else 0)) = ∑ k : Fin 256, g k * f k := by
  rw [Fin.sum_univ_tiles 4 128 rfl, Fin.sum_univ_tiles 4 64 rfl]
  refine Finset.sum_congr rfl fun j _ => ?_
  rw [Fin.sum_univ_two_halves 64 64 rfl]
  refine (congrArg₂ (· + ·) (Finset.sum_eq_zero fun u _ => ?_) (Finset.sum_congr rfl fun u _ => ?_)).trans (zero_add _)
  · have h1 : ¬ 64 ≤ (j.val * 128 + u.val) % 128 := by omega
    simp only [h1, if_false, zero_mul]
  · have h1 : 64 ≤ (j.val * 128 + (64 + u.val)) % 128 := by omega
    have h2 : lane ⟨j.val * 128 + (64 + u.val), by omega⟩ = ⟨j.val * 64 + u.val, by omega⟩ := Fin.ext (show (j.val * 128 + (64 + u.val)) / 128 * 64 + ((j.val * 128 + (64 + u.val)) % 128 - 64) = j.val * 64 + u.val by omega)
    simp only [h1, if_true, h2]
    exact mul_comm _ _

section
variable {F : FTy → Type} [FloatOps F]

/-- The gated sum of the four branches, from the input windows' blocks. -/
def mrg (x0 : Vec F S1x256x1024 .f32) (x1 : Vec F S1x1x6144 .f32) (x2 : Vec F S1x256x512 .bf16) (x3 : Vec F S1x256x512 .bf16) (x4 : Vec F S1x256x512 .bf16) (x5 : Vec F S1x256x512 .bf16) (x6 : Vec F S4096x1024 .bf16) (x7 : Vec F S4x512x1024 .bf16) (x8 : Vec F S1024x1024 .bf16) (x9 : Vec F S1x1024 .f32) (x10 : Vec F S1x1024 .f32) : FVec F S256x1024 .f32 :=
  addf (k0_pay17 x0 x1 x2 x3 x4 x5 x6 x7 x8 x9 x10) (mulf (divf (broadcast S256x1024 (Scalar.ofBits .f32 0x3F800000#32)) (addf (broadcast S256x1024 (Scalar.ofBits .f32 0x3F800000#32)) (exp (k0_pay18 x0 x1 x2 x3 x4 x5 x6 x7 x8 x9 x10))))
    (matmul dot_S256x512_S512x1024_S256x1024_1_0_0_1_n_n none (shapeCast S256x512 x5 shapeCasts_S1x256x512_S256x512) (shapeCast S512x1024 (View.ld x7 r0_10) shapeCasts_S1x512x1024_S512x1024) (constant S256x1024 .f32 0x00000000#32)))

/-- The residual sum the last normalisation reads, from the input windows' blocks. -/
def hres (x0 : Vec F S1x256x1024 .f32) (x1 : Vec F S1x1x6144 .f32) (x2 : Vec F S1x256x512 .bf16) (x3 : Vec F S1x256x512 .bf16) (x4 : Vec F S1x256x512 .bf16) (x5 : Vec F S1x256x512 .bf16) (x6 : Vec F S4096x1024 .bf16) (x7 : Vec F S4x512x1024 .bf16) (x8 : Vec F S1024x1024 .bf16) (x9 : Vec F S1x1024 .f32) (x10 : Vec F S1x1024 .f32) : FVec F S256x1024 .f32 :=
  addf (mulf (broadcast S256x1024 (Scalar.ofBits .f32 0x3FB504F3#32)) (k0_pay14 x0 x1 x2 x3 x4 x5 x6 x7 x8 x9 x10))
    (mulf (broadcastTo S256x1024 (extractStridedSlice S1x1024 ![0, 2048] (k0_pay15 x0 x1 x2 x3 x4 x5 x6 x7 x8 x9 x10) slices_S1x6144_o0_2048_S1x1024) broadcasts_S1x1024_S256x1024)
      (matmul dot_S256x1024_S1024x1024_S256x1024_1_0_0_1_n_n none (truncf .bf16 (mrg x0 x1 x2 x3 x4 x5 x6 x7 x8 x9 x10) bitsLt_bf16_f32) (shapeCast S1024x1024 x8 shapeCasts_S1024x1024_S1024x1024) (constant S256x1024 .f32 0x00000000#32)))

/-- The residual sum less its row's mean. -/
def hcen (x0 : Vec F S1x256x1024 .f32) (x1 : Vec F S1x1x6144 .f32) (x2 : Vec F S1x256x512 .bf16) (x3 : Vec F S1x256x512 .bf16) (x4 : Vec F S1x256x512 .bf16) (x5 : Vec F S1x256x512 .bf16) (x6 : Vec F S4096x1024 .bf16) (x7 : Vec F S4x512x1024 .bf16) (x8 : Vec F S1024x1024 .bf16) (x9 : Vec F S1x1024 .f32) (x10 : Vec F S1x1024 .f32) : FVec F S256x1024 .f32 :=
  subf (hres x0 x1 x2 x3 x4 x5 x6 x7 x8 x9 x10) (broadcastTo S256x1024 (divf (shapeCast S256x1 (multiReduction .add [1] S256 (hres x0 x1 x2 x3 x4 x5 x6 x7 x8 x9 x10) 0x00000000#32 reduces_S256x1024_S256 (.inl rfl) rfl) shapeCasts_S256_S256x1) (broadcast S256x1 (Scalar.ofBits .f32 0x44800000#32))) broadcasts_S256x1_S256x1024)

/-- The normalised block, from the input windows' blocks. -/
def hout (x0 : Vec F S1x256x1024 .f32) (x1 : Vec F S1x1x6144 .f32) (x2 : Vec F S1x256x512 .bf16) (x3 : Vec F S1x256x512 .bf16) (x4 : Vec F S1x256x512 .bf16) (x5 : Vec F S1x256x512 .bf16) (x6 : Vec F S4096x1024 .bf16) (x7 : Vec F S4x512x1024 .bf16) (x8 : Vec F S1024x1024 .bf16) (x9 : Vec F S1x1024 .f32) (x10 : Vec F S1x1024 .f32) : FVec F S1x256x1024 .f32 :=
  k0_pay1 (k0_pay9 x9) (k0_pay10 x10) (hcen x0 x1 x2 x3 x4 x5 x6 x7 x8 x9 x10) (divf (shapeCast S256x1 (multiReduction .add [1] S256 (mulf (hcen x0 x1 x2 x3 x4 x5 x6 x7 x8 x9 x10) (hcen x0 x1 x2 x3 x4 x5 x6 x7 x8 x9 x10)) 0x00000000#32 reduces_S256x1024_S256 (.inl rfl) rfl) shapeCasts_S256_S256x1) (broadcast S256x1 (Scalar.ofBits .f32 0x44800000#32))) (k0_pay13 (F := F))

end

variable (m : (ℓ : Loc nD τ sig) → Buf (Elt Ideal) ℓ)

/-- The block indices of the twelve windows at every point: sequence `t / 32`, row tile `t % 32`. -/
theorem idx : ∀ t : Fin cfg0.N, win0_0.index t = ![t.val / 32, t.val % 32, 0] ∧ win0_1.index t = ![t.val / 32, 0, 0]
    ∧ win0_2.index t = ![t.val / 32, t.val % 32, 0] ∧ win0_3.index t = ![t.val / 32, t.val % 32, 0] ∧ win0_4.index t = ![t.val / 32, t.val % 32, 0] ∧ win0_5.index t = ![t.val / 32, t.val % 32, 0]
    ∧ win0_6.index t = ![0, 0] ∧ win0_7.index t = ![0, 0, 0] ∧ win0_8.index t = ![0, 0] ∧ win0_9.index t = ![0, 0] ∧ win0_10.index t = ![0, 0] ∧ win0_11.index t = ![t.val / 32, t.val % 32, 0] :=
  (by decide +kernel : ∀ t : Fin grid0.N, _)

/-- Row `r` of branch 0's block at point `t` is the row of the array the block lies at. -/
theorem read_2 (c : Dev nD) (t : Fin cfg0.N) (r : Fin 256) (hn : t.val / 32 < 2) (hr : t.val % 32 * 256 + r.val < 8192) (k : Fin 512) (Y : Buf (Elt Ideal) ((c : Thread nD τ).loc main_v7)) :
    ((cfg0.win 2).blk t).view.read (Elt Ideal) Y (ix3 0 r k) = Y (ix3 ⟨t.val / 32, hn⟩ ⟨t.val % 32 * 256 + r.val, hr⟩ k) := by
  blk_point [idx t]

/-- Row `r` of branch 1's block at point `t` is the row of the array the block lies at. -/
theorem read_3 (c : Dev nD) (t : Fin cfg0.N) (r : Fin 256) (hn : t.val / 32 < 2) (hr : t.val % 32 * 256 + r.val < 8192) (k : Fin 512) (Y : Buf (Elt Ideal) ((c : Thread nD τ).loc main_v11)) :
    ((cfg0.win 3).blk t).view.read (Elt Ideal) Y (ix3 0 r k) = Y (ix3 ⟨t.val / 32, hn⟩ ⟨t.val % 32 * 256 + r.val, hr⟩ k) := by
  blk_point [idx t]

/-- Row `r` of branch 2's block at point `t` is the row of the array the block lies at. -/
theorem read_4 (c : Dev nD) (t : Fin cfg0.N) (r : Fin 256) (hn : t.val / 32 < 2) (hr : t.val % 32 * 256 + r.val < 8192) (k : Fin 512) (Y : Buf (Elt Ideal) ((c : Thread nD τ).loc main_v15)) :
    ((cfg0.win 4).blk t).view.read (Elt Ideal) Y (ix3 0 r k) = Y (ix3 ⟨t.val / 32, hn⟩ ⟨t.val % 32 * 256 + r.val, hr⟩ k) := by
  blk_point [idx t]

/-- Row `r` of branch 3's block at point `t` is the row of the array the block lies at. -/
theorem read_5 (c : Dev nD) (t : Fin cfg0.N) (r : Fin 256) (hn : t.val / 32 < 2) (hr : t.val % 32 * 256 + r.val < 8192) (k : Fin 512) (Y : Buf (Elt Ideal) ((c : Thread nD τ).loc main_v19)) :
    ((cfg0.win 5).blk t).view.read (Elt Ideal) Y (ix3 0 r k) = Y (ix3 ⟨t.val / 32, hn⟩ ⟨t.val % 32 * 256 + r.val, hr⟩ k) := by
  blk_point [idx t]

/-- The branch weights' block is the whole array at every point. -/
theorem read_7 (c : Dev nD) (t : Fin cfg0.N) (j : Fin 4) (k : Fin 512) (e : Fin 1024) (Y : Buf (Elt Ideal) ((c : Thread nD τ).loc main_v3)) :
    ((cfg0.win 7).blk t).view.read (Elt Ideal) Y (ix3 j k e) = Y (ix3 j k e) := by
  blk_point [idx t]

/-- Row `k` of the padded branch weights: the weight in a slab's upper half, zero in its lower half. -/
theorem V_v3 (c : Dev nD) (g : Fin 4) (k : Fin 512) (e : Fin 1024) : V (F := Ideal) m c main_v3 (ix3 g k e)
    = if 64 ≤ k.val % 128 then m ((c : Thread nD τ).loc main_arg7) (ix3 g (lane k) e) else (0 : EReal) := by
  entry_read
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at
  exact pad_lane k (fun i => m ((c : Thread nD τ).loc main_arg7) (ix3 g i e))

/-- The transposed gate weights. -/
theorem V_v21 (c : Dev nD) (e : Fin 4096) (k : Fin 1024) : V (F := Ideal) m c main_v21 (ix2 e k) = m ((c : Thread nD τ).loc main_arg6) (ix2 k e) := by
  entry_read
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at

/-- The output weights. -/
theorem V_v22 (c : Dev nD) : V (F := Ideal) m c main_v22 = m ((c : Thread nD τ).loc main_arg8) := by
  funext i
  idx_vars i
  entry_read
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at

/-- The normalisation's scale as a row. -/
theorem V_v23 (c : Dev nD) (k : Fin 1024) : V (F := Ideal) m c main_v23 (ix2 0 k) = m ((c : Thread nD τ).loc main_arg9) (ix1 k) := by
  entry_read
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at

/-- The normalisation's shift as a row. -/
theorem V_v24 (c : Dev nD) (k : Fin 1024) : V (F := Ideal) m c main_v24 (ix2 0 k) = m ((c : Thread nD τ).loc main_arg10) (ix1 k) := by
  entry_read
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at

/-- Lane `k` of the padded slabs of branch 0: the branch's value in a slab's upper half, zero in its lower half. -/
theorem V_v7 (c : Dev nD) (n : Fin 2) (t : Fin 8192) (k : Fin 512) : V (F := Ideal) m c main_v7 (ix3 n t k)
    = if 64 ≤ k.val % 128 then m ((c : Thread nD τ).loc main_arg2) (ix3 n t (lane k)) else (0 : EReal) := by
  entry_read
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at
  exact pad_lane k (fun i => m ((c : Thread nD τ).loc main_arg2) (ix3 n t i))

/-- Summing the padded slab of branch 0 (stick-breaking attention) against the padded weight, lane by lane of 512, gives the
    sum over its 256 lanes. -/
theorem slab0 (c : Dev nD) (t : Fin cfg0.N) (r : Fin 256) (e : Fin 1024) (hn : t.val / 32 < 2) (hr : t.val % 32 * 256 + r.val < 8192) :
    Finset.sum (M := EReal) Finset.univ (fun k : Fin 512 => HMul.hMul (α := EReal) (β := EReal) (γ := EReal) (iblk m c 2 t (ix3 0 r k)) (iblk m c 7 t (ix3 0 k e)))
      = Finset.sum (M := EReal) Finset.univ (fun k : Fin 256 => HMul.hMul (α := EReal) (β := EReal) (γ := EReal) (m ((c : Thread nD τ).loc main_arg7) (ix3 0 k e)) (m ((c : Thread nD τ).loc main_arg2) (ix3 ⟨t.val / 32, hn⟩ ⟨t.val % 32 * 256 + r.val, hr⟩ k))) := by
  have hA : ∀ k : Fin 512, iblk m c 2 t (ix3 0 r k) = if 64 ≤ k.val % 128 then m ((c : Thread nD τ).loc main_arg2) (ix3 ⟨t.val / 32, hn⟩ ⟨t.val % 32 * 256 + r.val, hr⟩ (lane k)) else (0 : EReal) := fun k => by
    unfold iblk
    exact (read_2 c t r hn hr k (V m c main_v7)).trans (V_v7 m c _ _ k)
  have hB : ∀ k : Fin 512, iblk m c 7 t (ix3 0 k e) = if 64 ≤ k.val % 128 then m ((c : Thread nD τ).loc main_arg7) (ix3 0 (lane k) e) else (0 : EReal) := fun k => by
    unfold iblk
    exact (read_7 c t 0 k e (V m c main_v3)).trans (V_v3 m c 0 k e)
  simp only [hA, hB]
  exact sum_lane (fun i => m ((c : Thread nD τ).loc main_arg2) (ix3 ⟨t.val / 32, hn⟩ ⟨t.val % 32 * 256 + r.val, hr⟩ i)) (fun i => m ((c : Thread nD τ).loc main_arg7) (ix3 0 i e))

/-- Lane `k` of the padded slabs of branch 1: the branch's value in a slab's upper half, zero in its lower half. -/
theorem V_v11 (c : Dev nD) (n : Fin 2) (t : Fin 8192) (k : Fin 512) : V (F := Ideal) m c main_v11 (ix3 n t k)
    = if 64 ≤ k.val % 128 then m ((c : Thread nD τ).loc main_arg3) (ix3 n t (lane k)) else (0 : EReal) := by
  entry_read
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at
  exact pad_lane k (fun i => m ((c : Thread nD τ).loc main_arg3) (ix3 n t i))

/-- Summing the padded slab of branch 1 (sparse attention) against the padded weight, lane by lane of 512, gives the
    sum over its 256 lanes. -/
theorem slab1 (c : Dev nD) (t : Fin cfg0.N) (r : Fin 256) (e : Fin 1024) (hn : t.val / 32 < 2) (hr : t.val % 32 * 256 + r.val < 8192) :
    Finset.sum (M := EReal) Finset.univ (fun k : Fin 512 => HMul.hMul (α := EReal) (β := EReal) (γ := EReal) (iblk m c 3 t (ix3 0 r k)) (iblk m c 7 t (ix3 1 k e)))
      = Finset.sum (M := EReal) Finset.univ (fun k : Fin 256 => HMul.hMul (α := EReal) (β := EReal) (γ := EReal) (m ((c : Thread nD τ).loc main_arg7) (ix3 1 k e)) (m ((c : Thread nD τ).loc main_arg3) (ix3 ⟨t.val / 32, hn⟩ ⟨t.val % 32 * 256 + r.val, hr⟩ k))) := by
  have hA : ∀ k : Fin 512, iblk m c 3 t (ix3 0 r k) = if 64 ≤ k.val % 128 then m ((c : Thread nD τ).loc main_arg3) (ix3 ⟨t.val / 32, hn⟩ ⟨t.val % 32 * 256 + r.val, hr⟩ (lane k)) else (0 : EReal) := fun k => by
    unfold iblk
    exact (read_3 c t r hn hr k (V m c main_v11)).trans (V_v11 m c _ _ k)
  have hB : ∀ k : Fin 512, iblk m c 7 t (ix3 1 k e) = if 64 ≤ k.val % 128 then m ((c : Thread nD τ).loc main_arg7) (ix3 1 (lane k) e) else (0 : EReal) := fun k => by
    unfold iblk
    exact (read_7 c t 1 k e (V m c main_v3)).trans (V_v3 m c 1 k e)
  simp only [hA, hB]
  exact sum_lane (fun i => m ((c : Thread nD τ).loc main_arg3) (ix3 ⟨t.val / 32, hn⟩ ⟨t.val % 32 * 256 + r.val, hr⟩ i)) (fun i => m ((c : Thread nD τ).loc main_arg7) (ix3 1 i e))

/-- Lane `k` of the padded slabs of branch 2: the branch's value in a slab's upper half, zero in its lower half. -/
theorem V_v15 (c : Dev nD) (n : Fin 2) (t : Fin 8192) (k : Fin 512) : V (F := Ideal) m c main_v15 (ix3 n t k)
    = if 64 ≤ k.val % 128 then m ((c : Thread nD τ).loc main_arg4) (ix3 n t (lane k)) else (0 : EReal) := by
  entry_read
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at
  exact pad_lane k (fun i => m ((c : Thread nD τ).loc main_arg4) (ix3 n t i))

/-- Summing the padded slab of branch 2 (latent attention) against the padded weight, lane by lane of 512, gives the
    sum over its 256 lanes. -/
theorem slab2 (c : Dev nD) (t : Fin cfg0.N) (r : Fin 256) (e : Fin 1024) (hn : t.val / 32 < 2) (hr : t.val % 32 * 256 + r.val < 8192) :
    Finset.sum (M := EReal) Finset.univ (fun k : Fin 512 => HMul.hMul (α := EReal) (β := EReal) (γ := EReal) (iblk m c 4 t (ix3 0 r k)) (iblk m c 7 t (ix3 2 k e)))
      = Finset.sum (M := EReal) Finset.univ (fun k : Fin 256 => HMul.hMul (α := EReal) (β := EReal) (γ := EReal) (m ((c : Thread nD τ).loc main_arg7) (ix3 2 k e)) (m ((c : Thread nD τ).loc main_arg4) (ix3 ⟨t.val / 32, hn⟩ ⟨t.val % 32 * 256 + r.val, hr⟩ k))) := by
  have hA : ∀ k : Fin 512, iblk m c 4 t (ix3 0 r k) = if 64 ≤ k.val % 128 then m ((c : Thread nD τ).loc main_arg4) (ix3 ⟨t.val / 32, hn⟩ ⟨t.val % 32 * 256 + r.val, hr⟩ (lane k)) else (0 : EReal) := fun k => by
    unfold iblk
    exact (read_4 c t r hn hr k (V m c main_v15)).trans (V_v15 m c _ _ k)
  have hB : ∀ k : Fin 512, iblk m c 7 t (ix3 2 k e) = if 64 ≤ k.val % 128 then m ((c : Thread nD τ).loc main_arg7) (ix3 2 (lane k) e) else (0 : EReal) := fun k => by
    unfold iblk
    exact (read_7 c t 2 k e (V m c main_v3)).trans (V_v3 m c 2 k e)
  simp only [hA, hB]
  exact sum_lane (fun i => m ((c : Thread nD τ).loc main_arg4) (ix3 ⟨t.val / 32, hn⟩ ⟨t.val % 32 * 256 + r.val, hr⟩ i)) (fun i => m ((c : Thread nD τ).loc main_arg7) (ix3 2 i e))

/-- Lane `k` of the padded slabs of branch 3: the branch's value in a slab's upper half, zero in its lower half. -/
theorem V_v19 (c : Dev nD) (n : Fin 2) (t : Fin 8192) (k : Fin 512) : V (F := Ideal) m c main_v19 (ix3 n t k)
    = if 64 ≤ k.val % 128 then m ((c : Thread nD τ).loc main_arg5) (ix3 n t (lane k)) else (0 : EReal) := by
  entry_read
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_reads_at
  exact pad_lane k (fun i => m ((c : Thread nD τ).loc main_arg5) (ix3 n t i))

/-- Summing the padded slab of branch 3 (block attention) against the padded weight, lane by lane of 512, gives the
    sum over its 256 lanes. -/
theorem slab3 (c : Dev nD) (t : Fin cfg0.N) (r : Fin 256) (e : Fin 1024) (hn : t.val / 32 < 2) (hr : t.val % 32 * 256 + r.val < 8192) :
    Finset.sum (M := EReal) Finset.univ (fun k : Fin 512 => HMul.hMul (α := EReal) (β := EReal) (γ := EReal) (iblk m c 5 t (ix3 0 r k)) (iblk m c 7 t (ix3 3 k e)))
      = Finset.sum (M := EReal) Finset.univ (fun k : Fin 256 => HMul.hMul (α := EReal) (β := EReal) (γ := EReal) (m ((c : Thread nD τ).loc main_arg7) (ix3 3 k e)) (m ((c : Thread nD τ).loc main_arg5) (ix3 ⟨t.val / 32, hn⟩ ⟨t.val % 32 * 256 + r.val, hr⟩ k))) := by
  have hA : ∀ k : Fin 512, iblk m c 5 t (ix3 0 r k) = if 64 ≤ k.val % 128 then m ((c : Thread nD τ).loc main_arg5) (ix3 ⟨t.val / 32, hn⟩ ⟨t.val % 32 * 256 + r.val, hr⟩ (lane k)) else (0 : EReal) := fun k => by
    unfold iblk
    exact (read_5 c t r hn hr k (V m c main_v19)).trans (V_v19 m c _ _ k)
  have hB : ∀ k : Fin 512, iblk m c 7 t (ix3 3 k e) = if 64 ≤ k.val % 128 then m ((c : Thread nD τ).loc main_arg7) (ix3 3 (lane k) e) else (0 : EReal) := fun k => by
    unfold iblk
    exact (read_7 c t 3 k e (V m c main_v3)).trans (V_v3 m c 3 k e)
  simp only [hA, hB]
  exact sum_lane (fun i => m ((c : Thread nD τ).loc main_arg5) (ix3 ⟨t.val / 32, hn⟩ ⟨t.val % 32 * 256 + r.val, hr⟩ i)) (fun i => m ((c : Thread nD τ).loc main_arg7) (ix3 3 i e))

/-- The gated sum of the branches at row `r` of a block is the reference's at the array's row. -/
theorem mrg_point (c : Dev nD) (t : Fin cfg0.N) (r : Fin 256) (e : Fin 1024) (hn : t.val / 32 < 2) (hr : t.val % 32 * 256 + r.val < 8192) :
    mrg (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r e)
      = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 ⟨t.val / 32, hn⟩ ⟨t.val % 32 * 256 + r.val, hr⟩ e) := by
  pointwise [mrg, k0_pay17, k0_pay18, k0_pay16, k0_pay7, k0_pay8, k0_pay6, k0_pay5, k0_pay4, k0_pay3, k0_pay2, val_main_v29, val_main_cst_2, val_main_v28, val_main_v27, val_main_v26, val_main_v25, val_main_v24, val_main_v23, val_main_v22, val_main_v21, val_main_v20, val_main_v19, val_main_cst_1, val_main_v18, val_main_v17, val_main_cst_0, val_main_v16, val_main_v15, val_main_v14, val_main_v13, val_main_v12, val_main_v11, val_main_v10, val_main_v9, val_main_v8, val_main_v7, val_main_cst, val_main_v6, val_main_v5, val_main_v4, val_main_v3, val_main_v2, val_main_v1, val_main_v0]
  simp only [zero_sub, Fin.sum_univ_four, zero_add, slab0 m c t r e hn hr, slab1 m c t r e hn hr, slab2 m c t r e hn hr, slab3 m c t r e hn hr]
  have h0 : ∀ x : Fin 1024, iblk m c 0 t (ix3 0 r x) = m ((c : Thread nD τ).loc main_arg0) (ix3 ⟨t.val / 32, hn⟩ ⟨t.val % 32 * 256 + r.val, hr⟩ x) := fun x => by
    blk_point [iblk, V, idx t]
  have h1 : ∀ q : Fin 6144, iblk m c 1 t (ix3 0 0 q) = m ((c : Thread nD τ).loc main_arg1) (ix3 ⟨t.val / 32, hn⟩ 0 q) := fun q => by
    blk_point [iblk, V, idx t]
  have h6 : ∀ (q : Fin 4096) (x : Fin 1024), iblk m c 6 t (ix2 q x) = m ((c : Thread nD τ).loc main_arg6) (ix2 x q) := fun q x => by
    rw [← V_v21 m c q x]
    blk_point [iblk, idx t]
  have e0 : ((0 : Fin 4) : ℕ) = 0 := rfl
  have e1 : ((1 : Fin 4) : ℕ) = 1 := rfl
  have e2 : ((2 : Fin 4) : ℕ) = 2 := rfl
  have e3 : ((3 : Fin 4) : ℕ) = 3 := rfl
  simp only [h0, h1, h6, e0, e1, e2, e3, Nat.zero_mul, Nat.zero_add, Nat.one_mul, Nat.reduceMul, Nat.reduceSub, Nat.reduceLT, ↓reduceDIte]

/-- The residual sum before the last normalisation, at row `r` of a block, is the reference's at the array's row. -/
theorem res_point (c : Dev nD) (t : Fin cfg0.N) (r : Fin 256) (d : Fin 1024) (hn : t.val / 32 < 2) (hr : t.val % 32 * 256 + r.val < 8192) :
    hres (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r d)
      = val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 ⟨t.val / 32, hn⟩ ⟨t.val % 32 * 256 + r.val, hr⟩ d) := by
  pointwise [hres, k0_pay14, k0_pay15, k0_pay3, k0_pay2, val_main_v35, val_main_v34, val_main_v33, val_main_v32, val_main_v31, val_main_cst_3, val_main_v30, val_main_cst_2, val_main_v28, val_main_v27, val_main_v26, val_main_v25, val_main_v24, val_main_v23, val_main_v22, val_main_v21, val_main_v20, val_main_v19, val_main_cst_1, val_main_v18, val_main_v17, val_main_cst_0, val_main_v16, val_main_v15, val_main_v14, val_main_v13, val_main_v12, val_main_v11, val_main_v10, val_main_v9, val_main_v8, val_main_v7, val_main_cst, val_main_v6, val_main_v5, val_main_v4, val_main_v3, val_main_v2, val_main_v1, val_main_v0]
  simp only [mrg_point m c t _ _ hn hr, zero_add]
  blk_point [iblk, V_v22, V, idx t]

/-- The kernel's last normalisation of row `r` of a block is the reference's of the array's row. -/
theorem norm_point (c : Dev nD) (t : Fin cfg0.N) (r : Fin 256) (d : Fin 1024) (hn : t.val / 32 < 2) (hr : t.val % 32 * 256 + r.val < 8192) :
    hout (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 r d)
      = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 ⟨t.val / 32, hn⟩ ⟨t.val % 32 * 256 + r.val, hr⟩ d) := by
  pointwise [hout, hcen, k0_pay1, k0_pay9, k0_pay10, k0_pay13, val_main_v59, val_main_v58, val_main_v57, val_main_v56, val_main_v55, val_main_v54, val_main_v53, val_main_v52, val_main_v51, val_main_v50, val_main_v49, val_main_cst_8, val_main_v48, val_main_v47, val_main_v46, val_main_v45, val_main_cst_7, val_main_v44, val_main_v43, val_main_cst_6, val_main_v42, val_main_v41, val_main_v40, val_main_v39, val_main_v38, val_main_cst_5, val_main_v37, val_main_v36, val_main_cst_4]
  simp only [res_point m c t _ _ hn hr, zero_add]
  have h9 : ∀ k : Fin 1024, iblk m c 9 t (ix2 0 k) = m ((c : Thread nD τ).loc main_arg9) (ix1 k) := fun k => by
    rw [← V_v23 m c k]
    blk_point [iblk, idx t]
  have h10 : ∀ k : Fin 1024, iblk m c 10 t (ix2 0 k) = m ((c : Thread nD τ).loc main_arg10) (ix1 k) := fun k => by
    rw [← V_v24 m c k]
    blk_point [iblk, idx t]
  simp only [h9, h10]

/-- What the region leaves in the array returned is the reference's result at the same arguments. -/
theorem final (c : Dev nD) : (dats m 0 c).arrAt 11 (cfgs 0).N = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t _ y => ?_
  blk_simp
  rw [after0_11]
  frame_out
  idx_vars y
  obtain rfl : y0 = 0 := Subsingleton.elim _ _
  have ht : t.val < 64 := t.isLt
  have hn : t.val / 32 < 2 := by omega
  have hr : t.val % 32 * 256 + y1.val < 8192 := by omega
  refine Eq.trans ?_ ((norm_point m c t y1 y2 hn hr).trans (congrArg _ ?_))
  · generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    generalize iblk m c 8 t = x8
    generalize iblk m c 9 t = x9
    generalize iblk m c 10 t = x10
    rfl
  · blk_ext [idx t]

set_option maxHeartbeats 2000000 in
/-- Over the ideal scalars the merge returns the reference's array. -/
theorem algebraic : Cert.algebraic_MergeKernelIdeal_MergeReferenceIdeal := by
  pair_intro
  · run_from Cert.MergeKernelIdeal.Gen.run_main m g
    all_goals with_reducible first
      | exact V_main_arg0 m c
      | exact V_main_arg1 m c
      | exact V_main_arg2 m c
      | exact V_main_arg3 m c
      | exact V_main_arg4 m c
      | exact V_main_arg5 m c
      | exact V_main_arg6 m c
      | exact V_main_arg7 m c
      | exact V_main_arg8 m c
      | exact V_main_arg9 m c
      | exact V_main_arg10 m c
  · run_from Cert.MergeReferenceIdeal.Value.run m' g'
    obtain ⟨h0, h1, h2, h3, h4, h5, h6, h7, h8, h9, h10⟩ := hagree c
    rw [Cert.MergeReferenceIdeal.Read.val_main_v59_eq, h0, h1, h2, h3, h4, h5, h6, h7, h8, h9, h10]
    exact (final m c).symm

end Cert.MergeKernelIdeal.Hand

end
-- ==== Proof.MlaPay.lean ====
module

public import proofs.«01_k».proof.Proof.Gen.KernelIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

/-- The score of stacked query row `R` against row `c` of a tile of the cache: the product over the 256 lanes. -/
def score (Q : FVec Ideal S1024x256 .bf16) (T : Vec Ideal S1x256x256 .bf16) (R : Fin 1024) (c : Fin 256) : EReal :=
  Finset.sum (M := EReal) Finset.univ fun k : Fin 256 => HMul.hMul (α := EReal) (β := EReal) (γ := EReal) (Q (ix2 R k)) (T (ix3 0 c k))

/-- The lane of the second half that the running maximum folds onto lane `l`. -/
def hi (l : Fin 128) : Fin 256 := ⟨128 + l.val, by omega⟩
/-- The lane of the first half. -/
def lo (l : Fin 128) : Fin 256 := ⟨l.val, by omega⟩
/-- The lane of 128 that lane `c` of 256 falls on. -/
def fold (c : Fin 256) : Fin 128 := ⟨c.val % 128, by omega⟩

/-- A sum over 256 lanes is the sum over the first half and the sum over the second. -/
theorem sum_halves (f : Fin 256 → EReal) : Finset.sum (M := EReal) Finset.univ f
    = HAdd.hAdd (α := EReal) (β := EReal) (γ := EReal) (Finset.sum (M := EReal) Finset.univ fun x : Fin 128 => f (lo x)) (Finset.sum (M := EReal) Finset.univ fun x : Fin 128 => f (hi x)) :=
  Fin.sum_univ_add (a := 128) (b := 128) f

/-- Lane `lo x` falls on lane `x`. -/
theorem fold_lo (x : Fin 128) : fold (lo x) = x := Fin.ext (by show x.val % 128 = x.val; omega)
/-- Lane `hi x` falls on lane `x`. -/
theorem fold_hi (x : Fin 128) : fold (hi x) = x := Fin.ext (by show (128 + x.val) % 128 = x.val; omega)

/-- What a row of weights adds to the accumulator: the weights `exp(s c − m)` against column `k` of the tile. -/
def weighed (s : Fin 256 → EReal) (m : Fin 128 → EReal) (T : Vec Ideal S1x256x256 .bf16) (k : Fin 256) : EReal :=
  Finset.sum (M := EReal) Finset.univ fun c : Fin 256 => HMul.hMul (α := EReal) (β := EReal) (γ := EReal) (Ideal.exp (HSub.hSub (α := EReal) (β := EReal) (γ := EReal) (s c) (m (fold c)))) (T (ix3 0 c k))

/-- The same, half by half, as the kernel concatenates its two halves. -/
theorem weighed_halves (s : Fin 256 → EReal) (m : Fin 128 → EReal) (T : Vec Ideal S1x256x256 .bf16) (k : Fin 256) :
    weighed s m T k = HAdd.hAdd (α := EReal) (β := EReal) (γ := EReal)
      (Finset.sum (M := EReal) Finset.univ fun x : Fin 128 => HMul.hMul (α := EReal) (β := EReal) (γ := EReal) (Ideal.exp (HSub.hSub (α := EReal) (β := EReal) (γ := EReal) (s (lo x)) (m x))) (T (ix3 0 (lo x) k)))
      (Finset.sum (M := EReal) Finset.univ fun x : Fin 128 => HMul.hMul (α := EReal) (β := EReal) (γ := EReal) (Ideal.exp (HSub.hSub (α := EReal) (β := EReal) (γ := EReal) (s (hi x)) (m x))) (T (ix3 0 (hi x) k))) := by
  unfold weighed
  rw [sum_halves]
  simp only [fold_lo, fold_hi]

/-- One tile's step of the running maximum. -/
theorem pay3_point (Q : FVec Ideal S1024x256 .bf16) (m : Vec Ideal S1024x128 .f32) (T : Vec Ideal S1x256x256 .bf16) (R : Fin 1024) (l : Fin 128) :
    k0_pay3 (F := Ideal) Q m T (ix2 R l) = max (α := EReal) (m (ix2 R l)) (max (α := EReal) (score Q T R (lo l)) (score Q T R (hi l))) := by
  pointwise [k0_pay3, score]
  rfl

/-- The step of the second tile of a pair. -/
theorem pay14_point (Q : FVec Ideal S1024x256 .bf16) (m : Vec Ideal S1024x128 .f32) (T : Vec Ideal S1x256x256 .bf16) (R : Fin 1024) (l : Fin 128) :
    k0_pay14 (F := Ideal) Q m (k0_pay4 (F := Ideal) T) (constant S1024x256 .f32 0x00000000#32) (ix2 R l) = max (α := EReal) (m (ix2 R l)) (max (α := EReal) (score Q T R (lo l)) (score Q T R (hi l))) := by
  pointwise [k0_pay14, k0_pay4, score]
  rfl

/-- The step of the odd tile before the pairs. -/
theorem pay13_point (Q : FVec Ideal S1024x256 .bf16) (m : Vec Ideal S1024x128 .f32) (T : Vec Ideal S1x256x256 .bf16) (R : Fin 1024) (l : Fin 128) :
    k0_pay13 (F := Ideal) Q m T (ix2 R l) = max (α := EReal) (m (ix2 R l)) (max (α := EReal) (score Q T R (lo l)) (score Q T R (hi l))) := by
  pointwise [k0_pay13, score]
  rfl

/-- One tile's step of the accumulator. -/
theorem pay7_point (Q : FVec Ideal S1024x256 .bf16) (m : Vec Ideal S1024x128 .f32) (a : Vec Ideal S1024x256 .f32) (T : Vec Ideal S1x256x256 .bf16) (R : Fin 1024) (k : Fin 256) :
    k0_pay7 (F := Ideal) Q T a m (ix2 R k) = HAdd.hAdd (α := EReal) (β := EReal) (γ := EReal) (a (ix2 R k)) (weighed (score Q T R) (fun l => m (ix2 R l)) T k) := by
  rw [weighed_halves]
  pointwise [k0_pay7, score]
  rfl

/-- The step of the second tile of a pair. -/
theorem pay20_point (Q : FVec Ideal S1024x256 .bf16) (m : Vec Ideal S1024x128 .f32) (a : Vec Ideal S1024x256 .f32) (T : Vec Ideal S1x256x256 .bf16) (R : Fin 1024) (k : Fin 256) :
    k0_pay20 (F := Ideal) Q T a m (ix2 R k) = HAdd.hAdd (α := EReal) (β := EReal) (γ := EReal) (a (ix2 R k)) (weighed (score Q T R) (fun l => m (ix2 R l)) T k) := by
  rw [weighed_halves]
  pointwise [k0_pay20, score]
  rfl

/-- The step of the odd tile before the pairs. -/
theorem pay19_point (Q : FVec Ideal S1024x256 .bf16) (m : Vec Ideal S1024x128 .f32) (a : Vec Ideal S1024x256 .f32) (T : Vec Ideal S1x256x256 .bf16) (R : Fin 1024) (k : Fin 256) :
    k0_pay19 (F := Ideal) Q T a m (ix2 R k) = HAdd.hAdd (α := EReal) (β := EReal) (γ := EReal) (a (ix2 R k)) (weighed (score Q T R) (fun l => m (ix2 R l)) T k) := by
  rw [weighed_halves]
  pointwise [k0_pay19, score]
  rfl

/-- The four heads' query rows stacked: row `R` is row `R % 256` of head `R / 256`. -/
theorem pay9_point (x0 x1 x2 x3 : Vec Ideal S1x256x256 .bf16) (R : Fin 1024) (k : Fin 256) :
    k0_pay9 (F := Ideal) x0 x1 x2 x3 (ix2 R k) = (if R.val < 256 then x0 else if R.val < 512 then x1 else if R.val < 768 then x2 else x3) (ix3 0 ⟨R.val % 256, by omega⟩ k) := by
  have hR := R.isLt
  have key : ∀ (x : Vec Ideal S1x256x256 .bf16) (a b : Fin 256), a.val = b.val → x (ix3 0 a k) = x (ix3 0 b k) := fun x a b h => by rw [Fin.ext h]
  rcases (by omega : R.val < 256 ∨ (256 ≤ R.val ∧ R.val < 512) ∨ (512 ≤ R.val ∧ R.val < 768) ∨ 768 ≤ R.val) with h | h | h | h
  · rw [if_pos h]
    pointwise [k0_pay9]
    split_ifs <;> first | omega | (refine key _ _ _ ?_; dsimp only; omega)
  · rw [if_neg (by omega : ¬R.val < 256), if_pos h.2]
    pointwise [k0_pay9]
    split_ifs <;> first | omega | (refine key _ _ _ ?_; dsimp only; omega)
  · rw [if_neg (by omega : ¬R.val < 256), if_neg (by omega : ¬R.val < 512), if_pos h.2]
    pointwise [k0_pay9]
    split_ifs <;> first | omega | (refine key _ _ _ ?_; dsimp only; omega)
  · rw [if_neg (by omega : ¬R.val < 256), if_neg (by omega : ¬R.val < 512), if_neg (by omega : ¬R.val < 768)]
    pointwise [k0_pay9]
    split_ifs <;> first | omega | (refine key _ _ _ ?_; dsimp only; omega)

/-- The row maximum, replicated over the lanes. -/
theorem pay16_point (m : Vec Ideal S1024x128 .f32) (R : Fin 1024) (l : Fin 128) :
    k0_pay17 (F := Ideal) (k0_pay16 (F := Ideal) m) (ix2 R l) = Finset.fold (max (α := EReal)) (Ideal.ofBits FTy.f32 0xFF800000#32) (fun x : Fin 128 => m (ix2 R x)) Finset.univ := by
  pointwise [k0_pay17, k0_pay16]

/-- The word `R & 255` is `R % 256`. -/
theorem andi_255 (R : Nat) (h : R < 1024) : IntOp.andi (BitVec.ofNat 32 R) 255#32 = BitVec.ofNat 32 (R % 256) := by
  apply BitVec.eq_of_toNat_eq
  show (BitVec.ofNat 32 R &&& 255#32).toNat = _
  rw [BitVec.toNat_and, BitVec.toNat_ofNat, BitVec.toNat_ofNat, BitVec.toNat_ofNat]
  rw [Nat.mod_eq_of_lt (by omega : R < 2 ^ 32), Nat.mod_eq_of_lt (by omega : R % 256 < 2 ^ 32)]
  exact Nat.and_two_pow_sub_one_eq_mod R 8

/-- The diagonal tile's scores: a column right of the row is masked. -/
theorem pay11_point (x0 x1 x2 x3 T : Vec Ideal S1x256x256 .bf16) (R : Fin 1024) (c : Fin 256) :
    k0_pay11 (F := Ideal) x0 x1 x2 x3 T (ix2 R c) = if c.val ≤ R.val % 256 then score (k0_pay9 (F := Ideal) x0 x1 x2 x3) T R c else (⊥ : EReal) := by
  pointwise [k0_pay11, k0_pay10, score]
  have hR := R.isLt
  have hc := c.isLt
  rw [andi_255 R.val hR, WordCmp.cmpi_sle_ofNat (by omega) (by omega)]
  have hn : Named.named (F := Ideal) κ "mask" (φ := .f32) 0xF149F2CA#32 = (⊥ : EReal) := IdealRules.named_const.ideal_named_scalar _ _ _ _ rfl
  by_cases h : c.val ≤ R.val % 256
  · simp only [h, decide_true, if_true]; rfl
  · simp only [h, decide_false, if_false]; exact hn

/-- The running maximum's first value: the diagonal tile's two halves. -/
theorem pay12_point (x0 x1 x2 x3 T : Vec Ideal S1x256x256 .bf16) (R : Fin 1024) (l : Fin 128) :
    k0_pay12 (F := Ideal) x0 x1 x2 x3 T (ix2 R l) = max (α := EReal) (k0_pay11 (F := Ideal) x0 x1 x2 x3 T (ix2 R (lo l))) (k0_pay11 (F := Ideal) x0 x1 x2 x3 T (ix2 R (hi l))) := by
  pointwise [k0_pay12]
  rfl

/-- The accumulator's first value: the diagonal tile's weights. -/
theorem pay18_point (s : FVec Ideal S1024x256 .f32) (m : Vec Ideal S1024x128 .f32) (T : Vec Ideal S1x256x256 .bf16) (R : Fin 1024) (k : Fin 256) :
    k0_pay18 (F := Ideal) (k0_pay10 (F := Ideal) T) s m (ix2 R k) = weighed (fun c => s (ix2 R c)) (fun l => m (ix2 R l)) T k := by
  rw [weighed_halves]
  pointwise [k0_pay18, k0_pay10]
  rfl

/-- A head's output: the quotients of its 256 rows against its value projection. -/
def headOut (a : Vec Ideal S1024x128 .f32) (b : Vec Ideal S1024x1 .f32) (w : Vec Ideal S1x128x128 .bf16) (R : Fin 1024) (e : Fin 128) : EReal :=
  Finset.sum (M := EReal) Finset.univ fun x : Fin 128 => HMul.hMul (α := EReal) (β := EReal) (γ := EReal) (Ideal.div (a (ix2 R x)) (max (α := EReal) (b (ix2 R 0)) (Ideal.ofBits FTy.f32 0x0DA24260#32))) (w (ix3 0 x e))

/-- Head 0. -/
theorem pay23_point (a : Vec Ideal S1024x128 .f32) (b : Vec Ideal S1024x1 .f32) (w : Vec Ideal S1x128x128 .bf16) (r : Fin 256) (e : Fin 128) :
    k0_pay23 (F := Ideal) a b w (ix3 0 r e) = headOut a b w ⟨r.val, by omega⟩ e := by
  pointwise [k0_pay23, k0_pay22]
  rfl

/-- Head 1. -/
theorem pay24_point (a : Vec Ideal S1024x128 .f32) (b : Vec Ideal S1024x1 .f32) (w : Vec Ideal S1x128x128 .bf16) (r : Fin 256) (e : Fin 128) :
    k0_pay24 (F := Ideal) a b w (ix3 0 r e) = headOut a b w ⟨256 + r.val, by omega⟩ e := by
  pointwise [k0_pay24, k0_pay22]
  rfl

/-- Head 2. -/
theorem pay1_point (a : Vec Ideal S1024x128 .f32) (b : Vec Ideal S1024x1 .f32) (w : Vec Ideal S1x128x128 .bf16) (r : Fin 256) (e : Fin 128) :
    k0_pay1 (F := Ideal) (k0_pay22 (F := Ideal) a b) w (ix3 0 r e) = headOut a b w ⟨512 + r.val, by omega⟩ e := by
  pointwise [k0_pay1, k0_pay22]
  rfl

/-- Head 3. -/
theorem pay2_point (a : Vec Ideal S1024x128 .f32) (b : Vec Ideal S1024x1 .f32) (w : Vec Ideal S1x128x128 .bf16) (r : Fin 256) (e : Fin 128) :
    k0_pay2 (F := Ideal) (k0_pay22 (F := Ideal) a b) w (ix3 0 r e) = headOut a b w ⟨768 + r.val, by omega⟩ e := by
  pointwise [k0_pay2, k0_pay22]
  rfl

end Cert.KernelIdeal.Hand

end
-- ==== Proof.MlaLoops.lean ====
module

public import proofs.«01_k».proof.Proof.MlaPay
public import Idealize.ShloMosaic.Lib.VecWindow
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

/-- Tile `o` of a sequence's cache rows: 256 rows from row `256 * o` on. -/
def tileAt (X : Vec Ideal S1x8192x256 .bf16) (o : ℕ) : Vec Ideal S1x256x256 .bf16 :=
  fun y => X (ix3 0 ⟨(256 * o + (y 1).val) % 8192, Nat.mod_lt _ (by norm_num)⟩ (y 2))

/-- A load of 256 rows from row `256 * o` on reads tile `o`. -/
theorem readAt_tile (v : View sig .tc .vmem S1x8192x256 .bf16) (f : BufTy.Contents (Elt Ideal) v.ty) (off : Fin 3 → ℕ) (inb : ∀ a, off a + S1x256x256.size a ≤ S1x8192x256.size a)
    (o : ℕ) (h : off = ![0, 256 * o, 0]) :
    v.readAt (Elt Ideal) (Rect.unit (s := S1x8192x256) off S1x256x256.size inb).toLoadRect f = tileAt (v.read (Elt Ideal) f) o := by
  subst h
  funext y
  have h1 : 256 * o + 256 ≤ 8192 := inb 1
  have hy : (y 1).val < 256 := (y 1).isLt
  have hy0 : (y 0).val < 1 := (y 0).isLt
  refine congrArg (v.read (Elt Ideal) f) (funext fun a => Fin.ext ?_)
  match a with
  | ⟨0, _⟩ => show 0 + 1 * (y 0).val = 0; omega
  | ⟨1, _⟩ => show 256 * o + 1 * (y 1).val = (256 * o + (y 1).val) % 8192; omega
  | ⟨2, _⟩ => show 0 + 1 * (y 2).val = (y 2).val; omega

/-- The even number of tiles the pair loops go through at query block `i`. -/
def even (i : grid0.Coords) : ℕ := (i 1).val - (i 1).val % 2

/-- The diagonal tile is tile `i`. -/
theorem off1_eq : ∀ i : grid0.Coords, k0_off1 i = ![0, 256 * (i 1).val, 0] := by decide +kernel
/-- The odd step of the maximum takes tile `i − 1`. -/
theorem off2_eq : ∀ i : grid0.Coords, k0_off2 i = ![0, 256 * ((i 1).val - 1), 0] ∨ (i 1).val = 0 := by decide +kernel
/-- Trip `k` of the maximum's pair loop takes first tile `n − 1 − 2k`, -/
theorem off3_eq : ∀ (i : grid0.Coords) (k : Fin (k0_t1_loop i).trips), k0_off3 i k = ![0, 256 * (even i - 1 - 2 * k.val), 0] := by decide +kernel
/-- then tile `n − 2 − 2k`. -/
theorem off4_eq : ∀ (i : grid0.Coords) (k : Fin (k0_t1_loop i).trips), k0_off4 i k = ![0, 256 * (even i - 2 - 2 * k.val), 0] := by decide +kernel
/-- The odd step of the accumulator takes tile `i − 1`. -/
theorem off7_eq : ∀ i : grid0.Coords, k0_off7 i = ![0, 256 * ((i 1).val - 1), 0] ∨ (i 1).val = 0 := by decide +kernel
/-- Trip `k` of the accumulator's pair loop takes first tile `n − 1 − 2k`, -/
theorem off8_eq : ∀ (i : grid0.Coords) (k : Fin (k0_t3_loop i).trips), k0_off8 i k = ![0, 256 * (even i - 1 - 2 * k.val), 0] := by decide +kernel
/-- then tile `n − 2 − 2k`. -/
theorem off9_eq : ∀ (i : grid0.Coords) (k : Fin (k0_t3_loop i).trips), k0_off9 i k = ![0, 256 * (even i - 2 - 2 * k.val), 0] := by decide +kernel
/-- The pair loops make half as many trips as there are tiles, -/
theorem trips1 : ∀ i : grid0.Coords, (k0_t1_loop i).trips = even i / 2 := by decide +kernel
/-- the accumulator's as well, -/
theorem trips3 : ∀ i : grid0.Coords, (k0_t3_loop i).trips = even i / 2 := by decide +kernel
/-- and the loops over what is left make none. -/
theorem trips2 : ∀ i : grid0.Coords, (k0_t2_loop i).trips = 0 := by decide +kernel
/-- None for the accumulator either. -/
theorem trips4 : ∀ i : grid0.Coords, (k0_t4_loop i).trips = 0 := by decide +kernel

/-- One trip of the maximum's pair loop, as a function of the running maximum. -/
def maxStep (Q : FVec Ideal S1024x256 .bf16) (X : Vec Ideal S1x8192x256 .bf16) (n k : ℕ) (m : Vec Ideal S1024x128 .f32) : Vec Ideal S1024x128 .f32 :=
  k0_pay14 (F := Ideal) Q (k0_pay3 (F := Ideal) Q m (tileAt X (n - 1 - 2 * k))) (k0_pay4 (F := Ideal) (tileAt X (n - 2 - 2 * k))) (constant S1024x256 .f32 0x00000000#32)

/-- One trip of the accumulator's pair loop, as a function of the accumulator. -/
def accStep (Q : FVec Ideal S1024x256 .bf16) (X : Vec Ideal S1x8192x256 .bf16) (m : Vec Ideal S1024x128 .f32) (n k : ℕ) (a : Vec Ideal S1024x256 .f32) : Vec Ideal S1024x256 .f32 :=
  k0_pay20 (F := Ideal) Q (tileAt X (n - 2 - 2 * k)) (k0_pay7 (F := Ideal) Q (tileAt X (n - 1 - 2 * k)) a m) m

/-- What a trip of the maximum's loop leaves in its scratch. -/
theorem trip1_read (𝒱 : Variants) (c : Dev nD) (bd : Option 𝒱.V) (i : grid0.Coords) (arg2 : Memref sig .tc .vmem S1x256x1024 .bf16) (harg2 : arg2.IsWhole) (arg3 : Memref sig .tc .vmem S1x8192x256 .bf16) (harg3 : arg3.IsWhole) (arg4 : Memref sig .tc .vmem S4x128x128 .bf16) (harg4 : arg4.IsWhole) (arg5 : Memref sig .tc .vmem S1x256x512 .bf16) (harg5 : arg5.IsWhole) (arg6 : Memref sig .tc .vmem S1024x128 .f32) (harg6 : arg6.IsWhole) (arg7 : Memref sig .tc .vmem S1024x256 .f32) (harg7 : arg7.IsWhole) (arg1 : BitVec 32) (v8 : FVec Ideal S1024x256 .bf16) (v29 : BitVec 32) (v30 : BitVec 32) (v31 : BitVec 1) (c0_i32_14 : BitVec 32) (X_arg3 : BufTy.Contents (Elt Ideal) arg3.view.ty) (k : Fin (k0_t1_loop i).trips) (acc : BitVec 32) (f : BufTy.Contents (Elt Ideal) arg6.view.ty) :
    arg6.view.read (Elt Ideal) (arg6.view.writes (Elt Ideal) f (tripL_k0_t1 (F := Ideal) 𝒱 c bd i arg2 harg2 arg3 harg3 arg4 harg4 arg5 harg5 arg6 harg6 arg7 harg7 arg1 v8 v29 v30 v31 c0_i32_14 X_arg3 k acc f))
      = maxStep v8 (arg3.view.read (Elt Ideal) X_arg3) (even i) k.val (arg6.view.read (Elt Ideal) f) := by
  have key : ∀ a a' b b' d d', a = a' → b = b' → d = d' → k0_pay14 (F := Ideal) v8 a b d = k0_pay14 (F := Ideal) v8 a' b' d' := by
    rintro _ _ _ _ _ _ rfl rfl rfl; rfl
  unfold tripL_k0_t1 trip_k0_t1 maxStep
  dsimp only
  refine (View.read_writes_full arg6.view f _ _ _).trans ?_
  rw [← readAt_tile arg3.view X_arg3 (k0_off3 i k) (k0_off3_inb i k) _ (off3_eq i k), ← readAt_tile arg3.view X_arg3 (k0_off4 i k) (k0_off4_inb i k) _ (off4_eq i k)]
  refine key _ _ _ _ _ _ ?_ rfl rfl
  rw [← View.readAt_full arg6.view f (off := ![0, 0]) inb_S1024x128_S1024x128_0_0]
  exact View.readCov_full arg6.view _ _ _ _

/-- What a trip of the accumulator's loop leaves in its scratch. -/
theorem trip3_read (𝒱 : Variants) (c : Dev nD) (bd : Option 𝒱.V) (i : grid0.Coords) (arg2 : Memref sig .tc .vmem S1x256x1024 .bf16) (harg2 : arg2.IsWhole) (arg3 : Memref sig .tc .vmem S1x8192x256 .bf16) (harg3 : arg3.IsWhole) (arg4 : Memref sig .tc .vmem S4x128x128 .bf16) (harg4 : arg4.IsWhole) (arg5 : Memref sig .tc .vmem S1x256x512 .bf16) (harg5 : arg5.IsWhole) (arg6 : Memref sig .tc .vmem S1024x128 .f32) (harg6 : arg6.IsWhole) (arg7 : Memref sig .tc .vmem S1024x256 .f32) (harg7 : arg7.IsWhole) (arg1 : BitVec 32) (v8 : FVec Ideal S1024x256 .bf16) (v95 : BitVec 32) (v106 v108 : BitVec 1) (X_arg3 : BufTy.Contents (Elt Ideal) arg3.view.ty) (X_arg6 : BufTy.Contents (Elt Ideal) arg6.view.ty) (k : Fin (k0_t3_loop i).trips) (acc : BitVec 32) (f : BufTy.Contents (Elt Ideal) arg7.view.ty) :
    arg7.view.read (Elt Ideal) (arg7.view.writes (Elt Ideal) f (tripL_k0_t3 (F := Ideal) 𝒱 c bd i arg2 harg2 arg3 harg3 arg4 harg4 arg5 harg5 arg6 harg6 arg7 harg7 arg1 v8 v95 v106 v108 X_arg3 X_arg6 k acc f))
      = accStep v8 (arg3.view.read (Elt Ideal) X_arg3) (arg6.view.read (Elt Ideal) X_arg6) (even i) k.val (arg7.view.read (Elt Ideal) f) := by
  have key : ∀ a a' b b' d d', a = a' → b = b' → d = d' → k0_pay20 (F := Ideal) v8 a b d = k0_pay20 (F := Ideal) v8 a' b' d' := by
    rintro _ _ _ _ _ _ rfl rfl rfl; rfl
  unfold tripL_k0_t3 trip_k0_t3 accStep
  dsimp only
  refine (View.read_writes_full arg7.view f _ _ _).trans ?_
  rw [← readAt_tile arg3.view X_arg3 (k0_off8 i k) (k0_off8_inb i k) _ (off8_eq i k), ← readAt_tile arg3.view X_arg3 (k0_off9 i k) (k0_off9_inb i k) _ (off9_eq i k)]
  rw [← View.readAt_full arg6.view X_arg6 (off := ![0, 0]) inb_S1024x128_S1024x128_0_0]
  refine key _ _ _ _ _ _ rfl ?_ rfl
  rw [← View.readAt_full arg7.view f (off := ![0, 0]) inb_S1024x256_S1024x256_0_0]
  exact View.readCov_full arg7.view _ _ _ _

/-- The running maximum after `k` trips. -/
def maxFold (Q : FVec Ideal S1024x256 .bf16) (X : Vec Ideal S1x8192x256 .bf16) (n : ℕ) (m : Vec Ideal S1024x128 .f32) : ℕ → Vec Ideal S1024x128 .f32
  | 0 => m
  | k + 1 => maxStep Q X n k (maxFold Q X n m k)

/-- The accumulator after `k` trips. -/
def accFold (Q : FVec Ideal S1024x256 .bf16) (X : Vec Ideal S1x8192x256 .bf16) (m : Vec Ideal S1024x128 .f32) (n : ℕ) (a : Vec Ideal S1024x256 .f32) : ℕ → Vec Ideal S1024x256 .f32
  | 0 => a
  | k + 1 => accStep Q X m n k (accFold Q X m n a k)

/-- The maximum's scratch after `k` trips of its pair loop. -/
theorem st1_read (𝒱 : Variants) (c : Dev nD) (bd : Option 𝒱.V) (i : grid0.Coords) (arg2 : Memref sig .tc .vmem S1x256x1024 .bf16) (harg2 : arg2.IsWhole) (arg3 : Memref sig .tc .vmem S1x8192x256 .bf16) (harg3 : arg3.IsWhole) (arg4 : Memref sig .tc .vmem S4x128x128 .bf16) (harg4 : arg4.IsWhole) (arg5 : Memref sig .tc .vmem S1x256x512 .bf16) (harg5 : arg5.IsWhole) (arg6 : Memref sig .tc .vmem S1024x128 .f32) (harg6 : arg6.IsWhole) (arg7 : Memref sig .tc .vmem S1024x256 .f32) (harg7 : arg7.IsWhole) (arg1 : BitVec 32) (v8 : FVec Ideal S1024x256 .bf16) (v29 : BitVec 32) (v30 : BitVec 32) (v31 : BitVec 1) (c0_i32_14 : BitVec 32) (X_arg3 : BufTy.Contents (Elt Ideal) arg3.view.ty) (G : BufTy.Contents (Elt Ideal) arg6.view.ty) (init : BitVec 32) :
    ∀ k, k ≤ (k0_t1_loop i).trips → arg6.view.read (Elt Ideal) (arg6.view.writes (Elt Ideal) G (st_k0_t1 (F := Ideal) 𝒱 c bd i arg2 harg2 arg3 harg3 arg4 harg4 arg5 harg5 arg6 harg6 arg7 harg7 arg1 v8 v29 v30 v31 c0_i32_14 X_arg3 G init k).2)
      = maxFold v8 (arg3.view.read (Elt Ideal) X_arg3) (even i) (arg6.view.read (Elt Ideal) G) k
  | 0, _ => rfl
  | k + 1, h => by
    rw [st_k0_t1_succ 𝒱 c bd i arg2 harg2 arg3 harg3 arg4 harg4 arg5 harg5 arg6 harg6 arg7 harg7 arg1 v8 v29 v30 v31 c0_i32_14 X_arg3 G init ⟨k, h⟩]
    dsimp only
    rw [View.writes_append, trip1_read, st1_read 𝒱 c bd i arg2 harg2 arg3 harg3 arg4 harg4 arg5 harg5 arg6 harg6 arg7 harg7 arg1 v8 v29 v30 v31 c0_i32_14 X_arg3 G init k (by omega)]
    rfl

/-- The accumulator's scratch after `k` trips of its pair loop. -/
theorem st3_read (𝒱 : Variants) (c : Dev nD) (bd : Option 𝒱.V) (i : grid0.Coords) (arg2 : Memref sig .tc .vmem S1x256x1024 .bf16) (harg2 : arg2.IsWhole) (arg3 : Memref sig .tc .vmem S1x8192x256 .bf16) (harg3 : arg3.IsWhole) (arg4 : Memref sig .tc .vmem S4x128x128 .bf16) (harg4 : arg4.IsWhole) (arg5 : Memref sig .tc .vmem S1x256x512 .bf16) (harg5 : arg5.IsWhole) (arg6 : Memref sig .tc .vmem S1024x128 .f32) (harg6 : arg6.IsWhole) (arg7 : Memref sig .tc .vmem S1024x256 .f32) (harg7 : arg7.IsWhole) (arg1 : BitVec 32) (v8 : FVec Ideal S1024x256 .bf16) (v95 : BitVec 32) (v106 v108 : BitVec 1) (X_arg3 : BufTy.Contents (Elt Ideal) arg3.view.ty) (X_arg6 : BufTy.Contents (Elt Ideal) arg6.view.ty) (G : BufTy.Contents (Elt Ideal) arg7.view.ty) (init : BitVec 32) :
    ∀ k, k ≤ (k0_t3_loop i).trips → arg7.view.read (Elt Ideal) (arg7.view.writes (Elt Ideal) G (st_k0_t3 (F := Ideal) 𝒱 c bd i arg2 harg2 arg3 harg3 arg4 harg4 arg5 harg5 arg6 harg6 arg7 harg7 arg1 v8 v95 v106 v108 X_arg3 X_arg6 G init k).2)
      = accFold v8 (arg3.view.read (Elt Ideal) X_arg3) (arg6.view.read (Elt Ideal) X_arg6) (even i) (arg7.view.read (Elt Ideal) G) k
  | 0, _ => rfl
  | k + 1, h => by
    rw [st_k0_t3_succ 𝒱 c bd i arg2 harg2 arg3 harg3 arg4 harg4 arg5 harg5 arg6 harg6 arg7 harg7 arg1 v8 v95 v106 v108 X_arg3 X_arg6 G init ⟨k, h⟩]
    dsimp only
    rw [View.writes_append, trip3_read, st3_read 𝒱 c bd i arg2 harg2 arg3 harg3 arg4 harg4 arg5 harg5 arg6 harg6 arg7 harg7 arg1 v8 v95 v106 v108 X_arg3 X_arg6 G init k (by omega)]
    rfl

end Cert.KernelIdeal.Hand

end
-- ==== Proof.MlaPoint.lean ====
module

public import proofs.«01_k».proof.Proof.MlaLoops
public import Idealize.ShloMosaic.Lib.VecWindow
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

/-- Head `h`'s query rows in a block: 256 lanes from lane `256 * h` on. -/
def qHead (x0 : Vec Ideal S1x256x1024 .bf16) (h : ℕ) : Vec Ideal S1x256x256 .bf16 :=
  fun y => x0 (ix3 0 (y 1) ⟨(256 * h + (y 2).val) % 1024, Nat.mod_lt _ (by norm_num)⟩)

/-- A load of 256 lanes from lane `256 * h` on reads head `h`'s rows. -/
theorem readAt_head (v : View sig .tc .vmem S1x256x1024 .bf16) (f : BufTy.Contents (Elt Ideal) v.ty) (off : Fin 3 → ℕ) (inb : ∀ a, off a + S1x256x256.size a ≤ S1x256x1024.size a)
    (h : ℕ) (ho : off = ![0, 0, 256 * h]) :
    v.readAt (Elt Ideal) (Rect.unit (s := S1x256x1024) off S1x256x256.size inb).toLoadRect f = qHead (v.read (Elt Ideal) f) h := by
  subst ho
  funext y
  have h1 : 256 * h + 256 ≤ 1024 := inb 2
  have hy : (y 2).val < 256 := (y 2).isLt
  have hy0 : (y 0).val < 1 := (y 0).isLt
  refine congrArg (v.read (Elt Ideal) f) (funext fun a => Fin.ext ?_)
  match a with
  | ⟨0, _⟩ => show 0 + 1 * (y 0).val = 0; omega
  | ⟨1, _⟩ => show 0 + 1 * (y 1).val = (y 1).val; omega
  | ⟨2, _⟩ => show 256 * h + 1 * (y 2).val = (256 * h + (y 2).val) % 1024; omega

/-- The four heads' query rows, stacked. -/
def stacked (x0 : Vec Ideal S1x256x1024 .bf16) : FVec Ideal S1024x256 .bf16 := k0_pay9 (F := Ideal) (qHead x0 0) (qHead x0 1) (qHead x0 2) (qHead x0 3)
/-- The diagonal tile's masked scores. -/
def diagS (x0 : Vec Ideal S1x256x1024 .bf16) (T : Vec Ideal S1x256x256 .bf16) : FVec Ideal S1024x256 .f32 := k0_pay11 (F := Ideal) (qHead x0 0) (qHead x0 1) (qHead x0 2) (qHead x0 3) T
/-- The running maximum the diagonal tile starts. -/
def diagM (x0 : Vec Ideal S1x256x1024 .bf16) (T : Vec Ideal S1x256x256 .bf16) : FVec Ideal S1024x128 .f32 := k0_pay12 (F := Ideal) (qHead x0 0) (qHead x0 1) (qHead x0 2) (qHead x0 3) T
/-- The row maximum, replicated. -/
def rowMax (m : Vec Ideal S1024x128 .f32) : Vec Ideal S1024x128 .f32 := k0_pay17 (F := Ideal) (k0_pay16 (F := Ideal) m)
/-- The accumulator the diagonal tile starts. -/
def diagA (x0 : Vec Ideal S1x256x1024 .bf16) (T : Vec Ideal S1x256x256 .bf16) (M : Vec Ideal S1024x128 .f32) : Vec Ideal S1024x256 .f32 := k0_pay18 (F := Ideal) (k0_pay10 (F := Ideal) T) (diagS x0 T) M

/-- The row maximum at an even block. -/
def maxA (i : grid0.Coords) (x0 : Vec Ideal S1x256x1024 .bf16) (x1 : Vec Ideal S1x8192x256 .bf16) : Vec Ideal S1024x128 .f32 :=
  rowMax (maxFold (stacked x0) x1 (even i) (diagM x0 (tileAt x1 (i 1).val)) (even i / 2))
/-- The row maximum at an odd block. -/
def maxB (i : grid0.Coords) (x0 : Vec Ideal S1x256x1024 .bf16) (x1 : Vec Ideal S1x8192x256 .bf16) : Vec Ideal S1024x128 .f32 :=
  rowMax (maxFold (stacked x0) x1 (even i) (k0_pay13 (F := Ideal) (stacked x0) (diagM x0 (tileAt x1 (i 1).val)) (tileAt x1 ((i 1).val - 1))) (even i / 2))
/-- The accumulator at an even block. -/
def accA (i : grid0.Coords) (x0 : Vec Ideal S1x256x1024 .bf16) (x1 : Vec Ideal S1x8192x256 .bf16) : Vec Ideal S1024x256 .f32 :=
  accFold (stacked x0) x1 (maxA i x0 x1) (even i) (diagA x0 (tileAt x1 (i 1).val) (maxA i x0 x1)) (even i / 2)
/-- The accumulator at an odd block. -/
def accB (i : grid0.Coords) (x0 : Vec Ideal S1x256x1024 .bf16) (x1 : Vec Ideal S1x8192x256 .bf16) : Vec Ideal S1024x256 .f32 :=
  accFold (stacked x0) x1 (maxB i x0 x1) (even i) (k0_pay19 (F := Ideal) (stacked x0) (tileAt x1 ((i 1).val - 1)) (diagA x0 (tileAt x1 (i 1).val) (maxB i x0 x1)) (maxB i x0 x1)) (even i / 2)

/-- What an accumulator gives at row `r`, head `h`, lane `e`: the quotients by the normalizer in lane 255, against the head's value projection. -/
def blockVal (acc : Vec Ideal S1024x256 .f32) (x2 : Vec Ideal S4x128x128 .bf16) (h : Fin 4) (r : Fin 256) (e : Fin 128) : EReal :=
  Finset.sum (M := EReal) Finset.univ fun x : Fin 128 => HMul.hMul (α := EReal) (β := EReal) (γ := EReal)
    (Ideal.div (acc (ix2 ⟨256 * h.val + r.val, by omega⟩ (lo x))) (max (α := EReal) (acc (ix2 ⟨256 * h.val + r.val, by omega⟩ 255)) (Ideal.ofBits FTy.f32 0x0DA24260#32))) (x2 (ix3 h x e))

/-- The remainder loop of the maximum makes no trip and leaves its scratch. -/
theorem loop2_read (𝒱 : Variants) (c : Dev nD) (bd : Option 𝒱.V) (i : grid0.Coords) (arg2 : Memref sig .tc .vmem S1x256x1024 .bf16) (harg2 : arg2.IsWhole) (arg3 : Memref sig .tc .vmem S1x8192x256 .bf16) (harg3 : arg3.IsWhole) (arg4 : Memref sig .tc .vmem S4x128x128 .bf16) (harg4 : arg4.IsWhole) (arg5 : Memref sig .tc .vmem S1x256x512 .bf16) (harg5 : arg5.IsWhole) (arg6 : Memref sig .tc .vmem S1024x128 .f32) (harg6 : arg6.IsWhole) (arg7 : Memref sig .tc .vmem S1024x256 .f32) (harg7 : arg7.IsWhole) (arg1 : BitVec 32) (v8 : FVec Ideal S1024x256 .bf16) (v29 : BitVec 32) (v30 : BitVec 32) (v31 : BitVec 1) (c0 v62 : BitVec 32) (X : BufTy.Contents (Elt Ideal) arg3.view.ty) (G : BufTy.Contents (Elt Ideal) arg6.view.ty) (init : BitVec 32) (f : BufTy.Contents (Elt Ideal) arg6.view.ty) (L : List (View.Piece (Elt Ideal) S1024x128 .f32)) :
    arg6.view.read (Elt Ideal) (arg6.view.writes (Elt Ideal) f ((st_k0_t2 (F := Ideal) 𝒱 c bd i arg2 harg2 arg3 harg3 arg4 harg4 arg5 harg5 arg6 harg6 arg7 harg7 arg1 v8 v29 v30 v31 c0 v62 X G init (k0_t2_loop i).trips).2 ++ L))
      = arg6.view.read (Elt Ideal) (arg6.view.writes (Elt Ideal) f L) := by
  rw [trips2 i]
  rfl

/-- The remainder loop of the accumulator makes no trip either. -/
theorem loop4_read (𝒱 : Variants) (c : Dev nD) (bd : Option 𝒱.V) (i : grid0.Coords) (arg2 : Memref sig .tc .vmem S1x256x1024 .bf16) (harg2 : arg2.IsWhole) (arg3 : Memref sig .tc .vmem S1x8192x256 .bf16) (harg3 : arg3.IsWhole) (arg4 : Memref sig .tc .vmem S4x128x128 .bf16) (harg4 : arg4.IsWhole) (arg5 : Memref sig .tc .vmem S1x256x512 .bf16) (harg5 : arg5.IsWhole) (arg6 : Memref sig .tc .vmem S1024x128 .f32) (harg6 : arg6.IsWhole) (arg7 : Memref sig .tc .vmem S1024x256 .f32) (harg7 : arg7.IsWhole) (arg1 : BitVec 32) (v8 : FVec Ideal S1024x256 .bf16) (v95 : BitVec 32) (v106 v108 : BitVec 1) (v116 : BitVec 32) (X : BufTy.Contents (Elt Ideal) arg3.view.ty) (Y : BufTy.Contents (Elt Ideal) arg6.view.ty) (G : BufTy.Contents (Elt Ideal) arg7.view.ty) (init : BitVec 32) (f : BufTy.Contents (Elt Ideal) arg7.view.ty) (L : List (View.Piece (Elt Ideal) S1024x256 .f32)) :
    arg7.view.read (Elt Ideal) (arg7.view.writes (Elt Ideal) f ((st_k0_t4 (F := Ideal) 𝒱 c bd i arg2 harg2 arg3 harg3 arg4 harg4 arg5 harg5 arg6 harg6 arg7 harg7 arg1 v8 v95 v106 v108 v116 X Y G init (k0_t4_loop i).trips).2 ++ L))
      = arg7.view.read (Elt Ideal) (arg7.view.writes (Elt Ideal) f L) := by
  rw [trips4 i]
  rfl

/-- The pair loop of the maximum leaves the fold over its trips. -/
theorem loop1_read (𝒱 : Variants) (c : Dev nD) (bd : Option 𝒱.V) (i : grid0.Coords) (arg2 : Memref sig .tc .vmem S1x256x1024 .bf16) (harg2 : arg2.IsWhole) (arg3 : Memref sig .tc .vmem S1x8192x256 .bf16) (harg3 : arg3.IsWhole) (arg4 : Memref sig .tc .vmem S4x128x128 .bf16) (harg4 : arg4.IsWhole) (arg5 : Memref sig .tc .vmem S1x256x512 .bf16) (harg5 : arg5.IsWhole) (arg6 : Memref sig .tc .vmem S1024x128 .f32) (harg6 : arg6.IsWhole) (arg7 : Memref sig .tc .vmem S1024x256 .f32) (harg7 : arg7.IsWhole) (arg1 : BitVec 32) (v8 : FVec Ideal S1024x256 .bf16) (v29 : BitVec 32) (v30 : BitVec 32) (v31 : BitVec 1) (c0 : BitVec 32) (X : BufTy.Contents (Elt Ideal) arg3.view.ty) (init : BitVec 32) (f : BufTy.Contents (Elt Ideal) arg6.view.ty) (L : List (View.Piece (Elt Ideal) S1024x128 .f32)) :
    arg6.view.read (Elt Ideal) (arg6.view.writes (Elt Ideal) f ((st_k0_t1 (F := Ideal) 𝒱 c bd i arg2 harg2 arg3 harg3 arg4 harg4 arg5 harg5 arg6 harg6 arg7 harg7 arg1 v8 v29 v30 v31 c0 X (arg6.view.writes (Elt Ideal) f L) init (k0_t1_loop i).trips).2 ++ L))
      = maxFold v8 (arg3.view.read (Elt Ideal) X) (even i) (arg6.view.read (Elt Ideal) (arg6.view.writes (Elt Ideal) f L)) (even i / 2) := by
  rw [View.writes_append, st1_read _ _ _ _ _ _ _ _ _ _ _ _ _ _ _ _ _ _ _ _ _ _ _ _ _ _ le_rfl, trips1 i]

/-- The pair loop of the accumulator leaves the fold over its trips. -/
theorem loop3_read (𝒱 : Variants) (c : Dev nD) (bd : Option 𝒱.V) (i : grid0.Coords) (arg2 : Memref sig .tc .vmem S1x256x1024 .bf16) (harg2 : arg2.IsWhole) (arg3 : Memref sig .tc .vmem S1x8192x256 .bf16) (harg3 : arg3.IsWhole) (arg4 : Memref sig .tc .vmem S4x128x128 .bf16) (harg4 : arg4.IsWhole) (arg5 : Memref sig .tc .vmem S1x256x512 .bf16) (harg5 : arg5.IsWhole) (arg6 : Memref sig .tc .vmem S1024x128 .f32) (harg6 : arg6.IsWhole) (arg7 : Memref sig .tc .vmem S1024x256 .f32) (harg7 : arg7.IsWhole) (arg1 : BitVec 32) (v8 : FVec Ideal S1024x256 .bf16) (v95 : BitVec 32) (v106 v108 : BitVec 1) (X : BufTy.Contents (Elt Ideal) arg3.view.ty) (Y : BufTy.Contents (Elt Ideal) arg6.view.ty) (init : BitVec 32) (f : BufTy.Contents (Elt Ideal) arg7.view.ty) (L : List (View.Piece (Elt Ideal) S1024x256 .f32)) :
    arg7.view.read (Elt Ideal) (arg7.view.writes (Elt Ideal) f ((st_k0_t3 (F := Ideal) 𝒱 c bd i arg2 harg2 arg3 harg3 arg4 harg4 arg5 harg5 arg6 harg6 arg7 harg7 arg1 v8 v95 v106 v108 X Y (arg7.view.writes (Elt Ideal) f L) init (k0_t3_loop i).trips).2 ++ L))
      = accFold v8 (arg3.view.read (Elt Ideal) X) (arg6.view.read (Elt Ideal) Y) (even i) (arg7.view.read (Elt Ideal) (arg7.view.writes (Elt Ideal) f L)) (even i / 2) := by
  rw [View.writes_append, st3_read _ _ _ _ _ _ _ _ _ _ _ _ _ _ _ _ _ _ _ _ _ _ _ _ _ _ le_rfl, trips3 i]

/-- A load of the whole of a scratch reads what its pieces left. -/
theorem readCov_read {s : Shape} {e : EltTy} (v : View sig .tc .vmem s e) (L : List (View.Piece (Elt Ideal) s e)) {off : Fin s.rank → ℕ} (inb : ∀ a, off a + s.size a ≤ s.size a) :
    v.readCov L (Rect.unit off s.size inb).toLoadRect = v.read (Elt Ideal) (v.writes (Elt Ideal) v.junk L) := View.readAt_full v _ inb

/-- A head's lane in the block, from its own lane. -/
theorem lane_eq (h o : ℕ) (r : Fin 256) (e : Fin 128) (a : Fin 3) (ho : 128 * h = o) (hb : 128 * h + e.val < 512) :
    ((ix3 (n0 := 1) (n1 := 256) (n2 := 512) 0 r ⟨128 * h + e.val, hb⟩) a).val = (![0, 0, o] : Fin 3 → ℕ) a + ((ix3 (n0 := 1) (n1 := 256) (n2 := 128) 0 r e) a).val := by
  match a with
  | ⟨0, _⟩ => rfl
  | ⟨1, _⟩ => show r.val = 0 + r.val; omega
  | ⟨2, _⟩ => show 128 * h + e.val = o + e.val; omega

/-- The four heads' stores read back: head `h`'s lanes hold its output. -/
theorem heads_read (v : View sig .tc .vmem S1x256x512 .bf16) (f : BufTy.Contents (Elt Ideal) v.ty) (inb3 : ∀ a, (![0, 0, 384] : Fin 3 → ℕ) a + S1x256x128.size a ≤ S1x256x512.size a) (inb2 : ∀ a, (![0, 0, 256] : Fin 3 → ℕ) a + S1x256x128.size a ≤ S1x256x512.size a)
    (inb1 : ∀ a, (![0, 0, 128] : Fin 3 → ℕ) a + S1x256x128.size a ≤ S1x256x512.size a) (inb0 : ∀ a, (![0, 0, 0] : Fin 3 → ℕ) a + S1x256x128.size a ≤ S1x256x512.size a)
    (p3 p2 p1 p0 : Vec Ideal S1x256x128 .bf16) (h : Fin 4) (r : Fin 256) (e : Fin 128) :
    v.read (Elt Ideal) (v.writes (Elt Ideal) f [⟨Rect.unit ![0, 0, 384] S1x256x128.size inb3, p3⟩, ⟨Rect.unit ![0, 0, 256] S1x256x128.size inb2, p2⟩, ⟨Rect.unit ![0, 0, 128] S1x256x128.size inb1, p1⟩, ⟨Rect.unit ![0, 0, 0] S1x256x128.size inb0, p0⟩])
        (ix3 0 r ⟨128 * h.val + e.val, by omega⟩)
      = (match h with | 0 => p0 | 1 => p1 | 2 => p2 | 3 => p3) (ix3 0 r e) := by
  have he := e.isLt
  match h with
  | 3 => exact View.read_writes_cons_unit_of_mem v f inb3 p3 _ _ (ix3 0 r e) rfl fun a => lane_eq 3 384 r e a rfl _
  | 2 =>
    refine (View.read_writes_cons_unit_of_not_mem v f inb3 p3 _ _ rfl 2 (Or.inl ?_)).trans ?_
    · show 128 * 2 + e.val < 384; omega
    exact View.read_writes_cons_unit_of_mem v f inb2 p2 _ _ (ix3 0 r e) rfl fun a => lane_eq 2 256 r e a rfl _
  | 1 =>
    refine (View.read_writes_cons_unit_of_not_mem v f inb3 p3 _ _ rfl 2 (Or.inl ?_)).trans ?_
    · show 128 * 1 + e.val < 384; omega
    refine (View.read_writes_cons_unit_of_not_mem v f inb2 p2 _ _ rfl 2 (Or.inl ?_)).trans ?_
    · show 128 * 1 + e.val < 256; omega
    exact View.read_writes_cons_unit_of_mem v f inb1 p1 _ _ (ix3 0 r e) rfl fun a => lane_eq 1 128 r e a rfl _
  | 0 =>
    refine (View.read_writes_cons_unit_of_not_mem v f inb3 p3 _ _ rfl 2 (Or.inl ?_)).trans ?_
    · show 128 * 0 + e.val < 384; omega
    refine (View.read_writes_cons_unit_of_not_mem v f inb2 p2 _ _ rfl 2 (Or.inl ?_)).trans ?_
    · show 128 * 0 + e.val < 256; omega
    refine (View.read_writes_cons_unit_of_not_mem v f inb1 p1 _ _ rfl 2 (Or.inl ?_)).trans ?_
    · show 128 * 0 + e.val < 128; omega
    exact View.read_writes_cons_unit_of_mem v f inb0 p0 _ _ (ix3 0 r e) rfl fun a => lane_eq 0 0 r e a rfl _

/-- The block a point leaves, from what its accumulator's scratch holds at the end. -/
theorem block_read (v : View sig .tc .vmem S1x256x512 .bf16) (f : BufTy.Contents (Elt Ideal) v.ty) (inb3 : ∀ a, (![0, 0, 384] : Fin 3 → ℕ) a + S1x256x128.size a ≤ S1x256x512.size a) (inb2 : ∀ a, (![0, 0, 256] : Fin 3 → ℕ) a + S1x256x128.size a ≤ S1x256x512.size a)
    (inb1 : ∀ a, (![0, 0, 128] : Fin 3 → ℕ) a + S1x256x128.size a ≤ S1x256x512.size a) (inb0 : ∀ a, (![0, 0, 0] : Fin 3 → ℕ) a + S1x256x128.size a ≤ S1x256x512.size a)
    (a7 : View sig .tc .vmem S1024x256 .f32) (L : List (View.Piece (Elt Ideal) S1024x256 .f32)) (inbA : ∀ a, (![0, 0] : Fin 2 → ℕ) a + S1024x128.size a ≤ S1024x256.size a) (inbB : ∀ a, (![0, 255] : Fin 2 → ℕ) a + S1024x1.size a ≤ S1024x256.size a)
    (a4 : View sig .tc .vmem S4x128x128 .bf16) (f4 : BufTy.Contents (Elt Ideal) a4.ty) (w3 : ∀ a, (![3, 0, 0] : Fin 3 → ℕ) a + S1x128x128.size a ≤ S4x128x128.size a) (w2 : ∀ a, (![2, 0, 0] : Fin 3 → ℕ) a + S1x128x128.size a ≤ S4x128x128.size a)
    (w1 : ∀ a, (![1, 0, 0] : Fin 3 → ℕ) a + S1x128x128.size a ≤ S4x128x128.size a) (w0 : ∀ a, (![0, 0, 0] : Fin 3 → ℕ) a + S1x128x128.size a ≤ S4x128x128.size a)
    (q : FVec Ideal S1024x128 .bf16) (s : Vec Ideal S1024x128 .f32) (n : Vec Ideal S1024x1 .f32) (hs : s = a7.readCov L (Rect.unit (s := S1024x256) ![0, 0] S1024x128.size inbA).toLoadRect) (hn : n = a7.readCov L (Rect.unit (s := S1024x256) ![0, 255] S1024x1.size inbB).toLoadRect)
    (hq : q = k0_pay22 (F := Ideal) s n) (acc : Vec Ideal S1024x256 .f32) (x2 : Vec Ideal S4x128x128 .bf16) (hacc : a7.read (Elt Ideal) (a7.writes (Elt Ideal) a7.junk L) = acc) (hx2 : a4.read (Elt Ideal) f4 = x2) (h : Fin 4) (r : Fin 256) (e : Fin 128) :
    v.read (Elt Ideal) (v.writes (Elt Ideal) f
        [⟨Rect.unit ![0, 0, 384] S1x256x128.size inb3, k0_pay2 (F := Ideal) q (a4.readAt (Elt Ideal) (Rect.unit (s := S4x128x128) ![3, 0, 0] S1x128x128.size w3).toLoadRect f4)⟩,
         ⟨Rect.unit ![0, 0, 256] S1x256x128.size inb2, k0_pay1 (F := Ideal) q (a4.readAt (Elt Ideal) (Rect.unit (s := S4x128x128) ![2, 0, 0] S1x128x128.size w2).toLoadRect f4)⟩,
         ⟨Rect.unit ![0, 0, 128] S1x256x128.size inb1, k0_pay24 (F := Ideal) s n (a4.readAt (Elt Ideal) (Rect.unit (s := S4x128x128) ![1, 0, 0] S1x128x128.size w1).toLoadRect f4)⟩,
         ⟨Rect.unit ![0, 0, 0] S1x256x128.size inb0, k0_pay23 (F := Ideal) s n (a4.readAt (Elt Ideal) (Rect.unit (s := S4x128x128) ![0, 0, 0] S1x128x128.size w0).toLoadRect f4)⟩])
        (ix3 0 r ⟨128 * h.val + e.val, by omega⟩)
      = blockVal acc x2 h r e := by
  subst hq
  refine (heads_read v f inb3 inb2 inb1 inb0 _ _ _ _ h r e).trans ?_
  have ha : ∀ (R : Fin 1024) (x : Fin 128), s (ix2 R x) = acc (ix2 R (lo x)) := fun R x => by
    rw [hs, ← hacc]
    refine congrArg (a7.read (Elt Ideal) (a7.writes (Elt Ideal) a7.junk L)) (funext fun a => Fin.ext ?_)
    match a with
    | ⟨0, _⟩ => show 0 + 1 * R.val = R.val; omega
    | ⟨1, _⟩ => show 0 + 1 * x.val = x.val; omega
  have hb : ∀ R : Fin 1024, n (ix2 R 0) = acc (ix2 R 255) := fun R => by
    rw [hn, ← hacc]
    refine congrArg (a7.read (Elt Ideal) (a7.writes (Elt Ideal) a7.junk L)) (funext fun a => Fin.ext ?_)
    match a with
    | ⟨0, _⟩ => show 0 + 1 * R.val = R.val; omega
    | ⟨1, _⟩ => rfl
  have hw : ∀ (g : Fin 4) (off : Fin 3 → ℕ) (w : ∀ a, off a + S1x128x128.size a ≤ S4x128x128.size a) (ho : off = ![g.val, 0, 0]) (x : Fin 128),
      a4.readAt (Elt Ideal) (Rect.unit (s := S4x128x128) off S1x128x128.size w).toLoadRect f4 (ix3 0 x e) = x2 (ix3 g x e) := fun g off w ho x => by
    subst ho
    rw [← hx2]
    refine congrArg (a4.read (Elt Ideal) f4) (funext fun a => Fin.ext ?_)
    match a with
    | ⟨0, _⟩ => show g.val + 1 * 0 = g.val; omega
    | ⟨1, _⟩ => show 0 + 1 * x.val = x.val; omega
    | ⟨2, _⟩ => show 0 + 1 * e.val = e.val; omega
  have fin : ∀ (W : Vec Ideal S1x128x128 .bf16) (R R' : Fin 1024) (g : Fin 4), R = R' → (∀ x, W (ix3 0 x e) = x2 (ix3 g x e)) →
      headOut s n W R e = Finset.sum (M := EReal) Finset.univ fun x : Fin 128 => HMul.hMul (α := EReal) (β := EReal) (γ := EReal)
        (Ideal.div (acc (ix2 R' (lo x))) (max (α := EReal) (acc (ix2 R' 255)) (Ideal.ofBits FTy.f32 0x0DA24260#32))) (x2 (ix3 g x e)) := by
    rintro W R _ g rfl hW
    unfold headOut
    exact Finset.sum_congr rfl fun x _ => by rw [ha, hb, hW]
  match h with
  | 3 => exact (pay2_point s n _ r e).trans (fin _ _ _ 3 (Fin.ext rfl) (hw 3 _ w3 rfl))
  | 2 => exact (pay1_point s n _ r e).trans (fin _ _ _ 2 (Fin.ext rfl) (hw 2 _ w2 rfl))
  | 1 => exact (pay24_point s n _ r e).trans (fin _ _ _ 1 (Fin.ext rfl) (hw 1 _ w1 rfl))
  | 0 => exact (pay23_point s n _ r e).trans (fin _ _ _ 0 (Fin.ext (by show r.val = 256 * 0 + r.val; omega)) (hw 0 _ w0 rfl))

/-- The fold of the maximum, argument by argument. -/
theorem maxFold_congr (n k : ℕ) {Q Q' : FVec Ideal S1024x256 .bf16} {X X' : Vec Ideal S1x8192x256 .bf16} {m m' : Vec Ideal S1024x128 .f32} (hQ : Q = Q') (hX : X = X') (hm : m = m') : maxFold Q X n m k = maxFold Q' X' n m' k := by
  subst hQ hX hm; rfl

/-- The fold of the accumulator, argument by argument. -/
theorem accFold_congr (n k : ℕ) {Q Q' : FVec Ideal S1024x256 .bf16} {X X' : Vec Ideal S1x8192x256 .bf16} {m m' : Vec Ideal S1024x128 .f32} {a a' : Vec Ideal S1024x256 .f32} (hQ : Q = Q') (hX : X = X') (hm : m = m') (ha : a = a') :
    accFold Q X m n a k = accFold Q' X' m' n a' k := by
  subst hQ hX hm ha; rfl

/-- The stacked queries from the four loads. -/
theorem stacked_read (v : View sig .tc .vmem S1x256x1024 .bf16) (f : BufTy.Contents (Elt Ideal) v.ty) (x0 : Vec Ideal S1x256x1024 .bf16) (hx : v.read (Elt Ideal) f = x0) (i0 : ∀ a, (![0, 0, 0] : Fin 3 → ℕ) a + S1x256x256.size a ≤ S1x256x1024.size a) (i1 : ∀ a, (![0, 0, 256] : Fin 3 → ℕ) a + S1x256x256.size a ≤ S1x256x1024.size a) (i2 : ∀ a, (![0, 0, 512] : Fin 3 → ℕ) a + S1x256x256.size a ≤ S1x256x1024.size a) (i3 : ∀ a, (![0, 0, 768] : Fin 3 → ℕ) a + S1x256x256.size a ≤ S1x256x1024.size a)
    (T : Vec Ideal S1x256x256 .bf16) :
    let q0 := v.readAt (Elt Ideal) (Rect.unit (s := S1x256x1024) ![0, 0, 0] S1x256x256.size i0).toLoadRect f
    let q1 := v.readAt (Elt Ideal) (Rect.unit (s := S1x256x1024) ![0, 0, 256] S1x256x256.size i1).toLoadRect f
    let q2 := v.readAt (Elt Ideal) (Rect.unit (s := S1x256x1024) ![0, 0, 512] S1x256x256.size i2).toLoadRect f
    let q3 := v.readAt (Elt Ideal) (Rect.unit (s := S1x256x1024) ![0, 0, 768] S1x256x256.size i3).toLoadRect f
    k0_pay9 (F := Ideal) q0 q1 q2 q3 = stacked x0 ∧ k0_pay11 (F := Ideal) q0 q1 q2 q3 T = diagS x0 T ∧ k0_pay12 (F := Ideal) q0 q1 q2 q3 T = diagM x0 T := by
  subst hx
  dsimp only
  rw [readAt_head v f _ i0 0 rfl, readAt_head v f _ i1 1 rfl, readAt_head v f _ i2 2 rfl, readAt_head v f _ i3 3 rfl]
  exact ⟨rfl, rfl, rfl⟩

/-- The row maximum's argument. -/
theorem rowMax_congr {m m' : Vec Ideal S1024x128 .f32} (h : m = m') : k0_pay17 (F := Ideal) (k0_pay16 (F := Ideal) m) = rowMax m' := by subst h; rfl

/-- The diagonal accumulator, argument by argument. -/
theorem diagA_congr {T T' : Vec Ideal S1x256x256 .bf16} {s : FVec Ideal S1024x256 .f32} {x0 : Vec Ideal S1x256x1024 .bf16} {M M' : Vec Ideal S1024x128 .f32} (hT : T = T') (hs : s = diagS x0 T') (hM : M = M') :
    k0_pay18 (F := Ideal) (k0_pay10 (F := Ideal) T) s M = diagA x0 T' M' := by subst hT hs hM; rfl

end Cert.KernelIdeal.Hand

end
-- ==== Proof.MlaOut.lean ====
module

public import proofs.«01_k».proof.Proof.MlaPoint
public import Idealize.ShloMosaic.Lib.VecWindow
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

/-- A load of a tile of the cache rows. -/
theorem tile_read (arg3 : Memref sig .tc .vmem S1x8192x256 .bf16) (harg3 : arg3.IsWhole) (x1 : Vec Ideal S1x8192x256 .bf16) (off : Fin 3 → ℕ) (inb : ∀ a, off a + S1x256x256.size a ≤ S1x8192x256.size a) (o : ℕ) (ho : off = ![0, 256 * o, 0]) :
    arg3.view.readAt (Elt Ideal) (Rect.unit (s := S1x8192x256) off S1x256x256.size inb).toLoadRect (harg3.unread x1) = tileAt x1 o :=
  (readAt_tile arg3.view _ off inb o ho).trans (congrArg (fun X => tileAt X o) (harg3.read_unread x1))

/-- One tile's step of the maximum, argument by argument. -/
theorem pay13_congr {Q Q' : FVec Ideal S1024x256 .bf16} {m m' : Vec Ideal S1024x128 .f32} {T T' : Vec Ideal S1x256x256 .bf16} (hQ : Q = Q') (hm : m = m') (hT : T = T') : k0_pay13 (F := Ideal) Q m T = k0_pay13 (F := Ideal) Q' m' T' := by
  subst hQ hm hT; rfl

/-- One tile's step of the accumulator, argument by argument. -/
theorem pay19_congr {Q Q' : FVec Ideal S1024x256 .bf16} {m m' : Vec Ideal S1024x128 .f32} {T T' : Vec Ideal S1x256x256 .bf16} {a a' : Vec Ideal S1024x256 .f32} (hQ : Q = Q') (hT : T = T') (ha : a = a') (hm : m = m') : k0_pay19 (F := Ideal) Q T a m = k0_pay19 (F := Ideal) Q' T' a' m' := by
  subst hQ hm hT ha; rfl

/-- The diagonal tile's maximum from its loads. -/
theorem diagM_read (v : View sig .tc .vmem S1x256x1024 .bf16) (f : BufTy.Contents (Elt Ideal) v.ty) (x0 : Vec Ideal S1x256x1024 .bf16) (hx : v.read (Elt Ideal) f = x0) (i0 : ∀ a, (![0, 0, 0] : Fin 3 → ℕ) a + S1x256x256.size a ≤ S1x256x1024.size a) (i1 : ∀ a, (![0, 0, 256] : Fin 3 → ℕ) a + S1x256x256.size a ≤ S1x256x1024.size a) (i2 : ∀ a, (![0, 0, 512] : Fin 3 → ℕ) a + S1x256x256.size a ≤ S1x256x1024.size a) (i3 : ∀ a, (![0, 0, 768] : Fin 3 → ℕ) a + S1x256x256.size a ≤ S1x256x1024.size a)
    (T T' : Vec Ideal S1x256x256 .bf16) (hT : T = T') :
    k0_pay12 (F := Ideal) (v.readAt (Elt Ideal) (Rect.unit (s := S1x256x1024) ![0, 0, 0] S1x256x256.size i0).toLoadRect f) (v.readAt (Elt Ideal) (Rect.unit (s := S1x256x1024) ![0, 0, 256] S1x256x256.size i1).toLoadRect f)
      (v.readAt (Elt Ideal) (Rect.unit (s := S1x256x1024) ![0, 0, 512] S1x256x256.size i2).toLoadRect f) (v.readAt (Elt Ideal) (Rect.unit (s := S1x256x1024) ![0, 0, 768] S1x256x256.size i3).toLoadRect f) T = diagM x0 T' := by
  subst hT; exact (stacked_read v f x0 hx i0 i1 i2 i3 T).2.2

/-- The diagonal tile's scores from their loads. -/
theorem diagS_read (v : View sig .tc .vmem S1x256x1024 .bf16) (f : BufTy.Contents (Elt Ideal) v.ty) (x0 : Vec Ideal S1x256x1024 .bf16) (hx : v.read (Elt Ideal) f = x0) (i0 : ∀ a, (![0, 0, 0] : Fin 3 → ℕ) a + S1x256x256.size a ≤ S1x256x1024.size a) (i1 : ∀ a, (![0, 0, 256] : Fin 3 → ℕ) a + S1x256x256.size a ≤ S1x256x1024.size a) (i2 : ∀ a, (![0, 0, 512] : Fin 3 → ℕ) a + S1x256x256.size a ≤ S1x256x1024.size a) (i3 : ∀ a, (![0, 0, 768] : Fin 3 → ℕ) a + S1x256x256.size a ≤ S1x256x1024.size a)
    (T T' : Vec Ideal S1x256x256 .bf16) (hT : T = T') :
    k0_pay11 (F := Ideal) (v.readAt (Elt Ideal) (Rect.unit (s := S1x256x1024) ![0, 0, 0] S1x256x256.size i0).toLoadRect f) (v.readAt (Elt Ideal) (Rect.unit (s := S1x256x1024) ![0, 0, 256] S1x256x256.size i1).toLoadRect f)
      (v.readAt (Elt Ideal) (Rect.unit (s := S1x256x1024) ![0, 0, 512] S1x256x256.size i2).toLoadRect f) (v.readAt (Elt Ideal) (Rect.unit (s := S1x256x1024) ![0, 0, 768] S1x256x256.size i3).toLoadRect f) T = diagS x0 T' := by
  subst hT; exact (stacked_read v f x0 hx i0 i1 i2 i3 T).2.1

/-- The block an even point leaves. -/
theorem outA_point (c : Dev nD) (i : grid0.Coords) (arg2 : Memref sig .tc .vmem S1x256x1024 .bf16) (harg2 : arg2.IsWhole) (arg3 : Memref sig .tc .vmem S1x8192x256 .bf16) (harg3 : arg3.IsWhole) (arg4 : Memref sig .tc .vmem S4x128x128 .bf16) (harg4 : arg4.IsWhole) (arg5 : Memref sig .tc .vmem S1x256x512 .bf16) (harg5 : arg5.IsWhole) (arg6 : Memref sig .tc .vmem S1024x128 .f32) (harg6 : arg6.IsWhole) (arg7 : Memref sig .tc .vmem S1024x256 .f32) (harg7 : arg7.IsWhole) (hc0 : ¬cond0_0 i) (hc1 : ¬cond0_1 i) (x0 : Vec Ideal S1x256x1024 .bf16) (x1 : Vec Ideal S1x8192x256 .bf16) (x2 : Vec Ideal S4x128x128 .bf16) (h : Fin 4) (r : Fin 256) (e : Fin 128) :
    out0_A_3 (F := Ideal) c i arg2 harg2 arg3 harg3 arg4 harg4 arg5 harg5 arg6 harg6 arg7 harg7 hc0 hc1 x0 x1 x2 (ix3 0 r ⟨128 * h.val + e.val, by omega⟩) = blockVal (accA i x0 x1) x2 h r e := by
  unfold out0_A_3 kernelRun0_A
  dsimp only
  refine block_read _ _ _ _ _ _ arg7.view _ _ _ arg4.view _ _ _ _ _ _ _ _ rfl rfl rfl (accA i x0 x1) x2 ?_ (harg4.read_unread x2) h r e
  refine (loop4_read _ _ _ _ _ _ _ _ _ _ _ _ _ _ _ _ _ _ _ _ _ _ _ _ _ _ _ _).trans ((loop3_read _ _ _ _ _ _ _ _ _ _ _ _ _ _ _ _ _ _ _ _ _ _ _ _ _ _).trans ?_)
  unfold accA
  refine accFold_congr _ _ ((stacked_read _ _ x0 (harg2.read_unread x0) _ _ _ _ (tileAt x1 0)).1) (harg3.read_unread x1) ?_ ?_
  rotate_left
  · refine (View.read_writes_full _ _ _ _ _).trans (diagA_congr (tile_read arg3 harg3 x1 _ _ _ (off1_eq i)) (diagS_read _ _ x0 (harg2.read_unread x0) _ _ _ _ _ _ (tile_read arg3 harg3 x1 _ _ _ (off1_eq i))) ((readCov_read _ _ _).trans ?_))
    all_goals
      refine (View.read_writes_full _ _ _ _ _).trans (rowMax_congr ((readCov_read _ _ _).trans ((loop2_read _ _ _ _ _ _ _ _ _ _ _ _ _ _ _ _ _ _ _ _ _ _ _ _ _ _ _ _).trans ((loop1_read _ _ _ _ _ _ _ _ _ _ _ _ _ _ _ _ _ _ _ _ _ _ _ _ _ _).trans (maxFold_congr _ _ ((stacked_read _ _ x0 (harg2.read_unread x0) _ _ _ _ (tileAt x1 0)).1) (harg3.read_unread x1) ?_)))))
      exact (View.read_writes_full _ _ _ _ _).trans (diagM_read _ _ x0 (harg2.read_unread x0) _ _ _ _ _ _ (tile_read arg3 harg3 x1 _ _ _ (off1_eq i)))
  · refine (View.read_writes_full _ _ _ _ _).trans (rowMax_congr ((readCov_read _ _ _).trans ((loop2_read _ _ _ _ _ _ _ _ _ _ _ _ _ _ _ _ _ _ _ _ _ _ _ _ _ _ _ _).trans ((loop1_read _ _ _ _ _ _ _ _ _ _ _ _ _ _ _ _ _ _ _ _ _ _ _ _ _ _).trans (maxFold_congr _ _ ((stacked_read _ _ x0 (harg2.read_unread x0) _ _ _ _ (tileAt x1 0)).1) (harg3.read_unread x1) ?_)))))
    exact (View.read_writes_full _ _ _ _ _).trans (diagM_read _ _ x0 (harg2.read_unread x0) _ _ _ _ _ _ (tile_read arg3 harg3 x1 _ _ _ (off1_eq i)))

/-- The block an odd point leaves. -/
theorem outB_point (c : Dev nD) (i : grid0.Coords) (arg2 : Memref sig .tc .vmem S1x256x1024 .bf16) (harg2 : arg2.IsWhole) (arg3 : Memref sig .tc .vmem S1x8192x256 .bf16) (harg3 : arg3.IsWhole) (arg4 : Memref sig .tc .vmem S4x128x128 .bf16) (harg4 : arg4.IsWhole) (arg5 : Memref sig .tc .vmem S1x256x512 .bf16) (harg5 : arg5.IsWhole) (arg6 : Memref sig .tc .vmem S1024x128 .f32) (harg6 : arg6.IsWhole) (arg7 : Memref sig .tc .vmem S1024x256 .f32) (harg7 : arg7.IsWhole) (hc0 : cond0_0 i) (hc1 : cond0_1 i) (hi : ¬(i 1).val = 0) (x0 : Vec Ideal S1x256x1024 .bf16) (x1 : Vec Ideal S1x8192x256 .bf16) (x2 : Vec Ideal S4x128x128 .bf16) (h : Fin 4) (r : Fin 256) (e : Fin 128) :
    out0_B_3 (F := Ideal) c i arg2 harg2 arg3 harg3 arg4 harg4 arg5 harg5 arg6 harg6 arg7 harg7 hc0 hc1 x0 x1 x2 (ix3 0 r ⟨128 * h.val + e.val, by omega⟩) = blockVal (accB i x0 x1) x2 h r e := by
  unfold out0_B_3 kernelRun0_B
  dsimp only
  refine block_read _ _ _ _ _ _ arg7.view _ _ _ arg4.view _ _ _ _ _ _ _ _ rfl rfl rfl (accB i x0 x1) x2 ?_ (harg4.read_unread x2) h r e
  refine (loop4_read _ _ _ _ _ _ _ _ _ _ _ _ _ _ _ _ _ _ _ _ _ _ _ _ _ _ _ _).trans ((loop3_read _ _ _ _ _ _ _ _ _ _ _ _ _ _ _ _ _ _ _ _ _ _ _ _ _ _).trans ?_)
  unfold accB
  refine accFold_congr _ _ ((stacked_read _ _ x0 (harg2.read_unread x0) _ _ _ _ (tileAt x1 0)).1) (harg3.read_unread x1) ?_ ?_
  rotate_left
  · refine (View.read_writes_full _ _ _ _ _).trans (pay19_congr ((stacked_read _ _ x0 (harg2.read_unread x0) _ _ _ _ (tileAt x1 0)).1) (tile_read arg3 harg3 x1 _ _ _ ((off7_eq i).resolve_right hi)) ((readCov_read _ _ _).trans ((View.read_writes_full _ _ _ _ _).trans (diagA_congr (tile_read arg3 harg3 x1 _ _ _ (off1_eq i)) (diagS_read _ _ x0 (harg2.read_unread x0) _ _ _ _ _ _ (tile_read arg3 harg3 x1 _ _ _ (off1_eq i))) ((readCov_read _ _ _).trans ?_)))) ((readCov_read _ _ _).trans ?_))
    all_goals
      refine (View.read_writes_full _ _ _ _ _).trans (rowMax_congr ((readCov_read _ _ _).trans ((loop2_read _ _ _ _ _ _ _ _ _ _ _ _ _ _ _ _ _ _ _ _ _ _ _ _ _ _ _ _).trans ((loop1_read _ _ _ _ _ _ _ _ _ _ _ _ _ _ _ _ _ _ _ _ _ _ _ _ _ _).trans (maxFold_congr _ _ ((stacked_read _ _ x0 (harg2.read_unread x0) _ _ _ _ (tileAt x1 0)).1) (harg3.read_unread x1) ?_)))))
      exact (View.read_writes_full _ _ _ _ _).trans (pay13_congr ((stacked_read _ _ x0 (harg2.read_unread x0) _ _ _ _ (tileAt x1 0)).1) ((readCov_read _ _ _).trans ((View.read_writes_full _ _ _ _ _).trans (diagM_read _ _ x0 (harg2.read_unread x0) _ _ _ _ _ _ (tile_read arg3 harg3 x1 _ _ _ (off1_eq i))))) (tile_read arg3 harg3 x1 _ _ _ ((off2_eq i).resolve_right hi)))
  · refine (View.read_writes_full _ _ _ _ _).trans (rowMax_congr ((readCov_read _ _ _).trans ((loop2_read _ _ _ _ _ _ _ _ _ _ _ _ _ _ _ _ _ _ _ _ _ _ _ _ _ _ _ _).trans ((loop1_read _ _ _ _ _ _ _ _ _ _ _ _ _ _ _ _ _ _ _ _ _ _ _ _ _ _).trans (maxFold_congr _ _ ((stacked_read _ _ x0 (harg2.read_unread x0) _ _ _ _ (tileAt x1 0)).1) (harg3.read_unread x1) ?_)))))
    exact (View.read_writes_full _ _ _ _ _).trans (pay13_congr ((stacked_read _ _ x0 (harg2.read_unread x0) _ _ _ _ (tileAt x1 0)).1) ((readCov_read _ _ _).trans ((View.read_writes_full _ _ _ _ _).trans (diagM_read _ _ x0 (harg2.read_unread x0) _ _ _ _ _ _ (tile_read arg3 harg3 x1 _ _ _ (off1_eq i))))) (tile_read arg3 harg3 x1 _ _ _ ((off2_eq i).resolve_right hi)))

end Cert.KernelIdeal.Hand

end
-- ==== Proof.MlaHost.lean ====
module

public import proofs.«01_k».proof.Proof.MlaOut
public import Idealize.ShloMosaic.Lib.VecWindow
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable (m : (ℓ : Loc nD τ sig) → Buf (Elt Ideal) ℓ)

/-- The block indices of the four windows at every point: sequence `t / 32`, row tile `t % 32`; and the point's second coordinate. -/
theorem idx : ∀ t : Fin cfg0.N, win0_0.index t = ![t.val / 32, t.val % 32, 0] ∧ win0_1.index t = ![t.val / 32, 0, 0]
    ∧ win0_2.index t = ![0, 0, 0] ∧ win0_3.index t = ![t.val / 32, t.val % 32, 0] ∧ (grid0.coords t 1).val = t.val % 32 :=
  (by decide +kernel : ∀ t : Fin grid0.N, _)

/-- Row `r` of the queries' block at point `t` is the row of the array the block lies at. -/
theorem read_0 (c : Dev nD) (t : Fin cfg0.N) (r : Fin 256) (hn : t.val / 32 < 2) (hr : t.val % 32 * 256 + r.val < 8192) (k : Fin 1024) (Y : Buf (Elt Ideal) ((c : Thread nD τ).loc main_v5)) :
    ((cfg0.win 0).blk t).view.read (Elt Ideal) Y (ix3 0 r k) = Y (ix3 ⟨t.val / 32, hn⟩ ⟨t.val % 32 * 256 + r.val, hr⟩ k) := by
  blk_point [idx t]

/-- The cache rows' block is one sequence's rows. -/
theorem read_1 (c : Dev nD) (t : Fin cfg0.N) (r : Fin 8192) (hn : t.val / 32 < 2) (k : Fin 256) (Y : Buf (Elt Ideal) ((c : Thread nD τ).loc main_v9)) :
    ((cfg0.win 1).blk t).view.read (Elt Ideal) Y (ix3 0 r k) = Y (ix3 ⟨t.val / 32, hn⟩ r k) := by
  blk_point [idx t]

/-- The value projection's block is the whole array. -/
theorem read_2 (c : Dev nD) (t : Fin cfg0.N) (h : Fin 4) (x e : Fin 128) (Y : Buf (Elt Ideal) ((c : Thread nD τ).loc main_v12)) :
    ((cfg0.win 2).blk t).view.read (Elt Ideal) Y (ix3 h x e) = Y (ix3 h x e) := by
  blk_point [idx t]

/-- The integer zero the pads convert is the ideal zero. -/
theorem ofInt_zero : FloatOps.sitofp (F := Ideal) FTy.f32 0#32 = (0 : EReal) := by
  show (((0#32 : BitVec 32).toInt : ℝ) : EReal) = 0
  simp

/-- The 256 lanes of a head's query before scaling: the latent part, the rotary part, zeros. -/
def qx (a0 : Vec Ideal S2x8192x4x128 .f32) (a1 : Vec Ideal S2x8192x4x32 .f32) (n : Fin 2) (t : Fin 8192) (h : Fin 4) (l : Fin 256) : EReal :=
  if h0 : l.val < 128 then a0 (ix4 n t h ⟨l.val, h0⟩) else if h1 : l.val < 160 then a1 (ix4 n t h ⟨l.val - 128, by omega⟩) else 0

/-- The 256 lanes of a cache row: the row, zeros, and a one in the last lane. -/
def rowx (a2 : Vec Ideal S2x8192x160 .f32) (n : Fin 2) (t : Fin 8192) (l : Fin 256) : EReal :=
  if h0 : l.val < 160 then a2 (ix3 n t ⟨l.val, h0⟩) else if l.val < 255 then 0 else 1

/-- The padded value projection: the projection in the upper half of the lanes, zero in the lower half. -/
def uvx (a3 : Vec Ideal S128x4x64 .f32) (h : Fin 4) (x e : Fin 128) : EReal :=
  if 64 ≤ e.val then a3 (ix3 x h ⟨e.val - 64, by omega⟩) else 0

/-- A latent lane of a head's query, as the host's concatenation writes it. -/
theorem qx_lo (a0 : Vec Ideal S2x8192x4x128 .f32) (a1 : Vec Ideal S2x8192x4x32 .f32) (n : Fin 2) (t : Fin 8192) (h : Fin 4) (l : Fin 256) (s : EReal) (h0 : l.val < 128) :
    HMul.hMul (α := EReal) (β := EReal) (γ := EReal) (a0 (ix4 n t h ⟨l.val, h0⟩)) s = HMul.hMul (α := EReal) (β := EReal) (γ := EReal) (qx a0 a1 n t h l) s := by
  unfold qx; rw [dif_pos h0]

/-- A rotary or zero lane of a head's query, as the host's pad writes it. -/
theorem qx_hi (a0 : Vec Ideal S2x8192x4x128 .f32) (a1 : Vec Ideal S2x8192x4x32 .f32) (n : Fin 2) (t : Fin 8192) (h : Fin 4) (l : Fin 256) (s : EReal) (h0 : ¬l.val < 128) :
    HMul.hMul (α := EReal) (β := EReal) (γ := EReal) (if h1 : h.val < 4 ∧ l.val - 128 < 32 then a1 (ix4 n t h ⟨l.val - 128, h1.2⟩) else FloatOps.sitofp (F := Ideal) FTy.f32 0#32) s
      = HMul.hMul (α := EReal) (β := EReal) (γ := EReal) (qx a0 a1 n t h l) s := by
  refine congrArg (fun x : EReal => HMul.hMul (α := EReal) (β := EReal) (γ := EReal) x s) ?_
  unfold qx
  rw [dif_neg h0]
  by_cases h1 : l.val < 160
  · rw [dif_pos h1, dif_pos ⟨h.isLt, by omega⟩]
  · rw [dif_neg h1, dif_neg (fun hh => h1 (by omega))]; exact ofInt_zero

/-- The scaled queries as the region finds them. -/
theorem V_v5 (c : Dev nD) (n : Fin 2) (t : Fin 8192) (k : Fin 1024) : V (F := Ideal) m c main_v5 (ix3 n t k)
    = HMul.hMul (α := EReal) (β := EReal) (γ := EReal) (qx (m ((c : Thread nD τ).loc main_arg0)) (m ((c : Thread nD τ).loc main_arg1)) n t ⟨k.val / 256, by omega⟩ ⟨k.val % 256, by omega⟩) (Ideal.ofBits FTy.f32 0x3DD105EC#32) := by
  have hk := k.isLt
  entry_read
  simp only [hostOps0, hostOps0_1, hostOps0_2, hostOps0_3, hostOps0_4, List.flatten_cons, List.flatten_nil, List.cons_append, List.nil_append, List.append_nil]
  after_reads_at
  split_ifs
  all_goals after_reads_at
  · exact qx_lo _ _ n t ⟨k.val / 256, by omega⟩ ⟨k.val % 256, by omega⟩ _ (by assumption)
  all_goals exact qx_hi (m ((c : Thread nD τ).loc main_arg0)) (m ((c : Thread nD τ).loc main_arg1)) n t ⟨k.val / 256, by omega⟩ ⟨k.val % 256, by omega⟩ _ (by assumption)

/-- The extended cache rows as the region finds them. -/
theorem V_v9 (c : Dev nD) (n : Fin 2) (t : Fin 8192) (k : Fin 256) : V (F := Ideal) m c main_v9 (ix3 n t k) = rowx (m ((c : Thread nD τ).loc main_arg2)) n t k := by
  have hk := k.isLt
  entry_read
  simp only [hostOps0, hostOps0_1, hostOps0_2, hostOps0_3, hostOps0_4, List.flatten_cons, List.flatten_nil, List.cons_append, List.nil_append, List.append_nil]
  after_reads_at
  split_ifs
  all_goals after_reads_at
  all_goals unfold rowx
  all_goals split_ifs
  all_goals first
    | rfl
    | (exfalso; omega)
    | (rename_i hh _; exact absurd hh (by decide))
    | (rename_i hh; exact absurd hh (by decide))

/-- The padded value projection as the region finds it. -/
theorem V_v12 (c : Dev nD) (h : Fin 4) (x e : Fin 128) : V (F := Ideal) m c main_v12 (ix3 h x e) = uvx (m ((c : Thread nD τ).loc main_arg3)) h x e := by
  have he := e.isLt
  entry_read
  simp only [hostOps0, hostOps0_1, hostOps0_2, hostOps0_3, hostOps0_4, List.flatten_cons, List.flatten_nil, List.cons_append, List.nil_append, List.append_nil]
  after_reads_at
  unfold uvx
  split_ifs
  all_goals first
    | rfl
    | (exfalso; omega)
    | exact ofInt_zero

/-- A lane of a head's query block: the array's row, scaled. -/
theorem blk_0 (c : Dev nD) (t : Fin cfg0.N) (r : Fin 256) (hn : t.val / 32 < 2) (hr : t.val % 32 * 256 + r.val < 8192) (h : Fin 4) (l : Fin 256) (hb : 256 * h.val + l.val < 1024) :
    iblk m c 0 t (ix3 0 r ⟨256 * h.val + l.val, hb⟩)
      = HMul.hMul (α := EReal) (β := EReal) (γ := EReal) (qx (m ((c : Thread nD τ).loc main_arg0)) (m ((c : Thread nD τ).loc main_arg1)) ⟨t.val / 32, hn⟩ ⟨t.val % 32 * 256 + r.val, hr⟩ h l) (Ideal.ofBits FTy.f32 0x3DD105EC#32) := by
  unfold iblk
  refine (read_0 c t r hn hr _ (V m c main_v5)).trans ((V_v5 m c _ _ _).trans ?_)
  have e1 : (⟨(256 * h.val + l.val) / 256, by omega⟩ : Fin 4) = h := Fin.ext (by show (256 * h.val + l.val) / 256 = h.val; omega)
  have e2 : (⟨(256 * h.val + l.val) % 256, by omega⟩ : Fin 256) = l := Fin.ext (by show (256 * h.val + l.val) % 256 = l.val; omega)
  exact congrArg₂ (fun a b => HMul.hMul (α := EReal) (β := EReal) (γ := EReal) (qx (m ((c : Thread nD τ).loc main_arg0)) (m ((c : Thread nD τ).loc main_arg1)) ⟨t.val / 32, hn⟩ ⟨t.val % 32 * 256 + r.val, hr⟩ a b) (Ideal.ofBits FTy.f32 0x3DD105EC#32)) e1 e2

/-- A lane of the cache rows' block. -/
theorem blk_1 (c : Dev nD) (t : Fin cfg0.N) (r : Fin 8192) (hn : t.val / 32 < 2) (l : Fin 256) :
    iblk m c 1 t (ix3 0 r l) = rowx (m ((c : Thread nD τ).loc main_arg2)) ⟨t.val / 32, hn⟩ r l := by
  unfold iblk
  exact (read_1 c t r hn l (V m c main_v9)).trans (V_v9 m c _ _ _)

/-- A lane of the value projection's block. -/
theorem blk_2 (c : Dev nD) (t : Fin cfg0.N) (h : Fin 4) (x e : Fin 128) :
    iblk m c 2 t (ix3 h x e) = uvx (m ((c : Thread nD τ).loc main_arg3)) h x e := by
  unfold iblk
  exact (read_2 c t h x e (V m c main_v12)).trans (V_v12 m c _ _ _)

/-- The block the region leaves at a point, from the accumulator of an even or an odd block. -/
theorem outs_point (c : Dev nD) (t : Fin cfg0.N) (h : Fin 4) (r : Fin 256) (e : Fin 128) (hb : 128 * h.val + e.val < 512) :
    outsAt0 m c t.val t.isLt (ix3 0 r ⟨128 * h.val + e.val, hb⟩)
      = blockVal (if t.val % 2 = 1 then accB (grid0.coords t) (iblk m c 0 t) (iblk m c 1 t) else accA (grid0.coords t) (iblk m c 0 t) (iblk m c 1 t)) (iblk m c 2 t) h r e := by
  by_cases h0 : t.val % 2 = 1
  · rw [if_pos h0, outsAt0_B m c t h0 h0]
    refine outB_point c _ _ _ _ _ _ _ _ _ _ _ _ _ _ _ ?_ _ _ _ h r e
    have := (idx t).2.2.2.2
    omega
  · rw [if_neg h0, outsAt0_A m c t h0 h0]
    exact outA_point c _ _ _ _ _ _ _ _ _ _ _ _ _ _ _ _ _ _ h r e

end Cert.KernelIdeal.Hand

end
-- ==== Proof.MlaFold.lean ====
module

public import proofs.«01_k».proof.Proof.MlaOut
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

/-- Lane `k` of cache row `p`. -/
def rowAt (X : Vec Ideal S1x8192x256 .bf16) (k : Fin 256) (p : ℕ) : EReal := X (ix3 0 ⟨p % 8192, Nat.mod_lt _ (by norm_num)⟩ k)

/-- The score of stacked query row `R` against cache row `p`. -/
def sc (Q : FVec Ideal S1024x256 .bf16) (X : Vec Ideal S1x8192x256 .bf16) (R : Fin 1024) (p : ℕ) : EReal :=
  Finset.sum (M := EReal) Finset.univ fun k : Fin 256 => HMul.hMul (α := EReal) (β := EReal) (γ := EReal) (Q (ix2 R k)) (rowAt X k p)

/-- What cache row `p` adds to lane `k` of the accumulator, with row maximum `M`. -/
def term (Q : FVec Ideal S1024x256 .bf16) (X : Vec Ideal S1x8192x256 .bf16) (R : Fin 1024) (M : EReal) (k : Fin 256) (p : ℕ) : EReal :=
  Ideal.exp (sc Q X R p - M) * rowAt X k p

/-- A tile's score is the score of the row it holds. -/
theorem score_tile (Q : FVec Ideal S1024x256 .bf16) (X : Vec Ideal S1x8192x256 .bf16) (R : Fin 1024) (o : ℕ) (c : Fin 256) : score Q (tileAt X o) R c = sc Q X R (256 * o + c.val) := rfl

/-- A tile's weights add the terms of its 256 rows. -/
theorem weighed_tile (Q : FVec Ideal S1024x256 .bf16) (X : Vec Ideal S1x8192x256 .bf16) (R : Fin 1024) (M : EReal) (m : Fin 128 → EReal) (hm : ∀ l, m l = M) (o : ℕ) (k : Fin 256) :
    weighed (score Q (tileAt X o) R) m (tileAt X o) k = ∑ p ∈ Finset.Ico (256 * o) (256 * (o + 1)), term Q X R M k p := by
  obtain rfl : m = fun _ => M := funext hm
  rw [Finset.sum_Ico_eq_sum_range, show 256 * (o + 1) - 256 * o = 256 by omega, Finset.sum_range]
  rfl

/-- What the accumulator's pair loop has added after `k` trips: the terms of the rows from tile `n - 2k` up to tile `n`. -/
theorem accFold_point (Q : FVec Ideal S1024x256 .bf16) (X : Vec Ideal S1x8192x256 .bf16) (m : Vec Ideal S1024x128 .f32) (n : ℕ) (a : Vec Ideal S1024x256 .f32) (R : Fin 1024) (M : EReal) (hm : ∀ l, m (ix2 R l) = M) (c : Fin 256) :
    ∀ k, 2 * k ≤ n → accFold Q X m n a k (ix2 R c) = HAdd.hAdd (α := EReal) (β := EReal) (γ := EReal) (a (ix2 R c)) (∑ p ∈ Finset.Ico (256 * (n - 2 * k)) (256 * n), term Q X R M c p)
  | 0, _ => by
    rw [Nat.mul_zero, Nat.sub_zero, Finset.Ico_self, Finset.sum_empty]
    exact (add_zero (M := EReal) _).symm
  | k + 1, h => by
    show accStep Q X m n k (accFold Q X m n a k) (ix2 R c) = _
    unfold accStep
    rw [pay20_point, pay7_point, accFold_point Q X m n a R M hm c k (by omega), weighed_tile Q X R M _ hm, weighed_tile Q X R M _ hm]
    rw [← Finset.sum_Ico_consecutive _ (show 256 * (n - 2 * (k + 1)) ≤ 256 * (n - 2 - 2 * k + 1) by omega) (show 256 * (n - 2 - 2 * k + 1) ≤ 256 * n by omega),
      ← Finset.sum_Ico_consecutive _ (show 256 * (n - 2 - 2 * k + 1) ≤ 256 * (n - 1 - 2 * k + 1) by omega) (show 256 * (n - 1 - 2 * k + 1) ≤ 256 * n by omega)]
    rw [show n - 2 * (k + 1) = n - 2 - 2 * k by omega, show n - 2 * k = n - 1 - 2 * k + 1 by omega, show n - 2 - 2 * k + 1 = n - 1 - 2 * k by omega]
    generalize (∑ p ∈ Finset.Ico (256 * (n - 2 - 2 * k)) (256 * (n - 1 - 2 * k)), term Q X R M c p) = u
    generalize (∑ p ∈ Finset.Ico (256 * (n - 1 - 2 * k)) (256 * (n - 1 - 2 * k + 1)), term Q X R M c p) = v
    generalize (∑ p ∈ Finset.Ico (256 * (n - 1 - 2 * k + 1)) (256 * n), term Q X R M c p) = w
    show (((a (ix2 R c) : EReal) + w) + v) + u = a (ix2 R c) + (u + (v + w))
    rw [add_assoc, add_assoc, add_comm v u, add_left_comm w u v, add_comm w v]

/-- What the maximum's pair loop bounds after `k` trips: where it started and the scores of the tiles from `n - 2k` up to `n`. -/
theorem maxFold_le (Q : FVec Ideal S1024x256 .bf16) (X : Vec Ideal S1x8192x256 .bf16) (n : ℕ) (m : Vec Ideal S1024x128 .f32) (R : Fin 1024) (l : Fin 128) (x : EReal) :
    ∀ k, 2 * k ≤ n → (LE.le (α := EReal) (maxFold Q X n m k (ix2 R l)) x ↔ LE.le (α := EReal) (m (ix2 R l)) x ∧ ∀ j, n - 2 * k ≤ j → j < n → sc Q X R (256 * j + l.val) ≤ x ∧ sc Q X R (256 * j + (128 + l.val)) ≤ x)
  | 0, _ => by
    show LE.le (α := EReal) (m (ix2 R l)) x ↔ _
    exact ⟨fun h => ⟨h, fun j h1 h2 => by omega⟩, fun h => h.1⟩
  | k + 1, h => by
    show LE.le (α := EReal) (maxStep Q X n k (maxFold Q X n m k) (ix2 R l)) x ↔ _
    unfold maxStep
    rw [pay14_point, pay3_point, max_le_iff, max_le_iff, max_le_iff, max_le_iff, maxFold_le Q X n m R l x k (by omega), score_tile, score_tile, score_tile, score_tile]
    show ((_ ∧ _) ∧ sc Q X R (256 * (n - 1 - 2 * k) + l.val) ≤ x ∧ sc Q X R (256 * (n - 1 - 2 * k) + (128 + l.val)) ≤ x) ∧ sc Q X R (256 * (n - 2 - 2 * k) + l.val) ≤ x ∧ sc Q X R (256 * (n - 2 - 2 * k) + (128 + l.val)) ≤ x ↔ _
    constructor
    · rintro ⟨⟨⟨h0, h1⟩, h2⟩, h3⟩
      refine ⟨h0, fun j h4 h5 => ?_⟩
      rcases (by omega : j = n - 2 - 2 * k ∨ j = n - 1 - 2 * k ∨ n - 2 * k ≤ j) with e | e | e
      · subst e; exact h3
      · subst e; exact h2
      · exact h1 j e h5
    · rintro ⟨h0, h1⟩
      exact ⟨⟨⟨h0, fun j h4 h5 => h1 j (by omega) h5⟩, h1 _ (by omega) (by omega)⟩, h1 _ (by omega) (by omega)⟩

/-- The masked score of the diagonal tile. -/
theorem diagS_point (x0 : Vec Ideal S1x256x1024 .bf16) (X : Vec Ideal S1x8192x256 .bf16) (o : ℕ) (R : Fin 1024) (c : Fin 256) :
    diagS x0 (tileAt X o) (ix2 R c) = if c.val ≤ R.val % 256 then sc (stacked x0) X R (256 * o + c.val) else (⊥ : EReal) :=
  pay11_point _ _ _ _ _ R c

/-- A bound of a masked score. -/
theorem diagS_le (x0 : Vec Ideal S1x256x1024 .bf16) (X : Vec Ideal S1x8192x256 .bf16) (o : ℕ) (R : Fin 1024) (c : Fin 256) (x : EReal) :
    LE.le (α := EReal) (diagS x0 (tileAt X o) (ix2 R c)) x ↔ (c.val ≤ R.val % 256 → sc (stacked x0) X R (256 * o + c.val) ≤ x) := by
  rw [diagS_point]
  by_cases h : c.val ≤ R.val % 256
  · rw [if_pos h]; exact ⟨fun h1 _ => h1, fun h1 => h1 h⟩
  · rw [if_neg h]; exact ⟨fun _ h1 => absurd h1 h, fun _ => bot_le⟩

/-- A bound of the maximum the diagonal tile starts. -/
theorem diagM_le (x0 : Vec Ideal S1x256x1024 .bf16) (X : Vec Ideal S1x8192x256 .bf16) (o : ℕ) (R : Fin 1024) (l : Fin 128) (x : EReal) :
    LE.le (α := EReal) (diagM x0 (tileAt X o) (ix2 R l)) x ↔ (l.val ≤ R.val % 256 → sc (stacked x0) X R (256 * o + l.val) ≤ x) ∧ (128 + l.val ≤ R.val % 256 → sc (stacked x0) X R (256 * o + (128 + l.val)) ≤ x) := by
  unfold diagM
  rw [pay12_point, max_le_iff]
  exact and_congr (diagS_le x0 X o R (lo l) x) (diagS_le x0 X o R (hi l) x)

/-- The replicated row maximum is bounded exactly when every lane is. -/
theorem rowMax_le (m : Vec Ideal S1024x128 .f32) (R : Fin 1024) (l : Fin 128) (x : EReal) : LE.le (α := EReal) (rowMax m (ix2 R l)) x ↔ ∀ l' : Fin 128, LE.le (α := EReal) (m (ix2 R l')) x := by
  unfold rowMax
  rw [pay16_point, Finset.fold_max_le]
  have hb : Ideal.ofBits FTy.f32 0xFF800000#32 = (⊥ : EReal) := by simp [Ideal.ofBits, Ideal.ieee]
  rw [hb]
  exact ⟨fun h l' => h.2 l' (Finset.mem_univ _), fun h => ⟨bot_le, fun l' _ => h l'⟩⟩

/-- The row maximum at an even block: the greatest score of the rows up to the diagonal. -/
theorem maxA_le (i : grid0.Coords) (hi : (i 1).val % 2 = 0) (x0 : Vec Ideal S1x256x1024 .bf16) (x1 : Vec Ideal S1x8192x256 .bf16) (R : Fin 1024) (l : Fin 128) (x : EReal) :
    LE.le (α := EReal) (maxA i x0 x1 (ix2 R l)) x ↔ ∀ p, p ≤ 256 * (i 1).val + R.val % 256 → sc (stacked x0) x1 R p ≤ x := by
  unfold maxA
  rw [rowMax_le]
  have hn : even i = (i 1).val := by unfold even; omega
  rw [hn]
  constructor
  · intro h p hp
    by_cases h1 : p % 256 < 128
    · have h2 := (maxFold_le _ _ _ _ R ⟨p % 256, h1⟩ x _ (by omega)).1 (h ⟨p % 256, h1⟩)
      rw [diagM_le] at h2
      by_cases h3 : p / 256 < (i 1).val
      · have h4 := (h2.2 (p / 256) (by omega) h3).1
        rwa [show 256 * (p / 256) + p % 256 = p by omega] at h4
      · have h4 := h2.1.1 (by show p % 256 ≤ _; omega)
        rwa [show 256 * (i 1).val + p % 256 = p by omega] at h4
    · have h2 := (maxFold_le _ _ _ _ R ⟨p % 256 - 128, by omega⟩ x _ (by omega)).1 (h ⟨p % 256 - 128, by omega⟩)
      rw [diagM_le] at h2
      by_cases h3 : p / 256 < (i 1).val
      · have h4 := (h2.2 (p / 256) (by omega) h3).2
        rwa [show 256 * (p / 256) + (128 + (p % 256 - 128)) = p by omega] at h4
      · have h4 := h2.1.2 (by show 128 + (p % 256 - 128) ≤ _; omega)
        rwa [show 256 * (i 1).val + (128 + (p % 256 - 128)) = p by omega] at h4
  · intro h l'
    have hl := l'.isLt
    refine (maxFold_le _ _ _ _ R l' x _ (by omega)).2 ⟨(diagM_le _ _ _ _ _ _).2 ⟨fun h1 => h _ (by omega), fun h1 => h _ (by omega)⟩, fun j h1 h2 => ⟨h _ (by omega), h _ (by omega)⟩⟩

/-- A bound of the maximum after the odd tile. -/
theorem startB_le (x0 : Vec Ideal S1x256x1024 .bf16) (X : Vec Ideal S1x8192x256 .bf16) (o o' : ℕ) (R : Fin 1024) (l : Fin 128) (x : EReal) :
    LE.le (α := EReal) (k0_pay13 (F := Ideal) (stacked x0) (diagM x0 (tileAt X o)) (tileAt X o') (ix2 R l)) x
      ↔ ((l.val ≤ R.val % 256 → sc (stacked x0) X R (256 * o + l.val) ≤ x) ∧ (128 + l.val ≤ R.val % 256 → sc (stacked x0) X R (256 * o + (128 + l.val)) ≤ x))
        ∧ sc (stacked x0) X R (256 * o' + l.val) ≤ x ∧ sc (stacked x0) X R (256 * o' + (128 + l.val)) ≤ x := by
  rw [pay13_point, max_le_iff, max_le_iff, diagM_le, score_tile, score_tile]
  rfl

/-- The row maximum at an odd block: the greatest score of the rows up to the diagonal. -/
theorem maxB_le (i : grid0.Coords) (hi : (i 1).val % 2 = 1) (x0 : Vec Ideal S1x256x1024 .bf16) (x1 : Vec Ideal S1x8192x256 .bf16) (R : Fin 1024) (l : Fin 128) (x : EReal) :
    LE.le (α := EReal) (maxB i x0 x1 (ix2 R l)) x ↔ ∀ p, p ≤ 256 * (i 1).val + R.val % 256 → sc (stacked x0) x1 R p ≤ x := by
  unfold maxB
  rw [rowMax_le]
  have hn : even i = (i 1).val - 1 := by unfold even; omega
  rw [hn]
  constructor
  · intro h p hp
    by_cases h1 : p % 256 < 128
    · have h2 := (maxFold_le _ _ _ _ R ⟨p % 256, h1⟩ x _ (by omega)).1 (h ⟨p % 256, h1⟩)
      rw [startB_le] at h2
      by_cases h3 : p / 256 < (i 1).val - 1
      · have h4 := (h2.2 (p / 256) (by omega) h3).1
        rwa [show 256 * (p / 256) + p % 256 = p by omega] at h4
      · by_cases h5 : p / 256 = (i 1).val - 1
        · have h4 := h2.1.2.1
          rwa [show 256 * ((i 1).val - 1) + p % 256 = p by omega] at h4
        · have h4 := h2.1.1.1 (by show p % 256 ≤ _; omega)
          rwa [show 256 * (i 1).val + p % 256 = p by omega] at h4
    · have h2 := (maxFold_le _ _ _ _ R ⟨p % 256 - 128, by omega⟩ x _ (by omega)).1 (h ⟨p % 256 - 128, by omega⟩)
      rw [startB_le] at h2
      by_cases h3 : p / 256 < (i 1).val - 1
      · have h4 := (h2.2 (p / 256) (by omega) h3).2
        rwa [show 256 * (p / 256) + (128 + (p % 256 - 128)) = p by omega] at h4
      · by_cases h5 : p / 256 = (i 1).val - 1
        · have h4 := h2.1.2.2
          rwa [show 256 * ((i 1).val - 1) + (128 + (p % 256 - 128)) = p by omega] at h4
        · have h4 := h2.1.1.2 (by show 128 + (p % 256 - 128) ≤ _; omega)
          rwa [show 256 * (i 1).val + (128 + (p % 256 - 128)) = p by omega] at h4
  · intro h l'
    have hl := l'.isLt
    refine (maxFold_le _ _ _ _ R l' x _ (by omega)).2 ⟨(startB_le _ _ _ _ _ _ _).2 ⟨⟨fun h1 => h _ (by omega), fun h1 => h _ (by omega)⟩, h _ (by omega), h _ (by omega)⟩, fun j h1 h2 => ⟨h _ (by omega), h _ (by omega)⟩⟩

/-- Negative infinity less anything is negative infinity, and its exponential is zero. -/
theorem exp_bot_sub (M : EReal) : Ideal.exp ((⊥ : EReal) - M) = 0 := by
  rw [EReal.bot_sub]; exact Ideal.exp_bot

/-- The accumulator the diagonal tile starts: the terms of its rows up to the diagonal. -/
theorem diagA_point (x0 : Vec Ideal S1x256x1024 .bf16) (X : Vec Ideal S1x8192x256 .bf16) (o : ℕ) (m : Vec Ideal S1024x128 .f32) (R : Fin 1024) (M : EReal) (hm : ∀ l, m (ix2 R l) = M) (k : Fin 256) :
    diagA x0 (tileAt X o) m (ix2 R k) = ∑ p ∈ Finset.Ico (256 * o) (256 * o + R.val % 256 + 1), term (stacked x0) X R M k p := by
  unfold diagA
  rw [pay18_point]
  have e : (fun l : Fin 128 => m (ix2 R l)) = fun _ => M := funext hm
  rw [e]
  unfold weighed
  have h1 : ∀ c : Fin 256, HMul.hMul (α := EReal) (β := EReal) (γ := EReal) (Ideal.exp (HSub.hSub (α := EReal) (β := EReal) (γ := EReal) (diagS x0 (tileAt X o) (ix2 R c)) M)) (tileAt X o (ix3 0 c k))
      = if c.val ≤ R.val % 256 then term (stacked x0) X R M k (256 * o + c.val) else 0 := fun c => by
    rw [diagS_point]
    by_cases h : c.val ≤ R.val % 256
    · rw [if_pos h, if_pos h]; rfl
    · rw [if_neg h, if_neg h, exp_bot_sub]; exact zero_mul _
  rw [Finset.sum_congr rfl fun c _ => h1 c, Finset.sum_Ico_eq_sum_range, show 256 * o + R.val % 256 + 1 - 256 * o = R.val % 256 + 1 by omega]
  rw [← Finset.sum_range (fun q => if q ≤ R.val % 256 then term (stacked x0) X R M k (256 * o + q) else 0)]
  rw [← Finset.sum_filter]
  refine Finset.sum_congr ?_ fun _ _ => rfl
  ext q
  rw [Finset.mem_filter, Finset.mem_range, Finset.mem_range]
  omega

/-- The accumulator at an even block: the terms of the rows up to the diagonal. -/
theorem accA_point (i : grid0.Coords) (hi : (i 1).val % 2 = 0) (x0 : Vec Ideal S1x256x1024 .bf16) (x1 : Vec Ideal S1x8192x256 .bf16) (R : Fin 1024) (M : EReal) (hm : ∀ l, maxA i x0 x1 (ix2 R l) = M) (k : Fin 256) :
    accA i x0 x1 (ix2 R k) = ∑ p ∈ Finset.range (256 * (i 1).val + R.val % 256 + 1), term (stacked x0) x1 R M k p := by
  unfold accA
  have hn : even i = (i 1).val := by unfold even; omega
  rw [hn, accFold_point _ _ _ _ _ R M hm k _ (by omega), diagA_point x0 x1 _ _ R M hm k, show 256 * ((i 1).val - 2 * ((i 1).val / 2)) = 0 by omega,
    add_comm, Finset.sum_Ico_consecutive _ (by omega) (by omega), Finset.range_eq_Ico]

/-- The accumulator at an odd block: the terms of the rows up to the diagonal. -/
theorem accB_point (i : grid0.Coords) (hi : (i 1).val % 2 = 1) (x0 : Vec Ideal S1x256x1024 .bf16) (x1 : Vec Ideal S1x8192x256 .bf16) (R : Fin 1024) (M : EReal) (hm : ∀ l, maxB i x0 x1 (ix2 R l) = M) (k : Fin 256) :
    accB i x0 x1 (ix2 R k) = ∑ p ∈ Finset.range (256 * (i 1).val + R.val % 256 + 1), term (stacked x0) x1 R M k p := by
  unfold accB
  have hn : even i = (i 1).val - 1 := by unfold even; omega
  rw [hn, accFold_point _ _ _ _ _ R M hm k _ (by omega), pay19_point, weighed_tile _ _ R M _ hm, diagA_point x0 x1 _ _ R M hm k, show 256 * ((i 1).val - 1 - 2 * (((i 1).val - 1) / 2)) = 0 by omega,
    show (i 1).val - 1 + 1 = (i 1).val by omega, add_comm (∑ p ∈ Finset.Ico (256 * (i 1).val) (256 * (i 1).val + R.val % 256 + 1), term (stacked x0) x1 R M k p),
    Finset.sum_Ico_consecutive _ (by omega) (by omega), add_comm, Finset.sum_Ico_consecutive _ (by omega) (by omega), Finset.range_eq_Ico]

end Cert.KernelIdeal.Hand

end
-- ==== Proof.MlaRef.lean ====
module

public import proofs.«01_k».proof.Proof.Gen.ReferenceIdeal
public import proofs.«01_k».proof.Proof.Gen.ReferenceIdeal.Read
public import Idealize.ShloMosaic.Lib.Pointwise
public import Idealize.ShloMosaic.Lib.WordCmp
public import Idealize.ShloMosaic.Lib.Claim

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen Cert.ReferenceIdeal.Read

variable (a0 : FVec Ideal S2x8192x4x128 .f32) (a1 : FVec Ideal S2x8192x4x32 .f32) (a2 : FVec Ideal S2x8192x160 .f32) (a3 : FVec Ideal S128x4x64 .f32)

/-- The reference's scaled score of query `t` of head `h` against cache row `s`. -/
def rs (n : Fin 2) (t : Fin 8192) (h : Fin 4) (s : Fin 8192) : EReal :=
  ((∑ x : Fin 128, a0 (ix4 n t h x) * a2 (ix3 n s ⟨x.val, by omega⟩) : EReal) + (∑ x : Fin 32, a1 (ix4 n t h x) * a2 (ix3 n s ⟨128 + x.val, by omega⟩) : EReal)) * Ideal.ofBits FTy.f32 0x3DD105EC#32

/-- The word for negative infinity. -/
theorem ofBits_ninf : Ideal.ofBits FTy.f32 0xFF800000#32 = (⊥ : EReal) := by simp [Ideal.ofBits, Ideal.ieee]

/-- The word for infinity. -/
theorem ofBits_inf : Ideal.ofBits FTy.f32 0x7F800000#32 = (⊤ : EReal) := by simp [Ideal.ofBits, Ideal.ieee]

/-- A selection by a decided condition. -/
theorem select_ofBool (p : Prop) [Decidable p] (a b : EReal) : Scalar.select (BitVec.ofBool (decide p)) a b = if p then a else b := by
  by_cases h : p
  · rw [if_pos h, decide_eq_true h]; rfl
  · rw [if_neg h, decide_eq_false h]; rfl

/-- The causal mask. -/
theorem v13_point (t s : Fin 8192) : val_main_v13 (F := Ideal) (ix3 t 0 s) = BitVec.ofBool (decide (s.val ≤ t.val)) := by
  pointwise [val_main_v13, val_main_v12, val_main_v11, val_main_v10, val_main_v9, val_main_v8, val_main_v2]
  exact WordCmp.cmpi_sle_ofNat (by have := s.isLt; omega) (by have := t.isLt; omega)

/-- The scaled scores. -/
theorem v7_point (n : Fin 2) (t : Fin 8192) (h : Fin 4) (s : Fin 8192) : val_main_v7 (F := Ideal) a0 a1 a2 (ix4 n t h s) = rs a0 a1 a2 n t h s := by
  pointwise [val_main_v7, val_main_v6, val_main_cst, val_main_v5, val_main_v4, val_main_v3, val_main_v1, val_main_v0]
  rfl

/-- The masked scores. -/
theorem v14_point (n : Fin 2) (t : Fin 8192) (h : Fin 4) (s : Fin 8192) : val_main_v14 (F := Ideal) a0 a1 a2 (ix4 n t h s) = if s.val ≤ t.val then rs a0 a1 a2 n t h s else (⊥ : EReal) := by
  have e : idx_main_call0_v1 (ix4 n t h s) = ix3 t 0 s := by funext a; fin_cases a <;> rfl
  rw [val_main_v14_apply, val_main_call0_v1_apply, e, v13_point, v7_point, val_main_call0_v2_apply, val_main_call0_v0_apply, val_main_cst_0_apply]
  exact (select_ofBool _ _ _).trans (congrArg (fun b : EReal => if s.val ≤ t.val then rs a0 a1 a2 n t h s else b) ofBits_ninf)

/-- The row maximum is bounded exactly when every score up to the diagonal is. -/
theorem v15_le (n : Fin 2) (t : Fin 8192) (h : Fin 4) (x : EReal) : LE.le (α := EReal) (val_main_v15 (F := Ideal) a0 a1 a2 (ix3 n t h)) x ↔ ∀ s : Fin 8192, s.val ≤ t.val → rs a0 a1 a2 n t h s ≤ x := by
  have e : val_main_v15 (F := Ideal) a0 a1 a2 (ix3 n t h) = Finset.fold (max (α := EReal)) (Ideal.ofBits FTy.f32 0xFF800000#32) (fun s : Fin 8192 => val_main_v14 (F := Ideal) a0 a1 a2 (ix4 n t h s)) Finset.univ := by
    pointwise [val_main_v15, val_main_cst_1]
  rw [e, Finset.fold_max_le, ofBits_ninf]
  constructor
  · intro hh s hs
    have h1 := hh.2 s (Finset.mem_univ _)
    rwa [v14_point, if_pos hs] at h1
  · intro hh
    refine ⟨bot_le, fun s _ => ?_⟩
    rw [v14_point]
    by_cases hs : s.val ≤ t.val
    · rw [if_pos hs]; exact hh s hs
    · rw [if_neg hs]; exact bot_le

/-- The maximum a row's scores are lowered by: zero where it is infinite. -/
def fin (M : EReal) : EReal := if (⊥ : EReal) < M ∧ M < (⊤ : EReal) then M else 0

/-- The bit of a conjunction selects where both conditions hold. -/
theorem select_and (p q : Prop) [Decidable p] [Decidable q] (a b : EReal) : Scalar.select (BitVec.ofBool (decide p) &&& BitVec.ofBool (decide q)) a b = if p ∧ q then a else b := by
  by_cases hp : p
  · by_cases hq : q
    · rw [decide_eq_true hp, decide_eq_true hq, if_pos ⟨hp, hq⟩]; rfl
    · rw [decide_eq_true hp, decide_eq_false hq, if_neg fun h => hq h.2]; rfl
  · by_cases hq : q
    · rw [decide_eq_false hp, decide_eq_true hq, if_neg fun h => hp h.1]; rfl
    · rw [decide_eq_false hp, decide_eq_false hq, if_neg fun h => hp h.1]; rfl

/-- The row maximum where it is finite, zero elsewhere. -/
theorem v23_point (n : Fin 2) (t : Fin 8192) (h : Fin 4) (s : Fin 8192) : val_main_v23 (F := Ideal) a0 a1 a2 (ix4 n t h s) = fin (val_main_v15 (F := Ideal) a0 a1 a2 (ix3 n t h)) := by
  have e : idx_main_v16 (idx_main_v23 (ix4 n t h s)) = ix3 n t h := by funext a; fin_cases a <;> rfl
  rw [val_main_v23_apply, val_main_v22_apply, val_main_v21_apply, val_main_v20_apply, val_main_v18_apply, val_main_v16_apply, e, val_main_v17_apply, val_main_v19_apply, val_main_cst_2_apply, val_main_cst_3_apply, val_main_call1_v1_apply, val_main_call1_v0_apply, val_main_cst_4_apply]
  generalize val_main_v15 (F := Ideal) a0 a1 a2 (ix3 n t h) = M
  refine (select_and (Ideal.ofBits FTy.f32 0xFF800000#32 < (M : EReal)) ((M : EReal) < Ideal.ofBits FTy.f32 0x7F800000#32) _ _).trans ?_
  unfold fin
  rw [ofBits_ninf, ofBits_inf]
  exact congrArg (fun b : EReal => if (⊥ : EReal) < M ∧ (M : EReal) < (⊤ : EReal) then (M : EReal) else b) Ideal.ofBits_zero_f32

/-- A row's weight: the exponential of the score less the maximum, zero beyond the diagonal. -/
def wt (n : Fin 2) (t : Fin 8192) (h : Fin 4) (M : EReal) (s : Fin 8192) : EReal := if s.val ≤ t.val then Ideal.exp (rs a0 a1 a2 n t h s - M) else 0

/-- The weights. -/
theorem v26_point (n : Fin 2) (t : Fin 8192) (h : Fin 4) (s : Fin 8192) :
    val_main_v26 (F := Ideal) a0 a1 a2 (ix4 n t h s) = wt a0 a1 a2 n t h (fin (val_main_v15 (F := Ideal) a0 a1 a2 (ix3 n t h))) s := by
  have e : idx_main_call2_v1 (ix4 n t h s) = ix3 t 0 s := by funext a; fin_cases a <;> rfl
  rw [val_main_v26_apply, val_main_call2_v1_apply, e, v13_point, val_main_v25_apply, val_main_v24_apply, v14_point, v23_point a0 a1 a2 n t h s, val_main_call2_v2_apply, val_main_call2_v0_apply, val_main_cst_5_apply]
  refine (select_ofBool _ _ _).trans ?_
  unfold wt
  by_cases hs : s.val ≤ t.val
  · rw [if_pos hs, if_pos hs, if_pos hs]; rfl
  · rw [if_neg hs, if_neg hs]; exact Ideal.ofBits_zero_f32

/-- The normalizer. -/
theorem v31_point (n : Fin 2) (t : Fin 8192) (h : Fin 4) (s : Fin 8192) :
    val_main_v31 (F := Ideal) a0 a1 a2 (ix4 n t h s) = max (α := EReal) (∑ s, wt a0 a1 a2 n t h (fin (val_main_v15 (F := Ideal) a0 a1 a2 (ix3 n t h))) s) (Ideal.ofBits FTy.f32 0x0DA24260#32) := by
  have e : ∀ k, idx_main_v27 (idx_main_v28 (idx_main_v31 (ix4 n t h s))) k = ix4 n t h k := fun k => by funext a; fin_cases a <;> rfl
  rw [val_main_v31_apply, val_main_v30_apply, val_main_v28_apply, val_main_v27_apply, val_main_v29_apply, val_main_cst_7_apply, val_main_cst_6_apply]
  refine congrArg (fun z : EReal => max (α := EReal) z (Ideal.ofBits FTy.f32 0x0DA24260#32)) ?_
  rw [Finset.sum_congr rfl fun k _ => (congrArg (val_main_v26 (F := Ideal) a0 a1 a2) (e k)).trans (v26_point a0 a1 a2 n t h k)]
  exact (congrArg (fun z : EReal => z + _) Ideal.ofBits_zero_f32).trans (zero_add _)

/-- The weighted cache rows. -/
theorem v33_point (n : Fin 2) (t : Fin 8192) (h : Fin 4) (k : Fin 128) :
    val_main_v33 (F := Ideal) a0 a1 a2 (ix4 n t h k)
      = (∑ s, Ideal.div (wt a0 a1 a2 n t h (fin (val_main_v15 (F := Ideal) a0 a1 a2 (ix3 n t h))) s) (max (α := EReal) (∑ s, wt a0 a1 a2 n t h (fin (val_main_v15 (F := Ideal) a0 a1 a2 (ix3 n t h))) s) (Ideal.ofBits FTy.f32 0x0DA24260#32)) * a2 (ix3 n s ⟨k.val, by omega⟩) : EReal) := by
  have e1 : ∀ s, lidx_main_v33 (ix4 n t h k) s = ix4 n t h s := fun s => by funext a; fin_cases a <;> rfl
  have e2 : ∀ s, idx_main_v0 (ridx_main_v33 (ix4 n t h k) s) = ix3 n s ⟨k.val, by omega⟩ := fun s => by funext a; fin_cases a <;> rfl
  rw [val_main_v33_apply]
  refine Finset.sum_congr rfl fun s _ => ?_
  rw [e1, val_main_v32_apply, v26_point a0 a1 a2 n t h s, v31_point a0 a1 a2 n t h s, val_main_v0_apply, e2]
  rfl

/-- The reference's result. -/
theorem v35_point (n : Fin 2) (t : Fin 8192) (h : Fin 4) (e : Fin 64) :
    val_main_v35 (F := Ideal) a0 a1 a2 a3 (ix4 n t h e)
      = (∑ k : Fin 128, a3 (ix3 k h e) * (∑ s, Ideal.div (wt a0 a1 a2 n t h (fin (val_main_v15 (F := Ideal) a0 a1 a2 (ix3 n t h))) s) (max (α := EReal) (∑ s, wt a0 a1 a2 n t h (fin (val_main_v15 (F := Ideal) a0 a1 a2 (ix3 n t h))) s) (Ideal.ofBits FTy.f32 0x0DA24260#32)) * a2 (ix3 n s ⟨k.val, by omega⟩) : EReal) : EReal) := by
  have e1 : ∀ k, lidx_main_v34 (idx_main_v35 (ix4 n t h e)) k = ix3 k h e := fun k => by funext a; fin_cases a <;> rfl
  have e2 : ∀ k, ridx_main_v34 (idx_main_v35 (ix4 n t h e)) k = ix4 n t h k := fun k => by funext a; fin_cases a <;> rfl
  rw [val_main_v35_apply, val_main_v34_apply]
  refine Finset.sum_congr rfl fun k _ => ?_
  rw [e1, e2, v33_point a0 a1 a2 n t h k]

end Cert.ReferenceIdeal.Hand

end
-- ==== Proof.MlaMath.lean ====
module

public import proofs.«01_k».proof.Proof.MlaHost
public import proofs.«01_k».proof.Proof.MlaFold
public import proofs.«01_k».proof.Proof.MlaRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Cert.ReferenceIdeal.Hand (rs wt fin)

/-- The coercion of the reals commutes with finite sums. -/
theorem coe_sum {ι : Type} (S : Finset ι) (f : ι → ℝ) : ((∑ i ∈ S, f i : ℝ) : EReal) = ∑ i ∈ S, ((f i : ℝ) : EReal) := by
  classical
  induction S using Finset.induction_on with
  | empty => rw [Finset.sum_empty, Finset.sum_empty]; rfl
  | insert a S ha ih => rw [Finset.sum_insert ha, Finset.sum_insert ha, EReal.coe_add, ih]

/-- The coercion of the reals commutes with the maximum. -/
theorem coe_max (a b : ℝ) : ((max a b : ℝ) : EReal) = max (a : EReal) (b : EReal) := EReal.coe_strictMono.monotone.map_max

/-- A sum over the first rows is a sum over all rows with the others zero. -/
theorem range_sum (f : ℕ → EReal) (T : ℕ) (hT : T < 8192) : ∑ p ∈ Finset.range (T + 1), f p = ∑ s : Fin 8192, if s.val ≤ T then f s.val else 0 := by
  rw [Fin.sum_univ_eq_sum_range (fun p => if p ≤ T then f p else 0), ← Finset.sum_filter]
  refine Finset.sum_congr ?_ fun _ _ => rfl
  ext p
  rw [Finset.mem_filter, Finset.mem_range, Finset.mem_range]
  omega

/-- A sum over 256 lanes that vanish from lane 160 on is the sum of its latent and rotary lanes. -/
theorem sum_lanes (f : Fin 256 → EReal) (h : ∀ l : Fin 256, 160 ≤ l.val → f l = 0) :
    ∑ l, f l = (∑ x : Fin 128, f ⟨x.val, by omega⟩) + ∑ x : Fin 32, f ⟨128 + x.val, by omega⟩ := by
  have e1 : ∑ l, f l = _ := Fin.sum_univ_add (a := 128) (b := 128) f
  have e2 := Fin.sum_univ_add (a := 32) (b := 96) fun i => f (Fin.natAdd 128 i)
  have e3 : ∑ i : Fin 96, f (Fin.natAdd 128 (Fin.natAdd 32 i)) = 0 := Finset.sum_eq_zero fun i _ => h _ (by show 160 ≤ 128 + (32 + i.val); omega)
  rw [e1]
  refine congrArg₂ (· + ·) rfl ?_
  refine Eq.trans e2 ?_
  rw [e3, add_zero]
  rfl

/-- The scale is a positive real number. -/
theorem scale_real : ∃ r : ℝ, 0 < r ∧ Ideal.ofBits FTy.f32 0x3DD105EC#32 = ((r : ℝ) : EReal) := by
  simp [Ideal.ofBits, Ideal.ieee]
  refine ⟨_, ?_, rfl⟩
  positivity

/-- The floor of the normalizer is a positive real number. -/
theorem floor_real : ∃ r : ℝ, 0 < r ∧ Ideal.ofBits FTy.f32 0x0DA24260#32 = ((r : ℝ) : EReal) := by
  simp [Ideal.ofBits, Ideal.ieee]
  refine ⟨_, ?_, rfl⟩
  positivity

section
variable (a0 : Vec Ideal S2x8192x4x128 .f32) (a1 : Vec Ideal S2x8192x4x32 .f32) (a2 : Vec Ideal S2x8192x160 .f32) (a3 : Vec Ideal S128x4x64 .f32)

/-- A nonnegative real factor goes into a sum, infinite terms included. -/
theorem sum_mul_real {ι : Type} (S : Finset ι) (f : ι → EReal) (c : ℝ) (hc : 0 ≤ c) : (∑ i ∈ S, f i) * ((c : ℝ) : EReal) = ∑ i ∈ S, f i * ((c : ℝ) : EReal) := by
  classical
  induction S using Finset.induction_on with
  | empty => rw [Finset.sum_empty, Finset.sum_empty, zero_mul]
  | insert a S ha ih => rw [Finset.sum_insert ha, Finset.sum_insert ha, EReal.right_distrib_of_nonneg_of_ne_top (EReal.coe_nonneg.2 hc) (EReal.coe_ne_top c), ih]

/-- The score over the 256 padded lanes, the scale on the query, is the score of the reference. -/
theorem score_lanes (n : Fin 2) (t : Fin 8192) (h : Fin 4) (s : Fin 8192) :
    Finset.sum (M := EReal) Finset.univ (fun l : Fin 256 => HMul.hMul (α := EReal) (β := EReal) (γ := EReal) (HMul.hMul (α := EReal) (β := EReal) (γ := EReal) (qx a0 a1 n t h l) (Ideal.ofBits FTy.f32 0x3DD105EC#32)) (rowx a2 n s l)) = rs a0 a1 a2 n t h s := by
  obtain ⟨c, hc0, hc⟩ := scale_real
  rw [sum_lanes _ fun l hl => ?_]
  · unfold rs
    rw [hc, EReal.right_distrib_of_nonneg_of_ne_top (EReal.coe_nonneg.2 hc0.le) (EReal.coe_ne_top c), sum_mul_real _ _ c hc0.le, sum_mul_real _ _ c hc0.le]
    refine congrArg₂ (· + ·) (Finset.sum_congr rfl fun x _ => ?_) (Finset.sum_congr rfl fun x _ => ?_)
    · have hx := x.isLt
      have q1 : qx a0 a1 n t h ⟨x.val, by omega⟩ = a0 (ix4 n t h x) := dif_pos (show x.val < 128 from hx)
      have k1 : rowx a2 n s ⟨x.val, by omega⟩ = a2 (ix3 n s ⟨x.val, by omega⟩) := dif_pos (show x.val < 160 by omega)
      rw [q1, k1]
      exact mul_right_comm (G := EReal) _ _ _
    · have hx := x.isLt
      have q1 : qx a0 a1 n t h ⟨128 + x.val, by omega⟩ = a1 (ix4 n t h x) := by
        refine (dif_neg (show ¬128 + x.val < 128 by omega)).trans ((dif_pos (show 128 + x.val < 160 by omega)).trans ?_)
        exact congrArg (fun z => a1 (ix4 n t h z)) (Fin.ext (show 128 + x.val - 128 = x.val by omega))
      have k1 : rowx a2 n s ⟨128 + x.val, by omega⟩ = a2 (ix3 n s ⟨128 + x.val, by omega⟩) := dif_pos (show 128 + x.val < 160 by omega)
      rw [q1, k1]
      exact mul_right_comm (G := EReal) _ _ _
  · have q1 : qx a0 a1 n t h l = 0 := (dif_neg (show ¬l.val < 128 by omega)).trans (dif_neg (show ¬l.val < 160 by omega))
    rw [q1, zero_mul, zero_mul]

end

/-- The exponential is not negative. -/
theorem exp_nonneg (x : EReal) : 0 ≤ Ideal.exp x := by
  induction x with
  | bot => exact le_rfl
  | top => exact le_top
  | coe r => exact EReal.coe_nonneg.2 (Real.exp_pos r).le

section
variable (g : Fin 8192 → EReal) (T : Fin 8192) (M : EReal)

/-- The weights of a row with scores `g` up to `T`, lowered by `N`. -/
def weight (N : EReal) (s : Fin 8192) : EReal := if s.val ≤ T.val then Ideal.exp (g s - N) else 0

/-- An infinite maximum of finitely many scores is one of them. -/
theorem top_attained (hM : ∀ x : EReal, M ≤ x ↔ ∀ s : Fin 8192, s.val ≤ T.val → g s ≤ x) (h : M = ⊤) : ∃ s : Fin 8192, s.val ≤ T.val ∧ g s = ⊤ := by
  by_contra hn
  push Not at hn
  have h1 : M ≤ ((∑ s, |(g s).toReal| : ℝ) : EReal) := (hM _).2 fun s hs =>
    (EReal.le_coe_toReal (hn s hs)).trans (EReal.coe_le_coe_iff.2 ((le_abs_self _).trans (Finset.single_le_sum (f := fun s => |(g s).toReal|) (fun _ _ => abs_nonneg _) (Finset.mem_univ s))))
  exact absurd (h ▸ h1) (not_le_of_gt (EReal.coe_lt_top _))

/-- Below an infinite maximum the kernel's weights vanish. -/
theorem weight_zero (hM : ∀ x : EReal, M ≤ x ↔ ∀ s : Fin 8192, s.val ≤ T.val → g s ≤ x) (h : M = ⊤ ∨ M = ⊥) (s : Fin 8192) : weight g T M s = 0 := by
  unfold weight
  split_ifs with hs
  · rcases h with rfl | rfl
    · rw [sub_eq_add_neg, EReal.neg_top, EReal.add_bot]; rfl
    · have : g s = ⊥ := le_bot_iff.1 ((hM ⊥).1 le_rfl s hs)
      rw [this, sub_eq_add_neg, EReal.bot_add]; rfl
  · rfl

/-- Below a real maximum the weights are real. -/
theorem weight_real (r : ℝ) (hM : ∀ s : Fin 8192, s.val ≤ T.val → g s ≤ ((r : ℝ) : EReal)) (s : Fin 8192) : ∃ w : ℝ, weight g T ((r : ℝ) : EReal) s = ((w : ℝ) : EReal) := by
  unfold weight
  split_ifs with hs
  · have h1 := hM s hs
    generalize g s = y at h1
    induction y with
    | bot => exact ⟨0, by rw [sub_eq_add_neg, EReal.bot_add]; rfl⟩
    | top => exact absurd h1 (not_le_of_gt (EReal.coe_lt_top r))
    | coe y => exact ⟨Real.exp (y - r), by rw [← EReal.coe_sub]; rfl⟩
  · exact ⟨0, rfl⟩

/-- Dividing the accumulated rows by a positive real is accumulating the divided weights. -/
theorem swap_div (W : Fin 8192 → EReal) (C : Fin 8192 → Fin 128 → EReal) (U : Fin 128 → EReal) (z : ℝ) (hz : 0 < z) :
    (∑ x : Fin 128, Ideal.div (∑ s, W s * C s x) ((z : ℝ) : EReal) * U x)
      = ∑ x : Fin 128, U x * ∑ s, Ideal.div (W s) ((z : ℝ) : EReal) * C s x := by
  refine Finset.sum_congr rfl fun x _ => ?_
  rw [Ideal.div_coe hz.ne', mul_comm, sum_mul_real _ _ _ (by positivity)]
  refine congrArg (fun y : EReal => U x * y) (Finset.sum_congr rfl fun s _ => ?_)
  rw [Ideal.div_coe hz.ne', mul_right_comm]

/-- Quotients that vanish leave nothing. -/
theorem zero_of_div (W : Fin 8192 → EReal) (C : Fin 8192 → Fin 128 → EReal) (U : Fin 128 → EReal) (z : EReal) (h : ∀ s, Ideal.div (W s) z = 0) :
    (∑ x : Fin 128, U x * ∑ s, Ideal.div (W s) z * C s x) = 0 :=
  Finset.sum_eq_zero fun x _ => by
    rw [Finset.sum_eq_zero fun s _ => by rw [h, zero_mul], mul_zero]

/-- What the kernel makes of a row, the weights lowered by the maximum itself and the sums divided, is what the reference makes
    of it, the weights lowered by the finite maximum and each divided: infinite scores leave zero on both sides. -/
theorem attend (hM : ∀ x : EReal, M ≤ x ↔ ∀ s : Fin 8192, s.val ≤ T.val → g s ≤ x) (C : Fin 8192 → Fin 128 → EReal) (U : Fin 128 → EReal) (f : ℝ) (hf : 0 < f) :
    (∑ x : Fin 128, Ideal.div (∑ s, weight g T M s * C s x) (max (∑ s, weight g T M s) ((f : ℝ) : EReal)) * U x)
      = ∑ x : Fin 128, U x * ∑ s, Ideal.div (weight g T (fin M) s) (max (∑ s, weight g T (fin M) s) ((f : ℝ) : EReal)) * C s x := by
  have inf : M = ⊤ ∨ M = ⊥ → (∑ x : Fin 128, Ideal.div (∑ s, weight g T M s * C s x) (max (∑ s, weight g T M s) ((f : ℝ) : EReal)) * U x) = 0 := fun h => by
    refine Finset.sum_eq_zero fun x _ => ?_
    rw [Finset.sum_eq_zero fun s _ => by rw [weight_zero g T M hM h, zero_mul], Finset.sum_eq_zero fun s _ => weight_zero g T M hM h s, max_eq_right (EReal.coe_nonneg.2 hf.le), Ideal.div_coe hf.ne', zero_mul, zero_mul]
  induction M with
  | bot =>
    rw [inf (Or.inr rfl), zero_of_div]
    intro s
    have hfin : fin ⊥ = 0 := if_neg fun h => lt_irrefl _ h.1
    have hw : ∀ s, weight g T (fin ⊥) s = 0 := fun s => by
      rw [hfin]
      unfold weight
      split_ifs with hs
      · rw [le_bot_iff.1 ((hM ⊥).1 le_rfl s hs), sub_eq_add_neg, EReal.bot_add]; rfl
      · rfl
    rw [hw, Finset.sum_eq_zero fun s _ => hw s, max_eq_right (EReal.coe_nonneg.2 hf.le), Ideal.div_coe hf.ne', zero_mul]
  | top =>
    rw [inf (Or.inl rfl), zero_of_div]
    intro s
    have hfin : fin ⊤ = 0 := if_neg fun h => lt_irrefl _ h.2
    obtain ⟨s0, hs0, h0⟩ := top_attained g T ⊤ hM rfl
    have hnn : ∀ s, 0 ≤ weight g T (fin ⊤) s := fun s => by
      unfold weight
      split_ifs
      · exact exp_nonneg _
      · exact le_rfl
    have h1 : weight g T (fin ⊤) s0 = ⊤ := by
      unfold weight
      rw [if_pos hs0, h0, hfin, sub_zero]; rfl
    have h2 : (∑ s, weight g T (fin ⊤) s) = ⊤ := top_le_iff.1 (h1.ge.trans (Finset.single_le_sum (f := fun s => weight g T (fin ⊤) s) (fun s _ => hnn s) (Finset.mem_univ s0)))
    rw [h2, max_eq_left le_top]
    unfold Ideal.div
    rw [if_neg EReal.top_ne_zero, EReal.inv_top, mul_zero]
  | coe r =>
    have hfin : fin ((r : ℝ) : EReal) = ((r : ℝ) : EReal) := if_pos ⟨EReal.bot_lt_coe r, EReal.coe_lt_top r⟩
    rw [hfin]
    choose W hW using weight_real g T r ((hM _).1 le_rfl)
    have hz : max (∑ s, weight g T ((r : ℝ) : EReal) s) ((f : ℝ) : EReal) = ((max (∑ s, W s) f : ℝ) : EReal) := by
      rw [coe_max, coe_sum]
      simp only [hW]
    rw [hz]
    exact swap_div _ _ _ _ (hf.trans_le (le_max_right _ _))

end

/-- A stacked query row is the head's lanes of the block's row. -/
theorem stacked_head (x0 : Vec Ideal S1x256x1024 .bf16) (h : Fin 4) (r k : Fin 256) (hR : 256 * h.val + r.val < 1024) (hb : 256 * h.val + k.val < 1024) :
    stacked x0 (ix2 ⟨256 * h.val + r.val, hR⟩ k) = x0 (ix3 0 r ⟨256 * h.val + k.val, hb⟩) := by
  have key : ∀ j : ℕ, j = h.val → qHead x0 j (ix3 0 ⟨(256 * h.val + r.val) % 256, Nat.mod_lt _ (by norm_num)⟩ k) = x0 (ix3 0 r ⟨256 * h.val + k.val, hb⟩) := by
    rintro j rfl
    have e1 : (⟨(256 * h.val + r.val) % 256, Nat.mod_lt _ (by norm_num)⟩ : Fin 256) = r := Fin.ext (by show (256 * h.val + r.val) % 256 = r.val; omega)
    have e2 : (⟨(256 * h.val + k.val) % 1024, Nat.mod_lt _ (by norm_num)⟩ : Fin 1024) = ⟨256 * h.val + k.val, hb⟩ := Fin.ext (by show (256 * h.val + k.val) % 1024 = 256 * h.val + k.val; omega)
    exact congrArg₂ (fun a b => x0 (ix3 0 a b)) e1 e2
  have hr := r.isLt
  have hh := h.isLt
  unfold stacked
  rw [pay9_point]
  dsimp only
  split_ifs with c1 c2 c3
  · exact key 0 (by omega)
  · exact key 1 (by omega)
  · exact key 2 (by omega)
  · exact key 3 (by omega)

variable (m : (ℓ : Loc nD τ sig) → Buf (Elt Ideal) ℓ)

/-- A stacked row's score against a cache row, at a point of the grid. -/
theorem sc_block (c : Dev nD) (t : Fin cfg0.N) (h : Fin 4) (r : Fin 256) (hn : t.val / 32 < 2) (hr : t.val % 32 * 256 + r.val < 8192) (hR : 256 * h.val + r.val < 1024) (s : Fin 8192) :
    sc (stacked (iblk m c 0 t)) (iblk m c 1 t) ⟨256 * h.val + r.val, hR⟩ s.val
      = rs (m ((c : Thread nD τ).loc main_arg0)) (m ((c : Thread nD τ).loc main_arg1)) (m ((c : Thread nD τ).loc main_arg2)) ⟨t.val / 32, hn⟩ ⟨t.val % 32 * 256 + r.val, hr⟩ h s := by
  refine Eq.trans ?_ (score_lanes _ _ _ _ _ h s)
  unfold sc
  refine Finset.sum_congr rfl fun l _ => ?_
  have hh := h.isLt
  have hl := l.isLt
  have e1 := (stacked_head (iblk m c 0 t) h r l hR (by omega)).trans (blk_0 m c t r hn hr h l (by omega))
  have e2 : rowAt (iblk m c 1 t) l s.val = rowx (m ((c : Thread nD τ).loc main_arg2)) ⟨t.val / 32, hn⟩ s l := by
    have e3 : (⟨s.val % 8192, Nat.mod_lt _ (by norm_num)⟩ : Fin 8192) = s := Fin.ext (Nat.mod_eq_of_lt s.isLt)
    exact (congrArg (fun z => iblk m c 1 t (ix3 0 z l)) e3).trans (blk_1 m c t s hn l)
  exact congrArg₂ (HMul.hMul (α := EReal) (β := EReal) (γ := EReal)) e1 e2

end Cert.KernelIdeal.Hand

end
-- ==== Proof.MlaValue.lean ====
module

public import proofs.«01_k».proof.Defs
public import proofs.«01_k».proof.Proof.MlaMath
public import proofs.«01_k».proof.Proof.Gen.ReferenceIdeal
public import proofs.«01_k».proof.Proof.Gen.ReferenceIdeal.Run
public import proofs.«01_k».proof.Proof.Gen.ReferenceIdeal.Read
public import Idealize.ShloMosaic.Lib.VecWindow
public import Idealize.ShloMosaic.Lib.Pipeline.ValueKit
public import Idealize.ShloMosaic.Lib.StableHlo.ReadAt
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Cert.ReferenceIdeal.Hand (rs wt fin)

variable (m : (ℓ : Loc nD τ sig) → Buf (Elt Ideal) ℓ)

/-- The accumulator after the loops: each lane is the weighted sum of the cache rows' lane, the weights lowered by the reference's row maximum. -/
theorem acc_point (c : Dev nD) (t : Fin cfg0.N) (h : Fin 4) (r : Fin 256) (hn : t.val / 32 < 2) (hr : t.val % 32 * 256 + r.val < 8192) (hR : 256 * h.val + r.val < 1024) (k : Fin 256) :
    (if t.val % 2 = 1 then accB (grid0.coords t) (iblk m c 0 t) (iblk m c 1 t) else accA (grid0.coords t) (iblk m c 0 t) (iblk m c 1 t)) (ix2 ⟨256 * h.val + r.val, hR⟩ k)
      = ∑ s : Fin 8192, weight (rs (m ((c : Thread nD τ).loc main_arg0)) (m ((c : Thread nD τ).loc main_arg1)) (m ((c : Thread nD τ).loc main_arg2)) ⟨t.val / 32, hn⟩ ⟨t.val % 32 * 256 + r.val, hr⟩ h) ⟨t.val % 32 * 256 + r.val, hr⟩ (Cert.ReferenceIdeal.Read.val_main_v15 (F := Ideal) (m ((c : Thread nD τ).loc main_arg0)) (m ((c : Thread nD τ).loc main_arg1)) (m ((c : Thread nD τ).loc main_arg2)) (ix3 ⟨t.val / 32, hn⟩ ⟨t.val % 32 * 256 + r.val, hr⟩ h)) s * rowx (m ((c : Thread nD τ).loc main_arg2)) ⟨t.val / 32, hn⟩ s k := by
  have hi := (idx t).2.2.2.2
  have hrl := r.isLt
  have hT : 256 * (grid0.coords t 1).val + (256 * h.val + r.val) % 256 = t.val % 32 * 256 + r.val := by rw [hi]; omega
  have hM := fun x : EReal => Cert.ReferenceIdeal.Hand.v15_le (m ((c : Thread nD τ).loc main_arg0)) (m ((c : Thread nD τ).loc main_arg1)) (m ((c : Thread nD τ).loc main_arg2)) ⟨t.val / 32, hn⟩ ⟨t.val % 32 * 256 + r.val, hr⟩ h x
  generalize (Cert.ReferenceIdeal.Read.val_main_v15 (F := Ideal) (m ((c : Thread nD τ).loc main_arg0)) (m ((c : Thread nD τ).loc main_arg1)) (m ((c : Thread nD τ).loc main_arg2)) (ix3 ⟨t.val / 32, hn⟩ ⟨t.val % 32 * 256 + r.val, hr⟩ h)) = M at hM ⊢
  have hmax : ∀ y : EReal, (∀ x : EReal, y ≤ x ↔ ∀ p, p ≤ 256 * (grid0.coords t 1).val + (256 * h.val + r.val) % 256 → sc (stacked (iblk m c 0 t)) (iblk m c 1 t) ⟨256 * h.val + r.val, hR⟩ p ≤ x) → y = M := by
    intro y hy
    refine eq_of_forall_ge_iff fun x => ?_
    rw [hy x, hM x, hT]
    constructor
    · intro hh s hs
      rw [← sc_block m c t h r hn hr hR s]
      exact hh s.val hs
    · intro hh p hp
      have := hh ⟨p, by omega⟩ hp
      rw [← sc_block m c t h r hn hr hR] at this
      exact this
  have hterm : (∑ p ∈ Finset.range (256 * (grid0.coords t 1).val + (256 * h.val + r.val) % 256 + 1), term (stacked (iblk m c 0 t)) (iblk m c 1 t) ⟨256 * h.val + r.val, hR⟩ M k p)
      = ∑ s : Fin 8192, weight (rs (m ((c : Thread nD τ).loc main_arg0)) (m ((c : Thread nD τ).loc main_arg1)) (m ((c : Thread nD τ).loc main_arg2)) ⟨t.val / 32, hn⟩ ⟨t.val % 32 * 256 + r.val, hr⟩ h) ⟨t.val % 32 * 256 + r.val, hr⟩ M s * rowx (m ((c : Thread nD τ).loc main_arg2)) ⟨t.val / 32, hn⟩ s k := by
    rw [hT, range_sum _ _ hr]
    refine Finset.sum_congr rfl fun s _ => ?_
    have e2 : rowAt (iblk m c 1 t) k s.val = rowx (m ((c : Thread nD τ).loc main_arg2)) ⟨t.val / 32, hn⟩ s k := by
      have e3 : (⟨s.val % 8192, Nat.mod_lt _ (by norm_num)⟩ : Fin 8192) = s := Fin.ext (Nat.mod_eq_of_lt s.isLt)
      exact (congrArg (fun z => iblk m c 1 t (ix3 0 z k)) e3).trans (blk_1 m c t s hn k)
    unfold term weight
    rw [sc_block m c t h r hn hr hR s, e2]
    dsimp only
    split_ifs
    · rfl
    · rw [zero_mul]
  by_cases ht : t.val % 2 = 1
  · rw [if_pos ht, accB_point _ (by rw [hi]; omega) _ _ _ _ (fun l => hmax _ fun x => maxB_le _ (by rw [hi]; omega) _ _ _ l x) k]
    exact hterm
  · rw [if_neg ht, accA_point _ (by rw [hi]; omega) _ _ _ _ (fun l => hmax _ fun x => maxA_le _ (by rw [hi]; omega) _ _ _ l x) k]
    exact hterm

/-- The block a point of the grid leaves holds, in the upper half of each head's lanes, the reference's result. -/
theorem block_point (c : Dev nD) (t : Fin cfg0.N) (h : Fin 4) (r : Fin 256) (e : Fin 64) (hn : t.val / 32 < 2) (hr : t.val % 32 * 256 + r.val < 8192) (hb : 128 * h.val + (64 + e.val) < 512) :
    outsAt0 m c t.val t.isLt (ix3 0 r ⟨128 * h.val + (64 + e.val), hb⟩)
      = Cert.ReferenceIdeal.Read.val_main_v35 (F := Ideal) (m ((c : Thread nD τ).loc main_arg0)) (m ((c : Thread nD τ).loc main_arg1)) (m ((c : Thread nD τ).loc main_arg2)) (m ((c : Thread nD τ).loc main_arg3)) (ix4 ⟨t.val / 32, hn⟩ ⟨t.val % 32 * 256 + r.val, hr⟩ h e) := by
  have hrl := r.isLt
  have hhl := h.isLt
  have hel := e.isLt
  have hR : 256 * h.val + r.val < 1024 := by omega
  have hacc := fun k => acc_point m c t h r hn hr hR k
  have hM := fun x : EReal => Cert.ReferenceIdeal.Hand.v15_le (m ((c : Thread nD τ).loc main_arg0)) (m ((c : Thread nD τ).loc main_arg1)) (m ((c : Thread nD τ).loc main_arg2)) ⟨t.val / 32, hn⟩ ⟨t.val % 32 * 256 + r.val, hr⟩ h x
  have hv := Cert.ReferenceIdeal.Hand.v35_point (m ((c : Thread nD τ).loc main_arg0)) (m ((c : Thread nD τ).loc main_arg1)) (m ((c : Thread nD τ).loc main_arg2)) (m ((c : Thread nD τ).loc main_arg3)) ⟨t.val / 32, hn⟩ ⟨t.val % 32 * 256 + r.val, hr⟩ h e
  obtain ⟨f, hf, ef⟩ := floor_real
  refine (outs_point m c t h r ⟨64 + e.val, by omega⟩ hb).trans (Eq.trans ?_ hv.symm)
  clear hv
  generalize (Cert.ReferenceIdeal.Read.val_main_v15 (F := Ideal) (m ((c : Thread nD τ).loc main_arg0)) (m ((c : Thread nD τ).loc main_arg1)) (m ((c : Thread nD τ).loc main_arg2)) (ix3 ⟨t.val / 32, hn⟩ ⟨t.val % 32 * 256 + r.val, hr⟩ h)) = M at hacc hM ⊢
  have l1 : ∀ s, rowx (m ((c : Thread nD τ).loc main_arg2)) ⟨t.val / 32, hn⟩ s 255 = 1 := fun s => (dif_neg (by decide)).trans (if_neg (by decide))
  have l2 : ∀ (s : Fin 8192) (x : Fin 128), rowx (m ((c : Thread nD τ).loc main_arg2)) ⟨t.val / 32, hn⟩ s (lo x) = (m ((c : Thread nD τ).loc main_arg2)) (ix3 ⟨t.val / 32, hn⟩ s ⟨x.val, by omega⟩) := fun s x =>
    dif_pos (show x.val < 160 by omega)
  have l3 : ∀ x : Fin 128, iblk m c 2 t (ix3 h x ⟨64 + e.val, by omega⟩) = (m ((c : Thread nD τ).loc main_arg3)) (ix3 x h e) := fun x => by
    refine (blk_2 m c t h x _).trans ((if_pos (show 64 ≤ 64 + e.val by omega)).trans ?_)
    have e4 : (⟨64 + e.val - 64, by omega⟩ : Fin 64) = e := Fin.ext (by show 64 + e.val - 64 = e.val; omega)
    exact congrArg (fun z => (m ((c : Thread nD τ).loc main_arg3)) (ix3 x h z)) e4
  have l4 : (∑ s : Fin 8192, weight (rs (m ((c : Thread nD τ).loc main_arg0)) (m ((c : Thread nD τ).loc main_arg1)) (m ((c : Thread nD τ).loc main_arg2)) ⟨t.val / 32, hn⟩ ⟨t.val % 32 * 256 + r.val, hr⟩ h) ⟨t.val % 32 * 256 + r.val, hr⟩ M s * rowx (m ((c : Thread nD τ).loc main_arg2)) ⟨t.val / 32, hn⟩ s 255) = ∑ s, weight (rs (m ((c : Thread nD τ).loc main_arg0)) (m ((c : Thread nD τ).loc main_arg1)) (m ((c : Thread nD τ).loc main_arg2)) ⟨t.val / 32, hn⟩ ⟨t.val % 32 * 256 + r.val, hr⟩ h) ⟨t.val % 32 * 256 + r.val, hr⟩ M s := Finset.sum_congr rfl fun s _ => by rw [l1, mul_one]
  rw [ef]
  refine Eq.trans ?_ (attend (rs (m ((c : Thread nD τ).loc main_arg0)) (m ((c : Thread nD τ).loc main_arg1)) (m ((c : Thread nD τ).loc main_arg2)) ⟨t.val / 32, hn⟩ ⟨t.val % 32 * 256 + r.val, hr⟩ h) ⟨t.val % 32 * 256 + r.val, hr⟩ M hM (fun s x => (m ((c : Thread nD τ).loc main_arg2)) (ix3 ⟨t.val / 32, hn⟩ s ⟨x.val, by omega⟩)) (fun x => (m ((c : Thread nD τ).loc main_arg3)) (ix3 x h e)) f hf)
  unfold blockVal
  rw [ef]
  refine Finset.sum_congr rfl fun x _ => ?_
  refine congrArg₂ (HMul.hMul (α := EReal) (β := EReal) (γ := EReal)) (congrArg₂ Ideal.div ?_ ?_) (l3 x)
  · rw [hacc]
    exact Finset.sum_congr rfl fun s _ => by rw [l2]
  · rw [hacc, l4]

/-- The operations after the region leave argument 0 as it was. -/
theorem tail_arg0 (c : Dev nD) : Pipeline.afterTail₀ cfgs (dats m) 0 (V0 m) [hostOps1] c main_arg0 = m ((c.tc : Thread nD τ).loc main_arg0) := by
  unfold Pipeline.afterTail₀
  simp only [hostOps1, List.flatten_cons, List.flatten_nil, List.cons_append, List.nil_append, List.append_nil]
  after_results
  rw [Pipeline.withArrays_of_ne _ _ _ _ main_arg0 (by decide)]
  exact V_main_arg0 m c

/-- The operations after the region leave argument 1 as it was. -/
theorem tail_arg1 (c : Dev nD) : Pipeline.afterTail₀ cfgs (dats m) 0 (V0 m) [hostOps1] c main_arg1 = m ((c.tc : Thread nD τ).loc main_arg1) := by
  unfold Pipeline.afterTail₀
  simp only [hostOps1, List.flatten_cons, List.flatten_nil, List.cons_append, List.nil_append, List.append_nil]
  after_results
  rw [Pipeline.withArrays_of_ne _ _ _ _ main_arg1 (by decide)]
  exact V_main_arg1 m c

/-- The operations after the region leave argument 2 as it was. -/
theorem tail_arg2 (c : Dev nD) : Pipeline.afterTail₀ cfgs (dats m) 0 (V0 m) [hostOps1] c main_arg2 = m ((c.tc : Thread nD τ).loc main_arg2) := by
  unfold Pipeline.afterTail₀
  simp only [hostOps1, List.flatten_cons, List.flatten_nil, List.cons_append, List.nil_append, List.append_nil]
  after_results
  rw [Pipeline.withArrays_of_ne _ _ _ _ main_arg2 (by decide)]
  exact V_main_arg2 m c

/-- The operations after the region leave argument 3 as it was. -/
theorem tail_arg3 (c : Dev nD) : Pipeline.afterTail₀ cfgs (dats m) 0 (V0 m) [hostOps1] c main_arg3 = m ((c.tc : Thread nD τ).loc main_arg3) := by
  unfold Pipeline.afterTail₀
  simp only [hostOps1, List.flatten_cons, List.flatten_nil, List.cons_append, List.nil_append, List.append_nil]
  after_results
  rw [Pipeline.withArrays_of_ne _ _ _ _ main_arg3 (by decide)]
  exact V_main_arg3 m c

/-- The array returned holds, at head `h` and lane `e`, lane `64 + e` of the head's 128 lanes of the region's array. -/
theorem tail_v16 (c : Dev nD) (n : Fin 2) (t : Fin 8192) (h : Fin 4) (e : Fin 64) :
    Pipeline.afterTail₀ cfgs (dats m) 0 (V0 m) [hostOps1] c main_v16 (ix4 n t h e) = (dats m 0 c).arrAt 3 (cfgs 0).N (ix3 n t ⟨128 * h.val + (64 + e.val), by omega⟩) := by
  have hb : h.val * 128 + (64 + e.val) < 512 := by omega
  have key : Pipeline.withArrays (cfgs 0).spec c (V0 m c) (fun w => (dats m 0 c).arrAt w (cfgs 0).N) (Proc.tc.devRef main_v13) (ix3 n t ⟨h.val * 128 + (64 + e.val), hb⟩)
      = (dats m 0 c).arrAt 3 (cfgs 0).N (ix3 n t ⟨128 * h.val + (64 + e.val), by omega⟩) := by
    have e1 : (⟨h.val * 128 + (64 + e.val), hb⟩ : Fin 512) = ⟨128 * h.val + (64 + e.val), by omega⟩ := Fin.ext (by show h.val * 128 + (64 + e.val) = 128 * h.val + (64 + e.val); omega)
    rw [e1]
    exact congrFun (Pipeline.withArrays_arr (cfgs 0).spec (by decide) c (V0 m c) (fun w => (dats m 0 c).arrAt w (cfgs 0).N) 3) _
  unfold Pipeline.afterTail₀
  simp only [hostOps1, List.flatten_cons, List.flatten_nil, List.cons_append, List.nil_append, List.append_nil]
  after_reads_at
  exact key

/-- The region's array: the block of each 256 rows is what its point of the grid leaves. -/
def blocks (c : Dev nD) : Vec Ideal S2x8192x512 .bf16 := fun y =>
  outsAt0 m c (32 * (y 0).val + (y 1).val / 256) (by have h0 : (y 0).val < 2 := (y 0).isLt; have h1 : (y 1).val < 8192 := (y 1).isLt; show _ < 64; omega) (ix3 0 ⟨(y 1).val % 256, Nat.mod_lt _ (by norm_num)⟩ (y 2))

/-- Equal points leave equal blocks. -/
theorem outs_congr (c : Dev nD) (a b : ℕ) (ha : a < cfg0.N) (hb : b < cfg0.N) (e : a = b) (r s : Fin 256) (hrs : r.val = s.val) (l : Fin 512) : outsAt0 m c a ha (ix3 0 r l) = outsAt0 m c b hb (ix3 0 s l) := by
  subst e
  rw [Fin.ext hrs]

/-- What the region leaves in its array. -/
theorem final (c : Dev nD) : (dats m 0 c).arrAt 3 (cfgs 0).N = blocks m c := by
  refine (dats m 0 c).arrAt_eq_of_covers 3 _ (by decide +kernel) fun t _ y => ?_
  blk_simp
  rw [after0_3]
  idx_vars y
  obtain rfl : y0 = 0 := Subsingleton.elim _ _
  have ht : t.val < 64 := t.isLt
  have hn : t.val / 32 < 2 := by omega
  have hr : t.val % 32 * 256 + y1.val < 8192 := by omega
  have hy := y1.isLt
  have e : ((View.whole main_v13).slice (win0_3.rect t)).emb (ix3 0 y1 y2) = ix3 ⟨t.val / 32, hn⟩ ⟨t.val % 32 * 256 + y1.val, hr⟩ y2 := by
    blk_ext [idx t]
  rw [e]
  exact outs_congr m c _ _ _ _ (by show t.val = 32 * (t.val / 32) + (t.val % 32 * 256 + y1.val) / 256; omega) _ _ (by show y1.val = (t.val % 32 * 256 + y1.val) % 256; omega) _

/-- The array returned is the reference's. -/
theorem returned (c : Dev nD) (n : Fin 2) (t : Fin 8192) (h : Fin 4) (e : Fin 64) :
    Pipeline.afterTail₀ cfgs (dats m) 0 (V0 m) [hostOps1] c main_v16 (ix4 n t h e)
      = Cert.ReferenceIdeal.Read.val_main_v35 (F := Ideal) (m ((c : Thread nD τ).loc main_arg0)) (m ((c : Thread nD τ).loc main_arg1)) (m ((c : Thread nD τ).loc main_arg2)) (m ((c : Thread nD τ).loc main_arg3)) (ix4 n t h e) := by
  have hn := n.isLt
  have ht := t.isLt
  have hh := h.isLt
  have he := e.isLt
  have hN : 32 * n.val + t.val / 256 < cfg0.N := by show _ < 64; omega
  rw [tail_v16, final]
  refine (block_point m c ⟨32 * n.val + t.val / 256, hN⟩ h ⟨t.val % 256, Nat.mod_lt _ (by norm_num)⟩ e (by show (32 * n.val + t.val / 256) / 32 < 2; omega) (by show (32 * n.val + t.val / 256) % 32 * 256 + t.val % 256 < 8192; omega) (by omega)).trans ?_
  have e1 : (⟨(32 * n.val + t.val / 256) / 32, by omega⟩ : Fin 2) = n := Fin.ext (by show (32 * n.val + t.val / 256) / 32 = n.val; omega)
  have e2 : (⟨(32 * n.val + t.val / 256) % 32 * 256 + t.val % 256, by omega⟩ : Fin 8192) = t := Fin.ext (by show (32 * n.val + t.val / 256) % 32 * 256 + t.val % 256 = t.val; omega)
  exact congrArg₂ (fun a b => Cert.ReferenceIdeal.Read.val_main_v35 (F := Ideal) (m ((c : Thread nD τ).loc main_arg0)) (m ((c : Thread nD τ).loc main_arg1)) (m ((c : Thread nD τ).loc main_arg2)) (m ((c : Thread nD τ).loc main_arg3)) (ix4 a b h e)) e1 e2

set_option maxHeartbeats 2000000 in
/-- Over the ideal scalars the attention kernel returns the reference's array. -/
theorem algebraic : Cert.algebraic_KernelIdeal_ReferenceIdeal := by
  pair_intro
  · run_from Cert.KernelIdeal.Gen.run_main m g
    · exact tail_arg0 m c
    · exact tail_arg1 m c
    · exact tail_arg2 m c
    · exact tail_arg3 m c
  · run_from Cert.ReferenceIdeal.Value.run m' g'
    obtain ⟨h0, h1, h2, h3⟩ := hagree c
    rw [Cert.ReferenceIdeal.Read.val_main_v35_eq, h0, h1, h2, h3]
    funext y
    idx_vars y
    exact (returned m c y0 y1 y2 y3).symm

end Cert.KernelIdeal.Hand

end
-- ==== Proof.lean ====
/- The certificate's claims together: each program's frame, the two idealizations that changed something or nothing,
   and the equality of result between each kernel and its reference wherever that is claimed. The value proofs are in
   the modules named `...Value`; this file only gathers them. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.SbKernel
public import proofs.«01_k».proof.Proof.Gen.SbKernel.Skeleton
public import proofs.«01_k».proof.Proof.Gen.SbKernel.Loops
public import proofs.«01_k».proof.Proof.Gen.SbKernel.Launch
public import proofs.«01_k».proof.Proof.Gen.SbKernel.Points
public import proofs.«01_k».proof.Proof.Gen.SbKernel.Frame
public import proofs.«01_k».proof.Proof.Gen.SbKernelIdeal
public import proofs.«01_k».proof.Proof.Gen.SbKernelIdeal.Skeleton
public import proofs.«01_k».proof.Proof.Gen.SbKernelIdeal.Loops
public import proofs.«01_k».proof.Proof.Gen.SbKernelIdeal.Launch
public import proofs.«01_k».proof.Proof.Gen.SbKernelIdeal.Points
public import proofs.«01_k».proof.Proof.Gen.SbKernelIdeal.Frame
public import proofs.«01_k».proof.Proof.Gen.SbReferenceIdeal
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.FfnDecodeKernel
public import proofs.«01_k».proof.Proof.Gen.FfnDecodeKernel.Skeleton
public import proofs.«01_k».proof.Proof.Gen.FfnDecodeKernel.Launch
public import proofs.«01_k».proof.Proof.Gen.FfnDecodeKernel.Points
public import proofs.«01_k».proof.Proof.Gen.FfnDecodeKernel.Frame
public import proofs.«01_k».proof.Proof.Gen.FfnDecodeKernelIdeal
public import proofs.«01_k».proof.Proof.Gen.FfnDecodeKernelIdeal.Skeleton
public import proofs.«01_k».proof.Proof.Gen.FfnDecodeKernelIdeal.Launch
public import proofs.«01_k».proof.Proof.Gen.FfnDecodeKernelIdeal.Points
public import proofs.«01_k».proof.Proof.Gen.FfnDecodeKernelIdeal.Frame
public import proofs.«01_k».proof.Proof.Gen.FfnDecodeReferenceIdeal
public import proofs.«01_k».proof.Proof.Gen.FfnDecodeReferenceIdeal.Run
public import proofs.«01_k».proof.Proof.Gen.FfnDecodeReferenceIdeal.Read
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeReferenceIdeal
public import proofs.«01_k».proof.Proof.Gen.FfnKernelIdeal.Value
public import proofs.«01_k».proof.Proof.Gen.FfnReferenceIdeal.Run
public import proofs.«01_k».proof.Proof.Gen.FfnReferenceIdeal.Read
public import proofs.«01_k».proof.Proof.Gen.MergeKernelIdeal.Value
public import proofs.«01_k».proof.Proof.Gen.MergeReferenceIdeal.Run
public import proofs.«01_k».proof.Proof.Gen.MergeReferenceIdeal.Read
public import proofs.«01_k».proof.Proof.Gen.ReferenceIdeal.Run
public import proofs.«01_k».proof.Proof.Gen.ReferenceIdeal.Read
public import proofs.«01_k».proof.Proof.Gen.SbReferenceIdeal.Run
public import proofs.«01_k».proof.Proof.Gen.SbReferenceIdeal.Read
public import Idealize.ShloMosaic.Adequacy
public import Idealize.ShloMosaic.Init
public import proofs.«01_k».proof.Proof.FfnValue
public import proofs.«01_k».proof.Proof.FfnDecodeValue
public import proofs.«01_k».proof.Proof.MergeValue
public import proofs.«01_k».proof.Proof.MlaValue

@[expose] public section

namespace Cert.Proof

open Idealize.ShloMosaic Idealize.ShloMosaic.TcCoe Idealize.SL.Sem

/-- The kernel of latent attention leaves its arguments as they were and no semaphore raised. -/
theorem frame_Kernel : Cert.quiescent_Kernel := fun m ρ _ => Cert.Kernel.Gen.frame m ρ

/-- The kernel of latent attention in extended reals leaves its arguments as they were and no semaphore raised. -/
theorem frame_KernelIdeal : Cert.quiescent_KernelIdeal := fun m ρ _ => Cert.KernelIdeal.Gen.frame m ρ

/-- The reference of latent attention leaves its arguments as they were and no semaphore raised. -/
theorem frame_ReferenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The kernel of stick-breaking attention leaves its arguments as they were and no semaphore raised. -/
theorem frame_SbKernel : Cert.quiescent_SbKernel := fun m ρ _ => Cert.SbKernel.Gen.frame m ρ

/-- The kernel of stick-breaking attention in extended reals leaves its arguments as they were and no semaphore raised. -/
theorem frame_SbKernelIdeal : Cert.quiescent_SbKernelIdeal := fun m ρ _ => Cert.SbKernelIdeal.Gen.frame m ρ

/-- The reference of stick-breaking attention leaves its arguments as they were and no semaphore raised. -/
theorem frame_SbReferenceIdeal : Cert.quiescent_SbReferenceIdeal := fun m ρ _ =>
  (θ_run Cert.SbReferenceIdeal.defs _ _).mono (fun r h => ⟨fun c => (h c).2,
      Idealize.ShloMosaic.sem_eq_zero_of_no_sems (by decide) r.2⟩)
    (Cert.SbReferenceIdeal.Value.run (F := Ideal) m ρ)

/-- The kernel of channel mixer leaves its arguments as they were and no semaphore raised. -/
theorem frame_FfnKernel : Cert.quiescent_FfnKernel := fun m ρ _ => Cert.FfnKernel.Gen.frame m ρ

/-- The kernel of channel mixer in extended reals leaves its arguments as they were and no semaphore raised. -/
theorem frame_FfnKernelIdeal : Cert.quiescent_FfnKernelIdeal := fun m ρ _ => Cert.FfnKernelIdeal.Gen.frame m ρ

/-- The reference of channel mixer leaves its arguments as they were and no semaphore raised. -/
theorem frame_FfnReferenceIdeal : Cert.quiescent_FfnReferenceIdeal := fun m ρ _ =>
  (θ_run Cert.FfnReferenceIdeal.defs _ _).mono (fun r h => ⟨fun c => (h c).2,
      Idealize.ShloMosaic.sem_eq_zero_of_no_sems (by decide) r.2⟩)
    (Cert.FfnReferenceIdeal.Value.run (F := Ideal) m ρ)

/-- The kernel of channel mixer at the decoding step leaves its arguments as they were and no semaphore raised. -/
theorem frame_FfnDecodeKernel : Cert.quiescent_FfnDecodeKernel := fun m ρ _ => Cert.FfnDecodeKernel.Gen.frame m ρ

/-- The kernel of channel mixer at the decoding step in extended reals leaves its arguments as they were and no semaphore raised. -/
theorem frame_FfnDecodeKernelIdeal : Cert.quiescent_FfnDecodeKernelIdeal := fun m ρ _ => Cert.FfnDecodeKernelIdeal.Gen.frame m ρ

/-- The reference of channel mixer at the decoding step leaves its arguments as they were and no semaphore raised. -/
theorem frame_FfnDecodeReferenceIdeal : Cert.quiescent_FfnDecodeReferenceIdeal := fun m ρ _ =>
  (θ_run Cert.FfnDecodeReferenceIdeal.defs _ _).mono (fun r h => ⟨fun c => (h c).2,
      Idealize.ShloMosaic.sem_eq_zero_of_no_sems (by decide) r.2⟩)
    (Cert.FfnDecodeReferenceIdeal.Value.run (F := Ideal) m ρ)

/-- The kernel of merge leaves its arguments as they were and no semaphore raised. -/
theorem frame_MergeKernel : Cert.quiescent_MergeKernel := fun m ρ _ => Cert.MergeKernel.Gen.frame m ρ

/-- The kernel of merge in extended reals leaves its arguments as they were and no semaphore raised. -/
theorem frame_MergeKernelIdeal : Cert.quiescent_MergeKernelIdeal := fun m ρ _ => Cert.MergeKernelIdeal.Gen.frame m ρ

/-- The reference of merge leaves its arguments as they were and no semaphore raised. -/
theorem frame_MergeReferenceIdeal : Cert.quiescent_MergeReferenceIdeal := fun m ρ _ =>
  (θ_run Cert.MergeReferenceIdeal.defs _ _).mono (fun r h => ⟨fun c => (h c).2,
      Idealize.ShloMosaic.sem_eq_zero_of_no_sems (by decide) r.2⟩)
    (Cert.MergeReferenceIdeal.Value.run (F := Ideal) m ρ)

/-- The mask's finite stand-in reads as negative infinity: the one literal the idealization names. -/
theorem preserves_mask : Cert.preserves_Kernel_KernelIdeal :=
  IdealRules.named_const.statement Cert.KernelIdeal.κ "mask" .f32 0xF149F2CA#32 ⊥ rfl

/-- Every claim of the certificate. -/
theorem claim : Cert.Claim :=
  ⟨Cert.Kernel.Gen.facts,
   Cert.KernelIdeal.Gen.facts,
   Cert.ReferenceIdeal.Gen.facts,
   Cert.SbKernel.Gen.facts,
   Cert.SbKernelIdeal.Gen.facts,
   Cert.SbReferenceIdeal.Gen.facts,
   Cert.FfnKernel.Gen.facts,
   Cert.FfnKernelIdeal.Gen.facts,
   Cert.FfnReferenceIdeal.Gen.facts,
   Cert.FfnDecodeKernel.Gen.facts,
   Cert.FfnDecodeKernelIdeal.Gen.facts,
   Cert.FfnDecodeReferenceIdeal.Gen.facts,
   Cert.MergeKernel.Gen.facts,
   Cert.MergeKernelIdeal.Gen.facts,
   Cert.MergeReferenceIdeal.Gen.facts,
   frame_Kernel,
   frame_KernelIdeal,
   frame_ReferenceIdeal,
   frame_SbKernel,
   frame_SbKernelIdeal,
   frame_SbReferenceIdeal,
   frame_FfnKernel,
   frame_FfnKernelIdeal,
   frame_FfnReferenceIdeal,
   frame_FfnDecodeKernel,
   frame_FfnDecodeKernelIdeal,
   frame_FfnDecodeReferenceIdeal,
   frame_MergeKernel,
   frame_MergeKernelIdeal,
   frame_MergeReferenceIdeal,
   preserves_mask,
   Cert.KernelIdeal.Hand.algebraic,
   trivial,
   trivial,
   Cert.FfnKernelIdeal.Hand.algebraic,
   trivial,
   Cert.FfnDecodeKernelIdeal.Hand.algebraic,
   trivial,
   Cert.MergeKernelIdeal.Hand.algebraic⟩

end Cert.Proof

end
